-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
-- ==== Pre_finite.lean ====
abbrev S81920x1536 : Shape := ⟨2, ![81920, 1536]⟩
abbrev S1x64 : Shape := ⟨2, ![1, 64]⟩
abbrev S1x128 : Shape := ⟨2, ![1, 128]⟩
abbrev S_ : Shape := ⟨0, ![]⟩

class Facts : Prop where
  bcast_S_S81920x1536 : S_.BroadcastsInDim S81920x1536 (![] : Fin 0 → Fin S81920x1536.rank)
  reducesTo_S81920x1536_S_d0_1 : S81920x1536.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S81920x1536 .f32) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S81920x1536 .f32 := Host.absf main_arg0
  let main_cst : FVec F S_ .f32 := constant S_ .f32 0x7F800000#32
  let main_v1 : FVec F S81920x1536 .f32 := broadcastInDim S81920x1536 ![] bcast_S_S81920x1536 main_cst
  let main_v2 : IVec S81920x1536 1 := cmpf .olt main_v0 main_v1
  let main_c : IVec S_ 1 := constantI S_ 1 1#1
  let main_v3 : IVec S_ 1 := (fun x v => Host.reduce IntOp.andi x v reducesTo_S81920x1536_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Pre_routed.lean ====
abbrev S672 : Shape := ⟨1, ![672]⟩
abbrev S1 : Shape := ⟨1, ![1]⟩
abbrev S344064x1024 : Shape := ⟨2, ![344064, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S672 : S_.BroadcastsInDim S672 (![] : Fin 0 → Fin S672.rank)
  reducesTo_S672_S_d0 : S672.ReducesTo [0] S_
  h_S_ : 0 < S_.numel
  bcast_S_S1 : S_.BroadcastsInDim S1 (![] : Fin 0 → Fin S1.rank)

variable [Facts]

def fn {F : FTy → Type} [FloatOps F] (main_arg0 : IVec S672 32) (main_arg1 : IVec S1 32) (main_arg2 : FVec F S344064x1024 .f32) (main_arg3 : FVec F S1x32x1024x2048 .f32) (main_arg4 : FVec F S1x32x2048 .f32) (main_arg5 : FVec F S1x32x1024x1024 .f32) (main_arg6 : FVec F S1x32x1024 .f32) : IVec S_ 1 × IVec S1 1 :=
  let main_c : IVec S_ 32 := constantI S_ 32 0#32
  let main_v0 : IVec S672 32 := broadcastInDim S672 ![] bcast_S_S672 main_c
  let main_v1 : IVec S672 1 := cmpi .sge main_arg0 main_v0
  let main_c_0 : IVec S_ 32 := constantI S_ 32 32#32
  let main_v2 : IVec S672 32 := broadcastInDim S672 ![] bcast_S_S672 main_c_0
  let main_v3 : IVec S672 1 := cmpi .slt main_arg0 main_v2
  let main_v4 : IVec S672 1 := andi main_v1 main_v3
  let main_c_1 : IVec S_ 1 := constantI S_ 1 1#1
  let main_v5 : IVec S_ 1 := (fun x v => Host.reduce IntOp.andi x v reducesTo_S672_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 672#32
  let main_v8 : IVec S1 32 := broadcastInDim S1 ![] bcast_S_S1 main_c_3
  let main_v9 : IVec S1 1 := cmpi .sle main_arg1 main_v8
  let main_v10 : IVec S1 1 := andi main_v7 main_v9
  (main_v5, main_v10)
-- ==== Kernel.lean ====
abbrev S81920x1536 : Shape := ⟨2, ![81920, 1536]⟩
abbrev S1x64 : Shape := ⟨2, ![1, 64]⟩
abbrev S1x128 : Shape := ⟨2, ![1, 128]⟩
abbrev S81920x512 : Shape := ⟨2, ![81920, 512]⟩
abbrev S_ : Shape := ⟨0, ![]⟩
abbrev S81920x1024 : Shape := ⟨2, ![81920, 1024]⟩
abbrev S64 : Shape := ⟨1, ![64]⟩
abbrev S128 : Shape := ⟨1, ![128]⟩
abbrev S65536x512 : Shape := ⟨2, ![65536, 512]⟩
abbrev S512x128 : Shape := ⟨2, ![512, 128]⟩
abbrev S2048x128 : Shape := ⟨2, ![2048, 128]⟩
abbrev S2x2x2048x128 : Shape := ⟨4, ![2, 2, 2048, 128]⟩
abbrev S512x512 : Shape := ⟨2, ![512, 512]⟩
abbrev S2x512x128 : Shape := ⟨3, ![2, 512, 128]⟩
abbrev S1x1x512x128 : Shape := ⟨4, ![1, 1, 512, 128]⟩
abbrev S1x512x128 : Shape := ⟨3, ![1, 512, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 24
  | .vmem => 22
  | .smem => 0
  | _ => 0

abbrev bufTy : (tb : Table) → Fin (tcTables nBuf tb) → BufTy
  | .hbm, ⟨0, _⟩ => ⟨S81920x1536, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S81920x512, .f32⟩
  | .hbm, ⟨7, _⟩ => ⟨S_, .f32⟩
  | .hbm, ⟨8, _⟩ => ⟨S81920x512, .f32⟩
  | .hbm, ⟨9, _⟩ => ⟨S81920x512, .f32⟩
  | .hbm, ⟨10, _⟩ => ⟨S81920x1024, .f32⟩
  | .hbm, ⟨11, _⟩ => ⟨S81920x1536, .f32⟩
  | .hbm, ⟨12, _⟩ => ⟨S81920x1536, .bf16⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S128, .f32⟩
  | .hbm, ⟨22, _⟩ => ⟨S1x128, .f32⟩
  | .hbm, ⟨23, _⟩ => ⟨S65536x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S512x128, .bf16⟩
  | .local _ .vmem, ⟨12, _⟩ => ⟨S512x128, .bf16⟩
  | .local _ .vmem, ⟨13, _⟩ => ⟨S2x2x2048x128, .bf16⟩
  | .local _ .vmem, ⟨14, _⟩ => ⟨S512x512, .f32⟩
  | .local _ .vmem, ⟨15, _⟩ => ⟨S2x512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S81920x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![32, 4, 4], ![false, false, false]⟩

def k0_cond1 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_218 : BitVec 32 := 0#32
  let c4_i32 : BitVec 32 := 4#32
  let v530 : BitVec 32 := Scalar.addi c0_i32_218 c4_i32
  let c1_i32_219 : BitVec 32 := 1#32
  ⟨c0_i32_218, v530, c1_i32_219⟩
def k0_mult1 (k0_t1 : Fin k0_t1_loop.trips) : BitVec 32 :=
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  v531
def k0_off1 (k0_t1 : Fin k0_t1_loop.trips) : Fin 2 → Nat :=
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  let v532 : BitVec 32 := v531
  let v533 : Index := Scalar.indexCast v532
  let c0_222 : Index := 0#32
  ![v533.toNat, 0]
def k0_off2 (k0_t1 : Fin k0_t1_loop.trips) : Fin 4 → Nat :=
  let c0_234 : Index := 0#32
  let c0_235 : Index := 0#32
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  let v532 : BitVec 32 := v531
  let v570 : Index := Scalar.indexCast v532
  let c0_236 : Index := 0#32
  ![0, 0, v570.toNat, 0]
def k0_off3 (k0_t1 : Fin k0_t1_loop.trips) : Fin 4 → Nat :=
  let c0_238 : Index := 0#32
  let c1_239 : Index := 1#32
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  let v532 : BitVec 32 := v531
  let v578 : Index := Scalar.indexCast v532
  let c0_240 : Index := 0#32
  ![0, 1, v578.toNat, 0]
def k0_off4 (k0_t1 : Fin k0_t1_loop.trips) : Fin 4 → Nat :=
  let c1_250 : Index := 1#32
  let c0_251 : Index := 0#32
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  let v532 : BitVec 32 := v531
  let v608 : Index := Scalar.indexCast v532
  let c0_252 : Index := 0#32
  ![1, 0, v608.toNat, 0]
def k0_off5 (k0_t1 : Fin k0_t1_loop.trips) : Fin 4 → Nat :=
  let c1_254 : Index := 1#32
  let c1_255 : Index := 1#32
  let c0_i32_218 : BitVec 32 := 0#32
  let c1_i32_219 : BitVec 32 := 1#32
  let arg21 : BitVec 32 := Scf.iv c0_i32_218 c1_i32_219 k0_t1
  let c512_i32_221 : BitVec 32 := 512#32
  let v531 : BitVec 32 := Scalar.muli arg21 c512_i32_221
  let v532 : BitVec 32 := v531
  let v616 : Index := Scalar.indexCast v532
  let c0_256 : Index := 0#32
  ![1, 1, v616.toNat, 0]
def k0_mult2 (i : grid0.Coords) : BitVec 32 :=
  let arg2 : BitVec 32 := BitVec.ofNat 32 (i 2).val
  let c512_i32_26 : BitVec 32 := 512#32
  let v76 : BitVec 32 := Scalar.muli arg2 c512_i32_26
  v76
def k0_off6 (i : grid0.Coords) : Fin 2 → Nat :=
  let arg2 : BitVec 32 := BitVec.ofNat 32 (i 2).val
  let c512_i32_26 : BitVec 32 := 512#32
  let v76 : BitVec 32 := Scalar.muli arg2 c512_i32_26
  let v77 : BitVec 32 := v76
  let v78 : Index := Scalar.indexCast v77
  let c0_27 : Index := 0#32
  ![v78.toNat, 0]
def k0_off7 (i : grid0.Coords) : Fin 4 → Nat :=
  let c0_28 : Index := 0#32
  let c0_29 : Index := 0#32
  let arg2 : BitVec 32 := BitVec.ofNat 32 (i 2).val
  let c512_i32_26 : BitVec 32 := 512#32
  let v76 : BitVec 32 := Scalar.muli arg2 c512_i32_26
  let v77 : BitVec 32 := v76
  let v81 : Index := Scalar.indexCast v77
  let c0_30 : Index := 0#32
  ![0, 0, v81.toNat, 0]
def k0_off8 (i : grid0.Coords) : Fin 4 → Nat :=
  let c1_42 : Index := 1#32
  let c0_43 : Index := 0#32
  let arg2 : BitVec 32 := BitVec.ofNat 32 (i 2).val
  let c512_i32_26 : BitVec 32 := 512#32
  let v76 : BitVec 32 := Scalar.muli arg2 c512_i32_26
  let v77 : BitVec 32 := v76
  let v118 : Index := Scalar.indexCast v77
  let c0_44 : Index := 0#32
  ![1, 0, v118.toNat, 0]
def k0_mult3 (i : grid0.Coords) : BitVec 32 :=
  let c0_i32_56 : BitVec 32 := 0#32
  let arg2 : BitVec 32 := BitVec.ofNat 32 (i 2).val
  let v155 : BitVec 1 := Scalar.cmpi .sge c0_i32_56 arg2
  let v156 : BitVec 32 := Scalar.extui v155
  let v157 : BitVec 32 := Scalar.addi c0_i32_56 v156
  let c512_i32_57 : BitVec 32 := 512#32
  let v160 : BitVec 32 := Scalar.muli v157 c512_i32_57
  v160
def k0_off9 (i : grid0.Coords) (c0_i32_56 : BitVec 32) : Fin 2 → Nat :=
  let arg2 : BitVec 32 := BitVec.ofNat 32 (i 2).val
  let v155 : BitVec 1 := Scalar.cmpi .sge c0_i32_56 arg2
  let v156 : BitVec 32 := Scalar.extui v155
  let v157 : BitVec 32 := Scalar.addi c0_i32_56 v156
  let c512_i32_57 : BitVec 32 := 512#32
  let v160 : BitVec 32 := Scalar.muli v157 c512_i32_57
  let v161 : BitVec 32 := v160
  let v162 : Index := Scalar.indexCast v161
  let c0_58 : Index := 0#32
  ![v162.toNat, 0]
def k0_off10 (i : grid0.Coords) (c0_i32_56 : BitVec 32) : Fin 4 → Nat :=
  let c0_62 : Index := 0#32
  let arg2 : BitVec 32 := BitVec.ofNat 32 (i 2).val
  let v155 : BitVec 1 := Scalar.cmpi .sge c0_i32_56 arg2
  let v156 : BitVec 32 := Scalar.extui v155
  let v157 : BitVec 32 := Scalar.addi c0_i32_56 v156
  let v158 : BitVec 1 := Scalar.cmpi .sgt v157 arg2
  let v159 : BitVec 32 := Scalar.extui v158
  let v167 : Index := Scalar.indexCast v159
  let c512_i32_57 : BitVec 32 := 512#32
  let v160 : BitVec 32 := Scalar.muli v157 c512_i32_57
  let v161 : BitVec 32 := v160
  let v168 : Index := Scalar.indexCast v161
  let c0_63 : Index := 0#32
  ![0, v167.toNat, v168.toNat, 0]
def k0_off11 (i : grid0.Coords) (c0_i32_56 : BitVec 32) : Fin 4 → Nat :=
  let c1_82 : Index := 1#32
  let arg2 : BitVec 32 := BitVec.ofNat 32 (i 2).val
  let v155 : BitVec 1 := Scalar.cmpi .sge c0_i32_56 arg2
  let v156 : BitVec 32 := Scalar.extui v155
  let v157 : BitVec 32 := Scalar.addi c0_i32_56 v156
  let v158 : BitVec 1 := Scalar.cmpi .sgt v157 arg2
  let v159 : BitVec 32 := Scalar.extui v158
  let v214 : Index := Scalar.indexCast v159
  let c512_i32_57 : BitVec 32 := 512#32
  let v160 : BitVec 32 := Scalar.muli v157 c512_i32_57
  let v161 : BitVec 32 := v160
  let v215 : Index := Scalar.indexCast v161
  let c0_83 : Index := 0#32
  ![1, v214.toNat, v215.toNat, 0]
def k0_mult4 (i : grid0.Coords) : BitVec 32 :=
  let c1_i32_99 : BitVec 32 := 1#32
  let arg2 : BitVec 32 := BitVec.ofNat 32 (i 2).val
  let v259 : BitVec 1 := Scalar.cmpi .sge c1_i32_99 arg2
  let v260 : BitVec 32 := Scalar.extui v259
  let v261 : BitVec 32 := Scalar.addi c1_i32_99 v260
  let c512_i32_100 : BitVec 32 := 512#32
  let v264 : BitVec 32 := Scalar.muli v261 c512_i32_100
  v264
def k0_mult5 (i : grid0.Coords) : BitVec 32 :=
  let c2_i32_142 : BitVec 32 := 2#32
  let arg2 : BitVec 32 := BitVec.ofNat 32 (i 2).val
  let v363 : BitVec 1 := Scalar.cmpi .sge c2_i32_142 arg2
  let v364 : BitVec 32 := Scalar.extui v363
  let v365 : BitVec 32 := Scalar.addi c2_i32_142 v364
  let c512_i32_143 : BitVec 32 := 512#32
  let v368 : BitVec 32 := Scalar.muli v365 c512_i32_143
  v368
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c4_i32 : BitVec 32 := 4#32
  let v1 : BitVec 32 := Scalar.addi c4_i32 arg1
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c8_i32_0 : BitVec 32 := 8#32
  let v1 : BitVec 32 := Scalar.addi c8_i32_0 arg1
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S81920x1536 : Shape := ⟨2, ![81920, 1536]⟩
abbrev S1x64 : Shape := ⟨2, ![1, 64]⟩
abbrev S1x128 : Shape := ⟨2, ![1, 128]⟩
abbrev S65536x1536 : Shape := ⟨2, ![65536, 1536]⟩
abbrev S32x2048x1536 : Shape := ⟨3, ![32, 2048, 1536]⟩
abbrev S32x2048x512 : Shape := ⟨3, ![32, 2048, 512]⟩
abbrev S32x2048x4x2x64 : Shape := ⟨5, ![32, 2048, 4, 2, 64]⟩
abbrev S32x2048x4x128 : Shape := ⟨4, ![32, 2048, 4, 128]⟩
abbrev S64 : Shape := ⟨1, ![64]⟩
abbrev S_ : Shape := ⟨0, ![]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S32x2048x4x1x64 : Shape := ⟨5, ![32, 2048, 4, 1, 64]⟩
abbrev S32x2048x4x64 : Shape := ⟨4, ![32, 2048, 4, 64]⟩
abbrev S32x4x2048x2048 : Shape := ⟨4, ![32, 4, 2048, 2048]⟩
abbrev S1x4x2048x2048 : Shape := ⟨4, ![1, 4, 2048, 2048]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S128 : Shape := ⟨1, ![128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S65536x512 : Shape := ⟨2, ![65536, 512]⟩

abbrev nBuf : Space → Nat
  | .hbm => 133
  | .vmem => 0
  | .smem => 0
  | _ => 0

abbrev hbmTy0_0 (i : Nat) : BufTy := match i % 128 with
  | 0 => ⟨S81920x1536, .f32⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S65536x1536, .f32⟩
  | 7 => ⟨S32x2048x1536, .f32⟩
  | 8 => ⟨S32x2048x512, .f32⟩
  | 9 => ⟨S32x2048x4x2x64, .f32⟩
  | 10 => ⟨S32x2048x512, .f32⟩
  | 11 => ⟨S32x2048x4x2x64, .f32⟩
  | 12 => ⟨S32x2048x512, .f32⟩
  | 13 => ⟨S32x2048x4x128, .f32⟩
  | 14 => ⟨S64, .f32⟩
  | 15 => ⟨S64, .f32⟩
  | 16 => ⟨S64, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .f32⟩
  | 40 => ⟨S_, .f32⟩
  | 41 => ⟨S4, .f32⟩
  | 42 => ⟨S4, .f32⟩
  | 43 => ⟨S2048, .i32⟩
  | 44 => ⟨S2048x1, .i32⟩
  | 45 => ⟨S1x2048, .i32⟩
  | 46 => ⟨S2048x2048, .i32⟩
  | 47 => ⟨S2048x2048, .i32⟩
  | 48 => ⟨S2048x2048, .i32⟩
  | 49 => ⟨S2048x2048, .i32⟩
  | 50 => ⟨S2048x2048, .f32⟩
  | 51 => ⟨S4x1x1, .f32⟩
  | 52 => ⟨S1x2048x2048, .f32⟩
  | 53 => ⟨S4x2048x2048, .f32⟩
  | 54 => ⟨S4x2048x2048, .f32⟩
  | 55 => ⟨S4x2048x2048, .f32⟩
  | 56 => ⟨S32x2048x4x1x64, .f32⟩
  | 57 => ⟨S32x2048x4x64, .f32⟩
  | 58 => ⟨S32x2048x4x1x64, .f32⟩
  | 59 => ⟨S32x2048x4x64, .f32⟩
  | 60 => ⟨S32x4x2048x2048, .f32⟩
  | 61 => ⟨S_, .f32⟩
  | 62 => ⟨S32x4x2048x2048, .f32⟩
  | 63 => ⟨S32x4x2048x2048, .f32⟩
  | 64 => ⟨S1x4x2048x2048, .f32⟩
  | 65 => ⟨S32x4x2048x2048, .f32⟩
  | 66 => ⟨S32x4x2048x2048, .f32⟩
  | 67 => ⟨S_, .f32⟩
  | 68 => ⟨S32x4x2048, .f32⟩
  | 69 => ⟨S_, .f32⟩
  | 70 => ⟨S32x4x2048, .f32⟩
  | 71 => ⟨S32x4x2048, .f32⟩
  | 72 => ⟨S32x4x2048x1, .f32⟩
  | 73 => ⟨S32x4x2048x2048, .f32⟩
  | 74 => ⟨S32x4x2048x2048, .f32⟩
  | 75 => ⟨S32x4x2048x2048, .f32⟩
  | 76 => ⟨S_, .f32⟩
  | 77 => ⟨S32x4x2048, .f32⟩
  | 78 => ⟨S32x4x2048x1, .f32⟩
  | 79 => ⟨S32x4x2048x2048, .f32⟩
  | 80 => ⟨S32x4x2048x2048, .f32⟩
  | 81 => ⟨S32x2048x4x1x64, .f32⟩
  | 82 => ⟨S32x2048x4x64, .f32⟩
  | 83 => ⟨S32x2048x4x1x64, .f32⟩
  | 84 => ⟨S32x2048x4x64, .f32⟩
  | 85 => ⟨S32x4x2048x2048, .f32⟩
  | 86 => ⟨S_, .f32⟩
  | 87 => ⟨S32x4x2048x2048, .f32⟩
  | 88 => ⟨S32x4x2048x2048, .f32⟩
  | 89 => ⟨S1x4x2048x2048, .f32⟩
  | 90 => ⟨S32x4x2048x2048, .f32⟩
  | 91 => ⟨S32x4x2048x2048, .f32⟩
  | 92 => ⟨S_, .f32⟩
  | 93 => ⟨S32x4x2048, .f32⟩
  | 94 => ⟨S_, .f32⟩
  | 95 => ⟨S32x4x2048, .f32⟩
  | 96 => ⟨S32x4x2048, .f32⟩
  | 97 => ⟨S32x4x2048x1, .f32⟩
  | 98 => ⟨S32x4x2048x2048, .f32⟩
  | 99 => ⟨S32x4x2048x2048, .f32⟩
  | 100 => ⟨S32x4x2048x2048, .f32⟩
  | 101 => ⟨S_, .f32⟩
  | 102 => ⟨S32x4x2048, .f32⟩
  | 103 => ⟨S32x4x2048x1, .f32⟩
  | 104 => ⟨S32x4x2048x2048, .f32⟩
  | 105 => ⟨S32x4x2048x2048, .f32⟩
  | 106 => ⟨S32x4x2048x2048, .f32⟩
  | 107 => ⟨S32x4x2048x2048, .f32⟩
  | 108 => ⟨S32x4x2048x2048, .f32⟩
  | 109 => ⟨S32x4x128x2048, .f32⟩
  | 110 => ⟨S32x2048x4x128, .f32⟩
  | 111 => ⟨S128, .f32⟩
  | 112 => ⟨S32x2048x4x128, .f32⟩
  | 113 => ⟨S_, .f32⟩
  | 114 => ⟨S32x2048x4, .f32⟩
  | 115 => ⟨S32x2048x4x1, .f32⟩
  | 116 => ⟨S_, .f32⟩
  | 117 => ⟨S32x2048x4x1, .f32⟩
  | 118 => ⟨S32x2048x4x1, .f32⟩
  | 119 => ⟨S_, .f32⟩
  | 120 => ⟨S32x2048x4x1, .f32⟩
  | 121 => ⟨S32x2048x4x1, .f32⟩
  | 122 => ⟨S32x2048x4x1, .f32⟩
  | 123 => ⟨S32x2048x4x128, .f32⟩
  | 124 => ⟨S32x2048x4x128, .f32⟩
  | 125 => ⟨S1x1x1x128, .f32⟩
  | 126 => ⟨S32x2048x4x128, .f32⟩
  | 127 => ⟨S32x2048x4x128, .f32⟩
  | _ => ⟨S81920x1536, .f32⟩

abbrev hbmTy0_1 (i : Nat) : BufTy := match i % 128 with
  | 0 => ⟨S_, .f32⟩
  | 1 => ⟨S32x2048x4x128, .f32⟩
  | 2 => ⟨S32x2048x4x128, .f32⟩
  | 3 => ⟨S65536x512, .f32⟩
  | 4 => ⟨S65536x512, .bf16⟩
  | _ => ⟨S81920x1536, .f32⟩

abbrev hbmTy (i : Nat) : BufTy := match i / 128 with
  | 0 => hbmTy0_0 i
  | 1 => hbmTy0_1 i
  | _ => ⟨S81920x1536, .f32⟩

abbrev bufTy : (tb : Table) → Fin (tcTables nBuf tb) → BufTy
  | .hbm, ⟨i, _⟩ => hbmTy i
  | _, _ => ⟨S81920x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_16 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩

abbrev nD : Nat := 1
abbrev τ : Topo := Topo.v7x

variable {F : FTy → Type} [FloatOps F]
-- ==== Kernel2.lean ====
abbrev S672 : Shape := ⟨1, ![672]⟩
abbrev S1 : Shape := ⟨1, ![1]⟩
abbrev S344064x1024 : Shape := ⟨2, ![344064, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S1x1024 : Shape := ⟨2, ![1, 1024]⟩

abbrev nBuf : Space → Nat
  | .hbm => 12
  | .vmem => 15
  | .smem => 2
  | _ => 0

abbrev bufTy : (tb : Table) → Fin (tcTables nBuf tb) → BufTy
  | .hbm, ⟨0, _⟩ => ⟨S344064x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1x2048, .f32⟩
  | .hbm, ⟨8, _⟩ => ⟨S32x1024x1024, .f32⟩
  | .hbm, ⟨9, _⟩ => ⟨S32x1024, .f32⟩
  | .hbm, ⟨10, _⟩ => ⟨S32x1x1024, .f32⟩
  | .hbm, ⟨11, _⟩ => ⟨S344064x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S1024x2048, .bf16⟩
  | .local _ .vmem, ⟨14, _⟩ => ⟨S1024x1024, .bf16⟩
  | .local _ .smem, ⟨0, _⟩ => ⟨S672, .i32⟩
  | .local _ .smem, ⟨1, _⟩ => ⟨S1, .i32⟩
  | _, _ => ⟨S344064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![672], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S672 : Shape := ⟨1, ![672]⟩
abbrev S1 : Shape := ⟨1, ![1]⟩
abbrev S344064x1024 : Shape := ⟨2, ![344064, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S672x512x1024 : Shape := ⟨3, ![672, 512, 1024]⟩
abbrev S32x1024x2048 : Shape := ⟨3, ![32, 1024, 2048]⟩
abbrev S_ : Shape := ⟨0, ![]⟩
abbrev S672x1 : Shape := ⟨2, ![672, 1]⟩
abbrev S672x1024x2048 : Shape := ⟨3, ![672, 1024, 2048]⟩
abbrev S672x512x2048 : Shape := ⟨3, ![672, 512, 2048]⟩
abbrev S32x2048 : Shape := ⟨2, ![32, 2048]⟩
abbrev S672x2048 : Shape := ⟨2, ![672, 2048]⟩
abbrev S672x1x2048 : Shape := ⟨3, ![672, 1, 2048]⟩
abbrev S32x1024x1024 : Shape := ⟨3, ![32, 1024, 1024]⟩
abbrev S672x1024x1024 : Shape := ⟨3, ![672, 1024, 1024]⟩
abbrev S32x1024 : Shape := ⟨2, ![32, 1024]⟩
abbrev S672x1024 : Shape := ⟨2, ![672, 1024]⟩
abbrev S672x1x1024 : Shape := ⟨3, ![672, 1, 1024]⟩
abbrev S672x1x1 : Shape := ⟨3, ![672, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S672, .i32⟩
  | .hbm, ⟨1, _⟩ => ⟨S1, .i32⟩
  | .hbm, ⟨2, _⟩ => ⟨S344064x1024, .f32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S672x512x1024, .f32⟩
  | .hbm, ⟨8, _⟩ => ⟨S32x1024x2048, .f32⟩
  | .hbm, ⟨9, _⟩ => ⟨S_, .i32⟩
  | .hbm, ⟨10, _⟩ => ⟨S672, .i32⟩
  | .hbm, ⟨11, _⟩ => ⟨S672, .i1⟩
  | .hbm, ⟨12, _⟩ => ⟨S_, .i32⟩
  | .hbm, ⟨13, _⟩ => ⟨S672, .i32⟩
  | .hbm, ⟨14, _⟩ => ⟨S672, .i32⟩
  | .hbm, ⟨15, _⟩ => ⟨S672, .i32⟩
  | .hbm, ⟨16, _⟩ => ⟨S672x1, .i32⟩
  | .hbm, ⟨17, _⟩ => ⟨S672x1024x2048, .f32⟩
  | .hbm, ⟨18, _⟩ => ⟨S672x512x2048, .f32⟩
  | .hbm, ⟨19, _⟩ => ⟨S32x2048, .f32⟩
  | .hbm, ⟨20, _⟩ => ⟨S_, .i32⟩
  | .hbm, ⟨21, _⟩ => ⟨S672, .i32⟩
  | .hbm, ⟨22, _⟩ => ⟨S672, .i1⟩
  | .hbm, ⟨23, _⟩ => ⟨S_, .i32⟩
  | .hbm, ⟨24, _⟩ => ⟨S672, .i32⟩
  | .hbm, ⟨25, _⟩ => ⟨S672, .i32⟩
  | .hbm, ⟨26, _⟩ => ⟨S672, .i32⟩
  | .hbm, ⟨27, _⟩ => ⟨S672x1, .i32⟩
  | .hbm, ⟨28, _⟩ => ⟨S672x2048, .f32⟩
  | .hbm, ⟨29, _⟩ => ⟨S672x1x2048, .f32⟩
  | .hbm, ⟨30, _⟩ => ⟨S672x512x2048, .f32⟩
  | .hbm, ⟨31, _⟩ => ⟨S672x512x2048, .f32⟩
  | .hbm, ⟨32, _⟩ => ⟨S672x512x1024, .f32⟩
  | .hbm, ⟨33, _⟩ => ⟨S_, .f32⟩
  | .hbm, ⟨34, _⟩ => ⟨S672x512x1024, .f32⟩
  | .hbm, ⟨35, _⟩ => ⟨S672x512x1024, .f32⟩
  | .hbm, ⟨36, _⟩ => ⟨S672x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S672x512x1024, .f32⟩
  | .hbm, ⟨41, _⟩ => ⟨S672x512x1024, .f32⟩
  | .hbm, ⟨42, _⟩ => ⟨S_, .f32⟩
  | .hbm, ⟨43, _⟩ => ⟨S672x512x1024, .f32⟩
  | .hbm, ⟨44, _⟩ => ⟨S672x512x1024, .f32⟩
  | .hbm, ⟨45, _⟩ => ⟨S_, .f32⟩
  | .hbm, ⟨46, _⟩ => ⟨S672x512x1024, .f32⟩
  | .hbm, ⟨47, _⟩ => ⟨S672x512x1024, .f32⟩
  | .hbm, ⟨48, _⟩ => ⟨S672x512x1024, .f32⟩
  | .hbm, ⟨49, _⟩ => ⟨S672x512x1024, .f32⟩
  | .hbm, ⟨50, _⟩ => ⟨S_, .f32⟩
  | .hbm, ⟨51, _⟩ => ⟨S672x512x1024, .f32⟩
  | .hbm, ⟨52, _⟩ => ⟨S672x512x1024, .f32⟩
  | .hbm, ⟨53, _⟩ => ⟨S_, .f32⟩
  | .hbm, ⟨54, _⟩ => ⟨S672x512x1024, .f32⟩
  | .hbm, ⟨55, _⟩ => ⟨S672x512x1024, .f32⟩
  | .hbm, ⟨56, _⟩ => ⟨S672x512x1024, .f32⟩
  | .hbm, ⟨57, _⟩ => ⟨S_, .f32⟩
  | .hbm, ⟨58, _⟩ => ⟨S672x512x1024, .f32⟩
  | .hbm, ⟨59, _⟩ => ⟨S672x512x1024, .f32⟩
  | .hbm, ⟨60, _⟩ => ⟨S672x512x1024, .f32⟩
  | .hbm, ⟨61, _⟩ => ⟨S32x1024x1024, .f32⟩
  | .hbm, ⟨62, _⟩ => ⟨S_, .i32⟩
  | .hbm, ⟨63, _⟩ => ⟨S672, .i32⟩
  | .hbm, ⟨64, _⟩ => ⟨S672, .i1⟩
  | .hbm, ⟨65, _⟩ => ⟨S_, .i32⟩
  | .hbm, ⟨66, _⟩ => ⟨S672, .i32⟩
  | .hbm, ⟨67, _⟩ => ⟨S672, .i32⟩
  | .hbm, ⟨68, _⟩ => ⟨S672, .i32⟩
  | .hbm, ⟨69, _⟩ => ⟨S672x1, .i32⟩
  | .hbm, ⟨70, _⟩ => ⟨S672x1024x1024, .f32⟩
  | .hbm, ⟨71, _⟩ => ⟨S672x512x1024, .f32⟩
  | .hbm, ⟨72, _⟩ => ⟨S32x1024, .f32⟩
  | .hbm, ⟨73, _⟩ => ⟨S_, .i32⟩
  | .hbm, ⟨74, _⟩ => ⟨S672, .i32⟩
  | .hbm, ⟨75, _⟩ => ⟨S672, .i1⟩
  | .hbm, ⟨76, _⟩ => ⟨S_, .i32⟩
  | .hbm, ⟨77, _⟩ => ⟨S672, .i32⟩
  | .hbm, ⟨78, _⟩ => ⟨S672, .i32⟩
  | .hbm, ⟨79, _⟩ => ⟨S672, .i32⟩
  | .hbm, ⟨80, _⟩ => ⟨S672x1, .i32⟩
  | .hbm, ⟨81, _⟩ => ⟨S672x1024, .f32⟩
  | .hbm, ⟨82, _⟩ => ⟨S672x1x1024, .f32⟩
  | .hbm, ⟨83, _⟩ => ⟨S672x512x1024, .f32⟩
  | .hbm, ⟨84, _⟩ => ⟨S672x512x1024, .f32⟩
  | .hbm, ⟨85, _⟩ => ⟨S672, .i32⟩
  | .hbm, ⟨86, _⟩ => ⟨S_, .i32⟩
  | .hbm, ⟨87, _⟩ => ⟨S672, .i32⟩
  | .hbm, ⟨88, _⟩ => ⟨S672, .i1⟩
  | .hbm, ⟨89, _⟩ => ⟨S672x1x1, .i1⟩
  | .hbm, ⟨90, _⟩ => ⟨S_, .f32⟩
  | .hbm, ⟨91, _⟩ => ⟨S_, .f32⟩
  | .hbm, ⟨92, _⟩ => ⟨S672x512x1024, .i1⟩
  | .hbm, ⟨93, _⟩ => ⟨S672x512x1024, .f32⟩
  | .hbm, ⟨94, _⟩ => ⟨S672x512x1024, .f32⟩
  | .hbm, ⟨95, _⟩ => ⟨S344064x1024, .f32⟩
  | _, _ => ⟨S672, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Proof.Base.lean ====
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x2x2048x128 .bf16 := Memref.whole cc0_scratch0
abbrev scM0_1 : Memref sig .tc .vmem S512x512 .f32 := Memref.whole cc0_scratch1
abbrev scM0_2 : Memref sig .tc .vmem S2x512x128 .bf16 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7
abbrev scM0_8 : Memref sig .tc .vmem S512x128 .f32 := Memref.whole cc0_scratch8
/-- The scratch `arg12` the kernel carries between points, as a view: what it holds is stated through it. -/
abbrev VS0_0 : View sig .tc .vmem S2x2x2048x128 .bf16 := scM0_0.view
/-- The scratch `arg13` the kernel carries between points, as a view: what it holds is stated through it. -/
abbrev VS0_1 : View sig .tc .vmem S512x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Att

end
-- ==== Proof.Out.lean ====
module

public import proofs.«01_k».proof.Proof.Base
public import Idealize.ShloMosaic.Lib.ValueIdxCoords

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body builds and what it leaves, as functions of what it reads -/

/-- Lane number of each entry of a 512 by 128 tile. -/
abbrev laneI : IVec S512x128 32 := iota .tc S512x128 32 [1] iota_S512x128_d1_w32
/-- Row number of each entry of a 512 by 128 tile. -/
abbrev rowI : IVec S512x128 32 := iota .tc S512x128 32 [0] iota_S512x128_d0_w32

/-- Rows `512 k` to `512 k + 511` of the keys of a head. -/
def keyBlk (x6 : Vec F S2048x128 .bf16) (k : Fin k0_t1_loop.trips) : Vec F S512x128 .bf16 :=
  fun y => x6 (ix2 (⟨512 * k.val + (y 0).val, by
    have h1 : k.val < 4 := Nat.lt_of_lt_of_le k.isLt k0_t1_abs.2.1
    have h2 : (y 0).val < 512 := (y 0).isLt
    show _ < 2048; omega⟩ : Fin 2048) (y 1))

/-- The trip that writes row `r` of the augmented keys. -/
def tripOf (r : Fin 2048) : Fin k0_t1_loop.trips := ⟨r.val / 512, by
  have h : k0_t1_loop.trips = 4 := by decide +kernel
  have := r.isLt; omega⟩

/-- The augmented keys of a head, from its slope and its keys: for each of the two score maps and each
    side of the diagonal, the map's own lanes of the keys beside the position features. -/
def kaug (sl : F .f32) (x6 : Vec F S2048x128 .bf16) : Vec F S2x2x2048x128 .bf16 := fun j =>
  let k := tripOf (j 2)
  let kb : Vec F S512x128 .bf16 := keyBlk x6 k
  let y : S1x1x512x128.Idx := ix4 (0 : Fin 1) (0 : Fin 1) (⟨(j 2).val % 512, Nat.mod_lt _ (by decide)⟩ : Fin 512) (j 3)
  if (j 0).val = 0 then
    if (j 1).val = 0 then k0_pay8 sl laneI rowI 0#32 1#32 k kb y
    else k0_pay9 (k0_pay2 kb) (k0_pay6 laneI) (k0_pay7 sl laneI rowI 0#32 1#32 k) y
  else
    if (j 1).val = 0 then k0_pay12 sl laneI (k0_pay2 kb) (k0_pay4 rowI 0#32 1#32 k) (k0_pay5 rowI 0#32 1#32 k) y
    else k0_pay16 (k0_pay2 kb) (k0_pay10 laneI) (k0_pay13 sl laneI (k0_pay4 rowI 0#32 1#32 k) (k0_pay5 rowI 0#32 1#32 k)) y

section Out
variable (i : grid0.Coords) (x0 x1 x2 x3 : Vec F S1x64 .f32) (x4 : Vec F S1x128 .f32)
  (x5 : Vec F S512x128 .bf16) (x7 : Vec F S2048x128 .bf16) (KA : Vec F S2x2x2048x128 .bf16) (DB : Vec F S512x512 .f32)

/-- The query tile with only the first map's lanes kept. -/
def qm0 : FVec F S512x128 .bf16 := k0_pay27 (k0_pay17 x5) k0_pay19
/-- The query tile with only the second map's lanes kept. -/
def qm1 : FVec F S512x128 .bf16 := k0_pay30 (k0_pay17 x5) (k0_pay28 laneI) (Scalar.ofBits .bf16 0x0000#16)
/-- The query tile of the first map beside its position features. -/
def qa0 : FVec F S1x512x128 .bf16 := k0_pay26 (k0_pay17 x5) k0_pay19 (k0_pay20 i) (k0_pay21 i) k0_pay22 k0_pay23 k0_pay24 k0_pay25
/-- The query tile of the second map beside its position features. -/
def qa1 : FVec F S1x512x128 .bf16 := k0_pay29 laneI (k0_pay17 x5) (k0_pay18 i)

/-- The values block on the diagonal. -/
def vD : Vec F S512x128 .bf16 := (View.ld x7 (Rect.unit (s := S2048x128) (k0_off6 i) S512x128.size (k0_off6_inb i)))
/-- The keys block on the diagonal, first map. -/
def kD0 : Vec F S1x1x512x128 .bf16 := (View.ld KA (Rect.unit (s := S2x2x2048x128) (k0_off7 i) S1x1x512x128.size (k0_off7_inb i)))
/-- The keys block on the diagonal, second map. -/
def kD1 : Vec F S1x1x512x128 .bf16 := (View.ld KA (Rect.unit (s := S2x2x2048x128) (k0_off8 i) S1x1x512x128.size (k0_off8_inb i)))
/-- The values block of step 0 after the diagonal. -/
def vS0 : Vec F S512x128 .bf16 := (View.ld x7 (Rect.unit (s := S2048x128) (k0_off9 i 0#32) S512x128.size (k0_off9_inb i 0)))
/-- The augmented keys block of step 0, first map. -/
def kS00 : Vec F S1x1x512x128 .bf16 := (View.ld KA (Rect.unit (s := S2x2x2048x128) (k0_off10 i 0#32) S1x1x512x128.size (k0_off10_inb i 0)))
/-- The augmented keys block of step 0, second map. -/
def kS01 : Vec F S1x1x512x128 .bf16 := (View.ld KA (Rect.unit (s := S2x2x2048x128) (k0_off11 i 0#32) S1x1x512x128.size (k0_off11_inb i 0)))
/-- The values block of step 1 after the diagonal. -/
def vS1 : Vec F S512x128 .bf16 := (View.ld x7 (Rect.unit (s := S2048x128) (k0_off9 i 1#32) S512x128.size (k0_off9_inb i 1)))
/-- The augmented keys block of step 1, first map. -/
def kS10 : Vec F S1x1x512x128 .bf16 := (View.ld KA (Rect.unit (s := S2x2x2048x128) (k0_off10 i 1#32) S1x1x512x128.size (k0_off10_inb i 1)))
/-- The augmented keys block of step 1, second map. -/
def kS11 : Vec F S1x1x512x128 .bf16 := (View.ld KA (Rect.unit (s := S2x2x2048x128) (k0_off11 i 1#32) S1x1x512x128.size (k0_off11_inb i 1)))
/-- The values block of step 2 after the diagonal. -/
def vS2 : Vec F S512x128 .bf16 := (View.ld x7 (Rect.unit (s := S2048x128) (k0_off9 i 2#32) S512x128.size (k0_off9_inb i 2)))
/-- The augmented keys block of step 2, first map. -/
def kS20 : Vec F S1x1x512x128 .bf16 := (View.ld KA (Rect.unit (s := S2x2x2048x128) (k0_off10 i 2#32) S1x1x512x128.size (k0_off10_inb i 2)))
/-- The augmented keys block of step 2, second map. -/
def kS21 : Vec F S1x1x512x128 .bf16 := (View.ld KA (Rect.unit (s := S2x2x2048x128) (k0_off11 i 2#32) S1x1x512x128.size (k0_off11_inb i 2)))

/-! Running maximum `m`, partial sums `l` and accumulator `a` of the first map, `n`, `k`, `b` of the second. -/

def m0 : FVec F S512x128 .f32 := k0_pay38 (qm0 x5) (kD0 i KA) DB
def l0 : FVec F S512x128 .f32 := k0_pay39 (qm0 x5) (kD0 i KA) DB
def a0 : FVec F S512x128 .f32 := k0_pay41 (k0_pay40 (qm0 x5) (vD i x7) (kD0 i KA) DB)
def n0 : FVec F S512x128 .f32 := k0_pay48 (qm1 x5) (kD1 i KA) DB
def k0 : FVec F S512x128 .f32 := k0_pay49 (qm1 x5) (kD1 i KA) DB
def b0 : FVec F S512x128 .f32 := k0_pay50 (qm1 x5) (k0_pay31 (vD i x7)) (kD1 i KA) DB
def m1 : FVec F S512x128 .f32 := k0_pay61 (qa0 i x5) (kS00 i KA) (m0 i x5 KA DB)
def l1 : FVec F S512x128 .f32 := k0_pay63 (k0_pay59 (qa0 i x5) (kS00 i KA) (m0 i x5 KA DB)) (k0_pay62 (qa0 i x5) (kS00 i KA) (m0 i x5 KA DB) (l0 i x5 KA DB))
def a1 : FVec F S512x128 .f32 := k0_pay64 (k0_pay51 (vS0 i x7)) (k0_pay54 (qa0 i x5) (kS00 i KA) (m0 i x5 KA DB)) (k0_pay60 (qa0 i x5) (kS00 i KA) (m0 i x5 KA DB)) (a0 i x5 x7 KA DB)
def n1 : FVec F S512x128 .f32 := k0_pay74 (k0_pay66 (qa1 i x5) (kS01 i KA) (n0 i x5 KA DB))
def k1 : FVec F S512x128 .f32 := k0_pay75 (k0_pay67 (qa1 i x5) (kS01 i KA) (n0 i x5 KA DB)) (k0_pay72 (qa1 i x5) (kS01 i KA) (n0 i x5 KA DB)) (k0 i x5 KA DB)
def b1 : FVec F S512x128 .f32 := k0_pay76 (k0_pay51 (vS0 i x7)) (k0_pay67 (qa1 i x5) (kS01 i KA) (n0 i x5 KA DB)) (k0_pay73 (qa1 i x5) (kS01 i KA) (n0 i x5 KA DB)) (b0 i x5 x7 KA DB)
def m2 : FVec F S512x128 .f32 := k0_pay85 (k0_pay78 (qa0 i x5) (kS10 i KA)) (m1 i x5 KA DB)
def l2 : FVec F S512x128 .f32 := k0_pay86 (k0_pay78 (qa0 i x5) (kS10 i KA)) (m1 i x5 KA DB) (l1 i x5 KA DB)
def a2 : FVec F S512x128 .f32 := k0_pay87 (k0_pay77 (vS1 i x7)) (k0_pay78 (qa0 i x5) (kS10 i KA)) (m1 i x5 KA DB) (a1 i x5 x7 KA DB)
def n2 : FVec F S512x128 .f32 := k0_pay96 (k0_pay88 (qa1 i x5)) (kS11 i KA) (n1 i x5 KA DB)
def k2 : FVec F S512x128 .f32 := k0_pay97 (k0_pay88 (qa1 i x5)) (kS11 i KA) (n1 i x5 KA DB) (k1 i x5 KA DB)
def b2 : FVec F S512x128 .f32 := k0_pay99 (k0_pay98 (k0_pay77 (vS1 i x7)) (k0_pay88 (qa1 i x5)) (kS11 i KA) (n1 i x5 KA DB) (b1 i x5 x7 KA DB))
def l3 : FVec F S512x128 .f32 := k0_pay111 (k0_pay103 (qa0 i x5) (kS20 i KA) (m2 i x5 KA DB)) (k0_pay108 (qa0 i x5) (kS20 i KA) (m2 i x5 KA DB)) (l2 i x5 KA DB)
def a3 : FVec F S512x128 .f32 := k0_pay112 (k0_pay100 (vS2 i x7)) (k0_pay103 (qa0 i x5) (kS20 i KA) (m2 i x5 KA DB)) (k0_pay109 (qa0 i x5) (kS20 i KA) (m2 i x5 KA DB)) (a2 i x5 x7 KA DB)
def k3 : FVec F S512x128 .f32 := k0_pay122 (k0_pay115 (qa1 i x5) (kS21 i KA) (n2 i x5 KA DB)) (k0_pay116 (qa1 i x5) (kS21 i KA) (n2 i x5 KA DB)) (k0_pay117 (qa1 i x5) (kS21 i KA) (n2 i x5 KA DB)) (k0_pay118 (qa1 i x5) (kS21 i KA) (n2 i x5 KA DB)) (k0_pay119 (qa1 i x5) (kS21 i KA) (n2 i x5 KA DB)) (k2 i x5 KA DB)
def b3 : FVec F S512x128 .f32 := k0_pay123 (k0_pay100 (vS2 i x7)) (k0_pay115 (qa1 i x5) (kS21 i KA) (n2 i x5 KA DB)) (k0_pay116 (qa1 i x5) (kS21 i KA) (n2 i x5 KA DB)) (k0_pay117 (qa1 i x5) (kS21 i KA) (n2 i x5 KA DB)) (k0_pay118 (qa1 i x5) (kS21 i KA) (n2 i x5 KA DB)) (k0_pay119 (qa1 i x5) (kS21 i KA) (n2 i x5 KA DB)) (b2 i x5 x7 KA DB)

/-- The output tile. -/
def attOut : Vec F S512x128 .bf16 := k0_pay1 (k0_pay126 (k0_pay124 x0 x1) (k0_pay125 x2 x3) (a3 i x5 x7 KA DB) (l3 i x5 KA DB) (b3 i x5 x7 KA DB) (k3 i x5 KA DB)) (k0_pay127 x4) (k0_pay128 (k0_pay124 x0 x1) (k0_pay125 x2 x3) (a3 i x5 x7 KA DB) (l3 i x5 KA DB) (b3 i x5 x7 KA DB) (k3 i x5 KA DB))
end Out

end Cert.KernelIdeal.Att

end
-- ==== Proof.Part3.lean ====
module

public import proofs.«01_k».proof.Proof.Out
public import Idealize.ShloMosaic.Lib.WholeRead

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of trips. -/
theorem trips_eq : k0_t1_loop.trips = 4 := by decide +kernel

/-- Reading the augmented keys at map 0, side 0. -/
theorem kaug_00 (sl : F .f32) (x6 : Vec F S2048x128 .bf16) (j : S2x2x2048x128.Idx) (k : Fin k0_t1_loop.trips) (x : S1x1x512x128.Idx)
    (h0 : (j 0).val = 0) (h1 : (j 1).val = 0) (h2 : (j 2).val = 512 * k.val + (x 2).val) (h3 : (j 3).val = (x 3).val) :
    kaug sl x6 j = k0_pay8 sl laneI rowI 0#32 1#32 k (keyBlk x6 k) x := by
  have x0 : (x 0).val < 1 := (x 0).isLt
  have x1 : (x 1).val < 1 := (x 1).isLt
  have x2 : (x 2).val < 512 := (x 2).isLt
  have hk : tripOf (j 2) = k := by
    apply Fin.ext; show (j 2).val / 512 = k.val; omega
  have hy : (ix4 (0 : Fin 1) (0 : Fin 1) (⟨(j 2).val % 512, Nat.mod_lt _ (by decide)⟩ : Fin 512) (j 3) : S1x1x512x128.Idx) = x := by
    funext a; apply Fin.ext
    match a with
    | ⟨0, _⟩ => show 0 = (x 0).val; omega
    | ⟨1, _⟩ => show 0 = (x 1).val; omega
    | ⟨2, _⟩ => show (j 2).val % 512 = (x 2).val; omega
    | ⟨3, _⟩ => exact h3
  unfold kaug
  rw [hk, hy, h0, h1]
  rfl

/-- Reading the augmented keys at map 0, side 1. -/
theorem kaug_01 (sl : F .f32) (x6 : Vec F S2048x128 .bf16) (j : S2x2x2048x128.Idx) (k : Fin k0_t1_loop.trips) (x : S1x1x512x128.Idx)
    (h0 : (j 0).val = 0) (h1 : (j 1).val = 1) (h2 : (j 2).val = 512 * k.val + (x 2).val) (h3 : (j 3).val = (x 3).val) :
    kaug sl x6 j = k0_pay9 (k0_pay2 (keyBlk x6 k)) (k0_pay6 laneI) (k0_pay7 sl laneI rowI 0#32 1#32 k) x := by
  have x0 : (x 0).val < 1 := (x 0).isLt
  have x1 : (x 1).val < 1 := (x 1).isLt
  have x2 : (x 2).val < 512 := (x 2).isLt
  have hk : tripOf (j 2) = k := by
    apply Fin.ext; show (j 2).val / 512 = k.val; omega
  have hy : (ix4 (0 : Fin 1) (0 : Fin 1) (⟨(j 2).val % 512, Nat.mod_lt _ (by decide)⟩ : Fin 512) (j 3) : S1x1x512x128.Idx) = x := by
    funext a; apply Fin.ext
    match a with
    | ⟨0, _⟩ => show 0 = (x 0).val; omega
    | ⟨1, _⟩ => show 0 = (x 1).val; omega
    | ⟨2, _⟩ => show (j 2).val % 512 = (x 2).val; omega
    | ⟨3, _⟩ => exact h3
  unfold kaug
  rw [hk, hy, h0, h1]
  rfl

/-- Reading the augmented keys at map 1, side 0. -/
theorem kaug_10 (sl : F .f32) (x6 : Vec F S2048x128 .bf16) (j : S2x2x2048x128.Idx) (k : Fin k0_t1_loop.trips) (x : S1x1x512x128.Idx)
    (h0 : (j 0).val = 1) (h1 : (j 1).val = 0) (h2 : (j 2).val = 512 * k.val + (x 2).val) (h3 : (j 3).val = (x 3).val) :
    kaug sl x6 j = k0_pay12 sl laneI (k0_pay2 (keyBlk x6 k)) (k0_pay4 rowI 0#32 1#32 k) (k0_pay5 rowI 0#32 1#32 k) x := by
  have x0 : (x 0).val < 1 := (x 0).isLt
  have x1 : (x 1).val < 1 := (x 1).isLt
  have x2 : (x 2).val < 512 := (x 2).isLt
  have hk : tripOf (j 2) = k := by
    apply Fin.ext; show (j 2).val / 512 = k.val; omega
  have hy : (ix4 (0 : Fin 1) (0 : Fin 1) (⟨(j 2).val % 512, Nat.mod_lt _ (by decide)⟩ : Fin 512) (j 3) : S1x1x512x128.Idx) = x := by
    funext a; apply Fin.ext
    match a with
    | ⟨0, _⟩ => show 0 = (x 0).val; omega
    | ⟨1, _⟩ => show 0 = (x 1).val; omega
    | ⟨2, _⟩ => show (j 2).val % 512 = (x 2).val; omega
    | ⟨3, _⟩ => exact h3
  unfold kaug
  rw [hk, hy, h0, h1]
  rfl

/-- Reading the augmented keys at map 1, side 1. -/
theorem kaug_11 (sl : F .f32) (x6 : Vec F S2048x128 .bf16) (j : S2x2x2048x128.Idx) (k : Fin k0_t1_loop.trips) (x : S1x1x512x128.Idx)
    (h0 : (j 0).val = 1) (h1 : (j 1).val = 1) (h2 : (j 2).val = 512 * k.val + (x 2).val) (h3 : (j 3).val = (x 3).val) :
    kaug sl x6 j = k0_pay16 (k0_pay2 (keyBlk x6 k)) (k0_pay10 laneI) (k0_pay13 sl laneI (k0_pay4 rowI 0#32 1#32 k) (k0_pay5 rowI 0#32 1#32 k)) x := by
  have x0 : (x 0).val < 1 := (x 0).isLt
  have x1 : (x 1).val < 1 := (x 1).isLt
  have x2 : (x 2).val < 512 := (x 2).isLt
  have hk : tripOf (j 2) = k := by
    apply Fin.ext; show (j 2).val / 512 = k.val; omega
  have hy : (ix4 (0 : Fin 1) (0 : Fin 1) (⟨(j 2).val % 512, Nat.mod_lt _ (by decide)⟩ : Fin 512) (j 3) : S1x1x512x128.Idx) = x := by
    funext a; apply Fin.ext
    match a with
    | ⟨0, _⟩ => show 0 = (x 0).val; omega
    | ⟨1, _⟩ => show 0 = (x 1).val; omega
    | ⟨2, _⟩ => show (j 2).val % 512 = (x 2).val; omega
    | ⟨3, _⟩ => exact h3
  unfold kaug
  rw [hk, hy, h0, h1]
  rfl

section
variable (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S512x128 .bf16) (harg11 : arg11.IsWhole) (arg12 : Memref sig .tc .vmem S2x2x2048x128 .bf16) (harg12 : arg12.IsWhole) (arg13 : Memref sig .tc .vmem S512x512 .f32) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)

/-- The load of a trip reads its rows of the keys. -/
theorem readAt_keyBlk (i : grid0.Coords) (h : k0_cond1 i = 1#1) (x6 : Vec F S2048x128 .bf16) (k : Fin k0_t1_loop.trips) :
    View.readAt (Elt F) arg9.view (Rect.unit (s := S2048x128) (k0_off1 k) S512x128.size (k0_off1_inb i k h)).toLoadRect (harg9.unread x6)
      = keyBlk x6 k := by
  funext y
  rw [harg9.readAt_unread]
  unfold keyBlk
  congr 1
  funext a
  apply Fin.ext
  have h1 := congrFun (k0_off1_eq k)
  match a with
  | ⟨0, _⟩ =>
    have e : k0_off1 k 0 = 512 * k.val := h1 0
    show k0_off1 k 0 + 1 * (y 0).val = 512 * k.val + (y 0).val
    omega
  | ⟨1, _⟩ =>
    have e : k0_off1 k 1 = 0 := h1 1
    show k0_off1 k 1 + 1 * (y 1).val = (y 1).val
    omega

/-- What one trip stores, last first. -/
theorem tripL_eq (𝒱 : Variants) (c : Dev nD) (bd : Option 𝒱.V) (i : grid0.Coords) (h : k0_cond1 i = 1#1) (x6 : Vec F S2048x128 .bf16) (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) k
      = [⟨Rect.unit (s := S2x2x2048x128) (k0_off5 k) S1x1x512x128.size (k0_off5_inb i k h), k0_pay16 (k0_pay2 (keyBlk x6 k)) (k0_pay10 laneI) (k0_pay13 (k0_pay14 i) laneI (k0_pay4 rowI 0#32 1#32 k) (k0_pay5 rowI 0#32 1#32 k))⟩, ⟨Rect.unit (s := S2x2x2048x128) (k0_off4 k) S1x1x512x128.size (k0_off4_inb i k h), k0_pay12 (k0_pay14 i) laneI (k0_pay2 (keyBlk x6 k)) (k0_pay4 rowI 0#32 1#32 k) (k0_pay5 rowI 0#32 1#32 k)⟩, ⟨Rect.unit (s := S2x2x2048x128) (k0_off3 k) S1x1x512x128.size (k0_off3_inb i k h), k0_pay9 (k0_pay2 (keyBlk x6 k)) (k0_pay6 laneI) (k0_pay7 (k0_pay14 i) laneI rowI 0#32 1#32 k)⟩, ⟨Rect.unit (s := S2x2x2048x128) (k0_off2 k) S1x1x512x128.size (k0_off2_inb i k h), k0_pay8 (k0_pay14 i) laneI rowI 0#32 1#32 k (keyBlk x6 k)⟩] := by
  rw [← readAt_keyBlk arg9 harg9 i h x6 k]
  unfold tripL_k0_t1 trip_k0_t1
  sl_unfold_run_names
  rfl

/-- Every piece the loop stores is the augmented keys there. -/
theorem pb_pieces (𝒱 : Variants) (c : Dev nD) (bd : Option 𝒱.V) (i : grid0.Coords) (h : k0_cond1 i = 1#1) (x6 : Vec F S2048x128 .bf16) (n : ℕ) (hn : n ≤ k0_t1_loop.trips) :
    ∀ p ∈ pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) n, ∀ x : p.1.shape.Idx, p.2 x = kaug (k0_pay14 i) x6 (p.1.emb x) := by
  induction n with
  | zero => intro p hp; simp [pb_k0_t1] at hp
  | succ n ih =>
    intro p hp
    rw [pb_k0_t1_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) ⟨n, hn⟩, List.mem_append] at hp
    rcases hp with hp | hp
    · rw [tripL_eq] at hp
      simp only [List.mem_cons, List.not_mem_nil, or_false] at hp
      have e2 := congrFun (k0_off2_eq ⟨n, hn⟩)
      have e3 := congrFun (k0_off3_eq ⟨n, hn⟩)
      have e4 := congrFun (k0_off4_eq ⟨n, hn⟩)
      have e5 := congrFun (k0_off5_eq ⟨n, hn⟩)
      rcases hp with rfl | rfl | rfl | rfl
      · intro x
        have x0 : (x 0).val < 1 := (x 0).isLt
        have x1 : (x 1).val < 1 := (x 1).isLt
        have f0 : k0_off5 ⟨n, hn⟩ 0 = 1 := e5 0
        have f1 : k0_off5 ⟨n, hn⟩ 1 = 1 := e5 1
        have f2 : k0_off5 ⟨n, hn⟩ 2 = 512 * n := e5 2
        have f3 : k0_off5 ⟨n, hn⟩ 3 = 0 := e5 3
        refine (kaug_11 (k0_pay14 i) x6 _ ⟨n, hn⟩ x ?_ ?_ ?_ ?_).symm
        · show k0_off5 ⟨n, hn⟩ 0 + 1 * (x 0).val = 1; omega
        · show k0_off5 ⟨n, hn⟩ 1 + 1 * (x 1).val = 1; omega
        · show k0_off5 ⟨n, hn⟩ 2 + 1 * (x 2).val = 512 * n + (x 2).val; omega
        · show k0_off5 ⟨n, hn⟩ 3 + 1 * (x 3).val = (x 3).val; omega
      · intro x
        have x0 : (x 0).val < 1 := (x 0).isLt
        have x1 : (x 1).val < 1 := (x 1).isLt
        have f0 : k0_off4 ⟨n, hn⟩ 0 = 1 := e4 0
        have f1 : k0_off4 ⟨n, hn⟩ 1 = 0 := e4 1
        have f2 : k0_off4 ⟨n, hn⟩ 2 = 512 * n := e4 2
        have f3 : k0_off4 ⟨n, hn⟩ 3 = 0 := e4 3
        refine (kaug_10 (k0_pay14 i) x6 _ ⟨n, hn⟩ x ?_ ?_ ?_ ?_).symm
        · show k0_off4 ⟨n, hn⟩ 0 + 1 * (x 0).val = 1; omega
        · show k0_off4 ⟨n, hn⟩ 1 + 1 * (x 1).val = 0; omega
        · show k0_off4 ⟨n, hn⟩ 2 + 1 * (x 2).val = 512 * n + (x 2).val; omega
        · show k0_off4 ⟨n, hn⟩ 3 + 1 * (x 3).val = (x 3).val; omega
      · intro x
        have x0 : (x 0).val < 1 := (x 0).isLt
        have x1 : (x 1).val < 1 := (x 1).isLt
        have f0 : k0_off3 ⟨n, hn⟩ 0 = 0 := e3 0
        have f1 : k0_off3 ⟨n, hn⟩ 1 = 1 := e3 1
        have f2 : k0_off3 ⟨n, hn⟩ 2 = 512 * n := e3 2
        have f3 : k0_off3 ⟨n, hn⟩ 3 = 0 := e3 3
        refine (kaug_01 (k0_pay14 i) x6 _ ⟨n, hn⟩ x ?_ ?_ ?_ ?_).symm
        · show k0_off3 ⟨n, hn⟩ 0 + 1 * (x 0).val = 0; omega
        · show k0_off3 ⟨n, hn⟩ 1 + 1 * (x 1).val = 1; omega
        · show k0_off3 ⟨n, hn⟩ 2 + 1 * (x 2).val = 512 * n + (x 2).val; omega
        · show k0_off3 ⟨n, hn⟩ 3 + 1 * (x 3).val = (x 3).val; omega
      · intro x
        have x0 : (x 0).val < 1 := (x 0).isLt
        have x1 : (x 1).val < 1 := (x 1).isLt
        have f0 : k0_off2 ⟨n, hn⟩ 0 = 0 := e2 0
        have f1 : k0_off2 ⟨n, hn⟩ 1 = 0 := e2 1
        have f2 : k0_off2 ⟨n, hn⟩ 2 = 512 * n := e2 2
        have f3 : k0_off2 ⟨n, hn⟩ 3 = 0 := e2 3
        refine (kaug_00 (k0_pay14 i) x6 _ ⟨n, hn⟩ x ?_ ?_ ?_ ?_).symm
        · show k0_off2 ⟨n, hn⟩ 0 + 1 * (x 0).val = 0; omega
        · show k0_off2 ⟨n, hn⟩ 1 + 1 * (x 1).val = 0; omega
        · show k0_off2 ⟨n, hn⟩ 2 + 1 * (x 2).val = 512 * n + (x 2).val; omega
        · show k0_off2 ⟨n, hn⟩ 3 + 1 * (x 3).val = (x 3).val; omega
    · exact ih (Nat.le_of_succ_le hn) p hp

/-- A trip's pieces are among the loop's. -/
theorem mem_pb (𝒱 : Variants) (c : Dev nD) (bd : Option 𝒱.V) (i : grid0.Coords) (h : k0_cond1 i = 1#1) (x6 : Vec F S2048x128 .bf16)
    (k : Fin k0_t1_loop.trips) (p : View.Piece (Elt F) S2x2x2048x128 .bf16)
    (hp : p ∈ tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) k) (n : ℕ) (hn : n ≤ k0_t1_loop.trips) (hkn : k.val < n) :
    p ∈ pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) n := by
  induction n with
  | zero => omega
  | succ n ih =>
    rw [pb_k0_t1_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) ⟨n, hn⟩, List.mem_append]
    rcases Nat.lt_succ_iff_lt_or_eq.mp hkn with hlt | heq
    · exact .inr (ih (Nat.le_of_succ_le hn) hlt)
    · left
      have : k = ⟨n, hn⟩ := Fin.ext heq
      rw [← this]; exact hp

/-- After the loop the buffer reads the augmented keys. -/
theorem read_pb (𝒱 : Variants) (c : Dev nD) (bd : Option 𝒱.V) (i : grid0.Coords) (h : k0_cond1 i = 1#1) (x6 : Vec F S2048x128 .bf16) (f : arg12.view.ty.Contents (Elt F)) :
    arg12.view.read (Elt F) (arg12.view.writes (Elt F) f (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 laneI rowI h (harg9.unread x6) k0_t1_loop.trips))
      = kaug (k0_pay14 i) x6 := by
  funext j
  refine View.read_writes_apply_of_pieces _ _ _ _ (pb_pieces arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 c bd i h x6 k0_t1_loop.trips le_rfl) j ?_
  have j0 : (j 0).val < 2 := (j 0).isLt
  have j1 : (j 1).val < 2 := (j 1).isLt
  have j2 : (j 2).val < 2048 := (j 2).isLt
  have j3 : (j 3).val < 128 := (j 3).isLt
  have hk : (tripOf (j 2)).val = (j 2).val / 512 := rfl
  have hm := fun p hp => mem_pb arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 c bd i h x6 (tripOf (j 2)) p hp k0_t1_loop.trips le_rfl (tripOf (j 2)).isLt
  rw [tripL_eq] at hm
  simp only [List.mem_cons, List.not_mem_nil, or_false, forall_eq_or_imp, forall_eq] at hm
  obtain ⟨g5, g4, g3, g2⟩ := hm
  have e2 := congrFun (k0_off2_eq (tripOf (j 2)))
  have e3 := congrFun (k0_off3_eq (tripOf (j 2)))
  have e4 := congrFun (k0_off4_eq (tripOf (j 2)))
  have e5 := congrFun (k0_off5_eq (tripOf (j 2)))
  by_cases h0 : (j 0).val = 0 <;> by_cases h1 : (j 1).val = 0
  · refine ⟨_, g2, ?_⟩
    refine (Rect.mem_set_unit (inb := k0_off2_inb i (tripOf (j 2)) h)).mpr ?_
    intro a
    have f0 : k0_off2 (tripOf (j 2)) 0 = 0 := e2 0
    have f1 : k0_off2 (tripOf (j 2)) 1 = 0 := e2 1
    have f2 : k0_off2 (tripOf (j 2)) 2 = 512 * (tripOf (j 2)).val := e2 2
    have f3 : k0_off2 (tripOf (j 2)) 3 = 0 := e2 3
    match a with
    | ⟨0, _⟩ => show k0_off2 (tripOf (j 2)) 0 ≤ (j 0).val ∧ (j 0).val < k0_off2 (tripOf (j 2)) 0 + 1; omega
    | ⟨1, _⟩ => show k0_off2 (tripOf (j 2)) 1 ≤ (j 1).val ∧ (j 1).val < k0_off2 (tripOf (j 2)) 1 + 1; omega
    | ⟨2, _⟩ => show k0_off2 (tripOf (j 2)) 2 ≤ (j 2).val ∧ (j 2).val < k0_off2 (tripOf (j 2)) 2 + 512; omega
    | ⟨3, _⟩ => show k0_off2 (tripOf (j 2)) 3 ≤ (j 3).val ∧ (j 3).val < k0_off2 (tripOf (j 2)) 3 + 128; omega
  · refine ⟨_, g3, ?_⟩
    refine (Rect.mem_set_unit (inb := k0_off3_inb i (tripOf (j 2)) h)).mpr ?_
    intro a
    have f0 : k0_off3 (tripOf (j 2)) 0 = 0 := e3 0
    have f1 : k0_off3 (tripOf (j 2)) 1 = 1 := e3 1
    have f2 : k0_off3 (tripOf (j 2)) 2 = 512 * (tripOf (j 2)).val := e3 2
    have f3 : k0_off3 (tripOf (j 2)) 3 = 0 := e3 3
    match a with
    | ⟨0, _⟩ => show k0_off3 (tripOf (j 2)) 0 ≤ (j 0).val ∧ (j 0).val < k0_off3 (tripOf (j 2)) 0 + 1; omega
    | ⟨1, _⟩ => show k0_off3 (tripOf (j 2)) 1 ≤ (j 1).val ∧ (j 1).val < k0_off3 (tripOf (j 2)) 1 + 1; omega
    | ⟨2, _⟩ => show k0_off3 (tripOf (j 2)) 2 ≤ (j 2).val ∧ (j 2).val < k0_off3 (tripOf (j 2)) 2 + 512; omega
    | ⟨3, _⟩ => show k0_off3 (tripOf (j 2)) 3 ≤ (j 3).val ∧ (j 3).val < k0_off3 (tripOf (j 2)) 3 + 128; omega
  · refine ⟨_, g4, ?_⟩
    refine (Rect.mem_set_unit (inb := k0_off4_inb i (tripOf (j 2)) h)).mpr ?_
    intro a
    have f0 : k0_off4 (tripOf (j 2)) 0 = 1 := e4 0
    have f1 : k0_off4 (tripOf (j 2)) 1 = 0 := e4 1
    have f2 : k0_off4 (tripOf (j 2)) 2 = 512 * (tripOf (j 2)).val := e4 2
    have f3 : k0_off4 (tripOf (j 2)) 3 = 0 := e4 3
    match a with
    | ⟨0, _⟩ => show k0_off4 (tripOf (j 2)) 0 ≤ (j 0).val ∧ (j 0).val < k0_off4 (tripOf (j 2)) 0 + 1; omega
    | ⟨1, _⟩ => show k0_off4 (tripOf (j 2)) 1 ≤ (j 1).val ∧ (j 1).val < k0_off4 (tripOf (j 2)) 1 + 1; omega
    | ⟨2, _⟩ => show k0_off4 (tripOf (j 2)) 2 ≤ (j 2).val ∧ (j 2).val < k0_off4 (tripOf (j 2)) 2 + 512; omega
    | ⟨3, _⟩ => show k0_off4 (tripOf (j 2)) 3 ≤ (j 3).val ∧ (j 3).val < k0_off4 (tripOf (j 2)) 3 + 128; omega
  · refine ⟨_, g5, ?_⟩
    refine (Rect.mem_set_unit (inb := k0_off5_inb i (tripOf (j 2)) h)).mpr ?_
    intro a
    have f0 : k0_off5 (tripOf (j 2)) 0 = 1 := e5 0
    have f1 : k0_off5 (tripOf (j 2)) 1 = 1 := e5 1
    have f2 : k0_off5 (tripOf (j 2)) 2 = 512 * (tripOf (j 2)).val := e5 2
    have f3 : k0_off5 (tripOf (j 2)) 3 = 0 := e5 3
    match a with
    | ⟨0, _⟩ => show k0_off5 (tripOf (j 2)) 0 ≤ (j 0).val ∧ (j 0).val < k0_off5 (tripOf (j 2)) 0 + 1; omega
    | ⟨1, _⟩ => show k0_off5 (tripOf (j 2)) 1 ≤ (j 1).val ∧ (j 1).val < k0_off5 (tripOf (j 2)) 1 + 1; omega
    | ⟨2, _⟩ => show k0_off5 (tripOf (j 2)) 2 ≤ (j 2).val ∧ (j 2).val < k0_off5 (tripOf (j 2)) 2 + 512; omega
    | ⟨3, _⟩ => show k0_off5 (tripOf (j 2)) 3 ≤ (j 3).val ∧ (j 3).val < k0_off5 (tripOf (j 2)) 3 + 128; omega
end

end Cert.KernelIdeal.Att

end
-- ==== Proof.Spec.lean ====
module

public import proofs.«01_k».proof.Proof.Part3
public import Idealize.ShloMosaic.Lib.Pipeline.ValueKit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S512x128 .bf16) (harg11 : arg11.IsWhole) (arg12 : Memref sig .tc .vmem S2x2x2048x128 .bf16) (harg12 : arg12.IsWhole) (arg13 : Memref sig .tc .vmem S512x512 .f32) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)

/-- A whole store reads back as what was stored. -/
theorem read_whole {n : Fin 2 → ℕ} {e : EltTy} {κ : Kind} {sp : Space} (v : View sig κ sp ⟨2, n⟩ e) (f : v.ty.Contents (Elt F)) (inb) (P : Vec F ⟨2, n⟩ e) :
    v.read (Elt F) (v.writes (Elt F) f [⟨Rect.unit (s := ⟨2, n⟩) ![0, 0] n inb, P⟩]) = P := by
  funext y
  refine View.read_writes_apply_of_pieces _ _ P _ ?_ y ⟨_, .head _, ?_⟩
  · intro p hp x
    obtain rfl : p = _ := List.mem_singleton.mp hp
    show P x = P _
    congr 1
    funext a; apply Fin.ext
    match a with
    | ⟨0, _⟩ => show (x 0).val = 0 + 1 * (x 0).val; omega
    | ⟨1, _⟩ => show (x 1).val = 0 + 1 * (x 1).val; omega
  · refine (Rect.mem_set_unit (inb := inb)).mpr fun a => ?_
    match a with
    | ⟨0, _⟩ => exact ⟨Nat.zero_le _, by have := (y 0).isLt; show (y 0).val < 0 + n 0; rw [Nat.zero_add]; exact this⟩
    | ⟨1, _⟩ => exact ⟨Nat.zero_le _, by have := (y 1).isLt; show (y 1).val < 0 + n 1; rw [Nat.zero_add]; exact this⟩

/-- The part before the head's scores: at a head's first block it stores the biases and the augmented keys, at the other
blocks it finds them; it returns the query block and constants. -/
theorem part3_spec (c : Dev nD) (i : grid0.Coords) (x5 : Vec F S512x128 .bf16) (x6 : Vec F S2048x128 .bf16) (E : Set ℕ)
    (f12 : arg12.view.ty.Contents (Elt F)) (f13 : arg13.view.ty.Contents (Elt F))
    (hk : ¬ cond0_0 i → f12 = harg12.unread (kaug (k0_pay14 i) x6) ∧ f13 = harg13.unread (k0_pay15 i)) :
    (iprop((arg8.view.loc (c : Thread nD τ) ↦[arg8.view.set]{fullShare} harg8.unread x5)
      ∗ (arg9.view.loc (c : Thread nD τ) ↦[arg9.view.set]{fullShare} harg9.unread x6)
      ∗ (arg12.view.loc (c : Thread nD τ) ↦[arg12.view.set]{fullShare} f12)
      ∗ (arg13.view.loc (c : Thread nD τ) ↦[arg13.view.set]{fullShare} f13)) : sProp 𝕄)
    ⊢ wp frame (wpE (defs₀ (F := F)) Variants.none (c : Thread nD τ) none) E (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      (fun r => iprop((arg8.view.loc (c : Thread nD τ) ↦[arg8.view.set]{fullShare} harg8.unread x5)
      ∗ (arg9.view.loc (c : Thread nD τ) ↦[arg9.view.set]{fullShare} harg9.unread x6)
      ∗ (arg12.view.loc (c : Thread nD τ) ↦[arg12.view.set]{fullShare} harg12.unread (kaug (k0_pay14 i) x6))
      ∗ (arg13.view.loc (c : Thread nD τ) ↦[arg13.view.set]{fullShare} harg13.unread (k0_pay15 i))
      ∗ ⌜r = ⟨BitVec.ofNat 32 (i 2).val, laneI, k0_pay17 x5, k0_pay18 i, k0_pay19, k0_pay20 i, k0_pay21 i, k0_pay22, k0_pay23, k0_pay24, k0_pay25⟩⌝)) := by
  have hv : View.readAt (Elt F) arg8.view (Rect.unit (s := S512x128) ![0, 0] S512x128.size inb_S512x128_S512x128_0_0).toLoadRect (harg8.unread x5) = x5 := by
    funext y
    rw [harg8.readAt_unread]
    congr 1
    funext a; apply Fin.ext
    match a with
    | ⟨0, _⟩ => show 0 + 1 * (y 0).val = (y 0).val; omega
    | ⟨1, _⟩ => show 0 + 1 * (y 1).val = (y 1).val; omega
  by_cases hc0 : cond0_0 i
  · simp only [k0_part3_eq_skeleton]; unfold k0_part3_skel
    iintro ⟨H5, H6, HS0, HS1⟩
    sl_exec (disch := first | sl_exact hc0)
    sl_step
    have e12 := harg12.eq_unread (read_pb arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none c none i hc0 x6 f12)
    have e13 := harg13.eq_unread (read_whole arg13.view arg13.view.junk inb_S512x512_S512x512_0_0 (k0_pay15 (F := F) i))
    sl_unfold_run_names
    rw [← e12, ← e13]
    isplitl [H5]; · iexact H5
    isplitl [H6]; · iexact H6
    isplitl [HS0]; · iexact HS0
    isplitl [HS1]; · iexact HS1
    ipureintro
    rfl
  · obtain ⟨rfl, rfl⟩ := hk hc0
    simp only [k0_part3_eq_skeleton]; unfold k0_part3_skel
    iintro ⟨H5, H6, HS0, HS1⟩
    sl_exec (disch := first | sl_exact hc0)
    sl_step
    isplitl [H5]; · iexact H5
    isplitl [H6]; · iexact H6
    isplitl [HS0]; · iexact HS0
    isplitl [HS1]; · iexact HS1
    ipureintro
    rfl
end

end Cert.KernelIdeal.Att

end
-- ==== Proof.Run.lean ====
module

public import proofs.«01_k».proof.Proof.Spec

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S512x128 .bf16) (harg11 : arg11.IsWhole) (arg12 : Memref sig .tc .vmem S2x2x2048x128 .bf16) (harg12 : arg12.IsWhole) (arg13 : Memref sig .tc .vmem S512x512 .f32) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole)

/-- A load from a whole buffer reads its block. -/
theorem readAt_ld {κ : Kind} {sp : Space} {s : Shape} {e : EltTy} {m : Memref sig κ sp s e} (h : m.IsWhole) (X : Vec F s e) (r : Rect s) :
    View.readAt (Elt F) m.view r.toLoadRect (h.unread X) = View.ld X r := by
  funext x
  rw [h.readAt_unread]

/-- A whole load of this shape is the block. -/
theorem ld_S1x64 (X : Vec F S1x64 .f32) (inb) : View.ld X (Rect.unit (s := S1x64) ![0, 0] ![1, 64] inb) = X := by
  funext y
  show X _ = X y
  congr 1
  funext a; apply Fin.ext
  match a with
  | ⟨0, _⟩ => show 0 + 1 * (y 0).val = (y 0).val; omega
  | ⟨1, _⟩ => show 0 + 1 * (y 1).val = (y 1).val; omega

/-- A whole load of this shape is the block. -/
theorem ld_S1x128 (X : Vec F S1x128 .f32) (inb) : View.ld X (Rect.unit (s := S1x128) ![0, 0] ![1, 128] inb) = X := by
  funext y
  show X _ = X y
  congr 1
  funext a; apply Fin.ext
  match a with
  | ⟨0, _⟩ => show 0 + 1 * (y 0).val = (y 0).val; omega
  | ⟨1, _⟩ => show 0 + 1 * (y 1).val = (y 1).val; omega

/-- A whole load of this shape is the block. -/
theorem ld_S512x512 (X : Vec F S512x512 .f32) (inb) : View.ld X (Rect.unit (s := S512x512) ![0, 0] ![512, 512] inb) = X := by
  funext y
  show X _ = X y
  congr 1
  funext a; apply Fin.ext
  match a with
  | ⟨0, _⟩ => show 0 + 1 * (y 0).val = (y 0).val; omega
  | ⟨1, _⟩ => show 0 + 1 * (y 1).val = (y 1).val; omega

/-- The first of the two stored query tiles. -/
theorem read14 {κ : Kind} {sp : Space} (v : View sig κ sp S2x512x128 .bf16) (a b : Vec F S1x512x128 .bf16) :
    v.readCov [⟨Rect.unit ![1, 0, 0] ![1, 512, 128] inb_S2x512x128_S1x512x128_1_0_0, a⟩, ⟨Rect.unit ![0, 0, 0] ![1, 512, 128] inb_S2x512x128_S1x512x128_0_0_0, b⟩]
      (Rect.unit ![0, 0, 0] ![1, 512, 128] inb_S2x512x128_S1x512x128_0_0_0).toLoadRect = b := by
  rw [View.readCov_cons_of_disjoint]
  · exact View.readCov_cons_toLoadRect _ _ _ _
  · rw [Finset.disjoint_left]
    intro y h1 h2
    have e1 := (Rect.mem_set_unit (inb := inb_S2x512x128_S1x512x128_1_0_0)).mp h1 0
    have e2 := (Rect.mem_set_unit (inb := inb_S2x512x128_S1x512x128_0_0_0)).mp h2 0
    have e3 : 1 ≤ (y 0).val := e1.1
    have e4 : (y 0).val < 0 + 1 := e2.2
    omega

set_option maxHeartbeats 1000000 in
/-- The body at a grid point: its query block's result, the head's augmented keys and biases kept. -/
theorem body_run (c : Dev nD) (i : grid0.Coords)
    (x0 : Vec F S1x64 .f32) (x1 : Vec F S1x64 .f32) (x2 : Vec F S1x64 .f32) (x3 : Vec F S1x64 .f32) (x4 : Vec F S1x128 .f32) (x5 : Vec F S512x128 .bf16) (x6 : Vec F S2048x128 .bf16) (x7 : Vec F S2048x128 .bf16)
    (d12 : Vec F S2x2x2048x128 .bf16) (d13 : Vec F S512x512 .f32)
    (hd : ¬ cond0_0 i → d12 = kaug (k0_pay14 i) x6 ∧ d13 = k0_pay15 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (attOut i x0 x1 x2 x3 x4 x5 x7 (kaug (k0_pay14 i) x6) (k0_pay15 i)) ∗ owns (c : Thread nD τ) arg12 fullShare (kaug (k0_pay14 i) x6) ∗ owns (c : Thread nD τ) arg13 fullShare (k0_pay15 i) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K PUnit.unit))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attention_eq_skeleton]; unfold cc0_attention_skel
  simp only [k0_part15_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg12.eq_unread hfs0
  obtain rfl := harg13.eq_unread hfs1
  have hcut := part3_spec arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i x5 x6 E (harg12.unread d12) (harg13.unread d13) (fun h => by obtain ⟨e1, e2⟩ := hd h; rw [e1, e2]; exact ⟨rfl, rfl⟩)
  sl_exec
  sl_step
  cases hk0_part3_4
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Hk0_part3_0]
  · iexists _; isplitr; · ipureintro; exact harg8.read_unread _
    iexact Hk0_part3_0
  isplitl [Hk0_part3_1]
  · iexists _; isplitr; · ipureintro; exact harg9.read_unread _
    iexact Hk0_part3_1
  isplitl [H7]
  · iexists _; isplitr; · ipureintro; exact harg10.read_unread _
    iexact H7
  isplitl [H8]
  · iexists _; isplitr; swap; · iexact H8
    ipureintro
    refine (read_whole _ _ _ _).trans ?_
    sl_unfold_run_names
    simp only [View.readCov_cons_toLoadRect, read14, readAt_ld, ld_S1x64, ld_S1x128, ld_S512x512]
    rfl

  isplitl [Hk0_part3_2]
  · iexists _; isplitr; · ipureintro; exact harg12.read_unread _
    iexact Hk0_part3_2
  isplitl [Hk0_part3_3]
  · iexists _; isplitr; · ipureintro; exact harg13.read_unread _
    iexact Hk0_part3_3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  iexists _, _; isplitr; swap; · iexact HS8
  ipureintro; rfl

end

end Cert.KernelIdeal.Att

end
-- ==== Proof.Fr.lean ====
module

public import proofs.«01_k».proof.Proof.Run
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where each point stands on the grid. -/
theorem coords_val : ∀ t : Fin cfg0.N, (grid0.coords t 0).val = t.val / 16 ∧ (grid0.coords t 1).val = t.val / 4 % 4 ∧ (grid0.coords t 2).val = t.val % 4 :=
  (by decide +kernel : ∀ t : Fin grid0.N, _)

/-- The blocks the keys, values, queries and results take at each point. -/
theorem idx : ∀ t : Fin cfg0.N, win0_5.index t = ![32 + t.val / 16 * 4 + t.val % 4, t.val / 4 % 4] ∧ win0_6.index t = ![8 + t.val / 16, 4 + t.val / 4 % 4]
    ∧ win0_7.index t = ![8 + t.val / 16, 8 + t.val / 4 % 4] ∧ win0_8.index t = ![t.val / 16 * 4 + t.val % 4, t.val / 4 % 4] :=
  (by decide +kernel : ∀ t : Fin grid0.N, _)

/-- The slope is the head's. -/
theorem pay14_congr (i i' : grid0.Coords) (h : (i 1).val = (i' 1).val) : k0_pay14 (F := F) i = k0_pay14 i' := by
  unfold k0_pay14; rw [h]
/-- The biases are the head's. -/
theorem pay15_congr (i i' : grid0.Coords) (h : (i 1).val = (i' 1).val) : k0_pay15 (F := F) i = k0_pay15 i' := by
  unfold k0_pay15; rw [pay14_congr i i' h]

/-- The augmented keys of the head a point works at. -/
def headKA (c : Dev nD) (t : Fin cfg0.N) : Vec F S2x2x2048x128 .bf16 := kaug (k0_pay14 (grid0.coords t)) (iblk m c 6 t)
/-- The biases on the diagonal of the head a point works at. -/
def headDB (t : Fin cfg0.N) : Vec F S512x512 .f32 := k0_pay15 (grid0.coords t)
/-- The block of results a point leaves. -/
def outT (c : Dev nD) (t : Fin cfg0.N) : Vec F S512x128 .bf16 :=
  attOut (grid0.coords t) (iblk m c 0 t) (iblk m c 1 t) (iblk m c 2 t) (iblk m c 3 t) (iblk m c 4 t) (iblk m c 5 t) (iblk m c 7 t) (headKA m c t) (headDB t)

/-- The keys do not move within a head. -/
theorem iblk6_congr (c : Dev nD) (s t : Fin cfg0.N) (h : s.val / 4 = t.val / 4) : (iblk m c 6 s : Vec F S2048x128 .bf16) = iblk m c 6 t := by
  have e : win0_6.index s = win0_6.index t := by
    rw [(idx s).2.1, (idx t).2.1]
    have e16 : s.val / 16 = t.val / 16 := by omega
    rw [h, e16]
  funext x
  have e1 := idx s
  have e2 := idx t
  have e16 : s.val / 16 = t.val / 16 := by omega
  blk_ext [iblk, idx s, idx t]

/-- Nor the augmented keys, -/
theorem headKA_congr (c : Dev nD) (s t : Fin cfg0.N) (h : s.val / 4 = t.val / 4) : headKA m c s = headKA m c t := by
  unfold headKA
  rw [iblk6_congr m c s t h, pay14_congr _ (grid0.coords t) (by rw [(coords_val s).2.1, (coords_val t).2.1, h])]
/-- nor the biases. -/
theorem headDB_congr (s t : Fin cfg0.N) (h : s.val / 4 = t.val / 4) : headDB (F := F) s = headDB t := by
  unfold headDB
  rw [pay15_congr _ (grid0.coords t) (by rw [(coords_val s).2.1, (coords_val t).2.1, h])]

/-- What holds between points: after a point, its head's augmented keys and biases. -/
def PhiS (c : Dev nD) : (n : ℕ) → n ≤ cfg0.N → sProp 𝕄
  | 0, _ => Pipeline.ΦA spec0 c
  | n + 1, hn => iprop(iprop(owns (c : Thread nD τ) scM0_0 fullShare (headKA m c ⟨n, hn⟩) ∗ owns (c : Thread nD τ) scM0_1 fullShare (headDB ⟨n, hn⟩) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop(iprop(owns (c : Thread nD τ) scM0_0 fullShare (headKA m c ⟨n, hn⟩) ∗ owns (c : Thread nD τ) scM0_1 fullShare (headDB ⟨n, hn⟩) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := rfl
theorem PhiS_pos (c : Dev nD) (n : ℕ) (h : n ≤ cfg0.N) (hz : n ≠ 0) : PhiS m c n h = iprop(iprop(owns (c : Thread nD τ) scM0_0 fullShare (headKA m c ⟨n - 1, by omega⟩) ∗ owns (c : Thread nD τ) scM0_1 fullShare (headDB ⟨n - 1, by omega⟩) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-- The pipeline's proof data: every input's block stays, the output's buffer ends with the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outT m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 12800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 512 := lt_of_lt_of_eq t.isLt (show cfg0.N = 512 from N_0)
  by_cases hz : t.val = 0
  · rw [PhiS_castSucc m c t, PhiS_zero m c _ _ hz, PhiA0_eq]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases HS0 with ⟨%e0, HS0⟩
    icases HS1 with ⟨%e1, HS1⟩
    iapply (body_run  _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) _ _ (fun h => absurd ((hcond0_0 t).mpr (by rw [hz])) h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_castSucc m c t, PhiS_pos m c _ _ hz]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_run  _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) _ _ (fun h => by
        have h4 : ¬ t.val % 4 = 0 := fun h' => h ((hcond0_0 t).mpr h')
        have e : (⟨t.val - 1, by omega⟩ : Fin cfg0.N).val / 4 = t.val / 4 := by show (t.val - 1) / 4 = _; omega
        exact ⟨headKA_congr m c _ t e, headDB_congr _ t e⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
/-- What the launch hands over holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
/-- After any point but the first the launch's resources can be given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    iexact HS8
  iexact Hg
/-- The same after the last. -/
theorem hout (c : Dev nD) : (dats m 0 c).Φ (Fin.last cfg0.N) ⊢ Pipeline.ΦA spec0 c :=
  Phi_out m c _ (by rw [Fin.val_last]; have : cfg0.N = 512 := N_0; omega)

set_option backward.isDefEq.respectTransparency.types false in
/-- Every run from zero counters ends, with zero counters, the inputs unchanged and the results' array holding every point's block. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)
/-- Over any float values, every run from zero counters ends, its arguments unchanged, its counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.Steps.lean ====
module

public import proofs.«01_k».proof.Proof.Out

@[expose] public section

set_option maxRecDepth 16384

noncomputable section

namespace Cert.KernelIdeal.Att

open Idealize.ShloMosaic Idealize.ShloMosaic.TcCoe Idealize.SL.Sem
open Cert.KernelIdeal.Gen

variable {F : FTy → Type} [FloatOps F]

/-! ## One block of keys, as functions of its scores

The body writes the same arithmetic out once for each block of keys and each of the two score maps. Here it is
once, as a function of the block's scores `S`; every copy is this function, by unfolding. -/

/-- Scores of the augmented queries against a block of augmented keys. -/
def scA (Q : Vec F S1x512x128 .bf16) (K : Vec F S1x1x512x128 .bf16) : FVec F S512x512 .f32 :=
  matmul dot_S512x128_S512x128_S512x512_1_1_0_0_n_n none (shapeCast S512x128 Q shapeCasts_S1x512x128_S512x128) (shapeCast S512x128 K shapeCasts_S1x1x512x128_S512x128) (constant S512x512 .f32 0x00000000#32)
/-- Scores on the diagonal: masked queries against keys, with the bias added. -/
def scD (Q : FVec F S512x128 .bf16) (K : Vec F S1x1x512x128 .bf16) (DB : Vec F S512x512 .f32) : FVec F S512x512 .f32 :=
  addf (matmul dot_S512x128_S512x128_S512x512_1_1_0_0_n_n none Q (shapeCast S512x128 K shapeCasts_S1x1x512x128_S512x128) (constant S512x512 .f32 0x00000000#32)) DB
/-- Largest score of each row, on every lane. -/
def mxB (S : FVec F S512x512 .f32) : FVec F S512x128 .f32 :=
  broadcastTo S512x128 (shapeCast S512x1 (multiReduction .maximumf [1] S512 S 0xFF800000#32 reduces_S512x512_S512 (.inl rfl) rfl) shapeCasts_S512_S512x1) broadcasts_S512x1_S512x128
/-- The same, as the diagonal block writes it. -/
def mxD (S : FVec F S512x512 .f32) : FVec F S512x128 .f32 :=
  broadcastTo S512x128 (shapeCast S512x1 (shapeCast S512x1 (multiReduction .maximumf [1] S512 S 0xFF800000#32 reduces_S512x512_S512 (.inl rfl) rfl) shapeCasts_S512_S512x1) shapeCasts_S512x1_S512x1) broadcasts_S512x1_S512x128
/-- Exponentials of the first 128 columns of the scores, shifted by `M`. -/
def pgA (S : FVec F S512x512 .f32) (M : FVec F S512x128 .f32) : FVec F S512x128 .f32 := exp (subf (extractStridedSlice S512x128 ![0, 0] S slices_S512x512_o0_0_S512x128) M)
/-- Exponentials of the second 128 columns. -/
def pgB (S : FVec F S512x512 .f32) (M : FVec F S512x128 .f32) : FVec F S512x128 .f32 := exp (subf (extractStridedSlice S512x128 ![0, 128] S slices_S512x512_o0_128_S512x128) M)
/-- Exponentials of the third 128 columns. -/
def pgC (S : FVec F S512x512 .f32) (M : FVec F S512x128 .f32) : FVec F S512x128 .f32 := exp (subf (extractStridedSlice S512x128 ![0, 256] S slices_S512x512_o0_256_S512x128) M)
/-- Exponentials of the last 128 columns. -/
def pgD (S : FVec F S512x512 .f32) (M : FVec F S512x128 .f32) : FVec F S512x128 .f32 := exp (subf (extractStridedSlice S512x128 ![0, 384] S slices_S512x512_o0_384_S512x128) M)
/-- The four groups of columns added up, lane by lane. -/
def rowP (S : FVec F S512x512 .f32) (M : FVec F S512x128 .f32) : FVec F S512x128 .f32 := addf (addf (addf (pgA S M) (pgB S M)) (pgC S M)) (pgD S M)
/-- All 512 columns of exponentials. -/
def pmat (S : FVec F S512x512 .f32) (M : FVec F S512x128 .f32) : FVec F S512x512 .bf16 :=
  truncf .bf16 (concatenate S512x512 1 [⟨S512x128, pgA S M⟩, ⟨S512x128, pgB S M⟩, ⟨S512x128, pgC S M⟩, ⟨S512x128, pgD S M⟩] concatenates_S512x128_S512x128_S512x128_S512x128_S512x512_d1) bitsLt_bf16_f32
/-- Exponentials times values. -/
def pv (S : FVec F S512x512 .f32) (M : FVec F S512x128 .f32) (v : Vec F S512x128 .bf16) : FVec F S512x128 .f32 :=
  matmul dot_S512x512_S512x128_S512x128_1_0_0_1_n_n none (pmat S M) (shapeCast S512x128 v shapeCasts_S512x128_S512x128) (constant S512x128 .f32 0x00000000#32)
/-- A cast to the tile's own shape. -/
def same (x : FVec F S512x128 .f32) : FVec F S512x128 .f32 := shapeCast S512x128 x shapeCasts_S512x128_S512x128

/-- Running maximum after a block. -/
def mN (S : FVec F S512x512 .f32) (m : FVec F S512x128 .f32) : FVec F S512x128 .f32 := same (maximumf m (mxB S))
/-- Partial sums after a block. -/
def lN (S : FVec F S512x512 .f32) (m l : FVec F S512x128 .f32) : FVec F S512x128 .f32 :=
  same (addf (mulf (exp (subf m (maximumf m (mxB S)))) l) (rowP S (maximumf m (mxB S))))
/-- Accumulator after a block. -/
def aN (S : FVec F S512x512 .f32) (v : Vec F S512x128 .bf16) (m a : FVec F S512x128 .f32) : FVec F S512x128 .f32 :=
  same (addf (mulf (exp (subf m (maximumf m (mxB S)))) a) (pv S (maximumf m (mxB S)) v))

section Out
variable (i : grid0.Coords) (x5 : Vec F S512x128 .bf16) (x7 : Vec F S2048x128 .bf16) (KA : Vec F S2x2x2048x128 .bf16) (DB : Vec F S512x512 .f32)

theorem m0_eq : m0 i x5 KA DB = same (mxD (scD (qm0 x5) (kD0 i KA) DB)) := rfl
theorem l0_eq : l0 i x5 KA DB = same (rowP (scD (qm0 x5) (kD0 i KA) DB) (mxD (scD (qm0 x5) (kD0 i KA) DB))) := rfl
theorem a0_eq : a0 i x5 x7 KA DB = same (pv (scD (qm0 x5) (kD0 i KA) DB) (mxD (scD (qm0 x5) (kD0 i KA) DB)) (vD i x7)) := rfl
theorem n0_eq : n0 i x5 KA DB = same (mxD (scD (qm1 x5) (kD1 i KA) DB)) := rfl
theorem k0_eq : k0 i x5 KA DB = same (rowP (scD (qm1 x5) (kD1 i KA) DB) (mxD (scD (qm1 x5) (kD1 i KA) DB))) := rfl
theorem b0_eq : b0 i x5 x7 KA DB = same (pv (scD (qm1 x5) (kD1 i KA) DB) (mxD (scD (qm1 x5) (kD1 i KA) DB)) (vD i x7)) := rfl
theorem m1_eq : m1 i x5 KA DB = mN (scA (qa0 i x5) (kS00 i KA)) (m0 i x5 KA DB) := rfl
theorem l1_eq : l1 i x5 KA DB = lN (scA (qa0 i x5) (kS00 i KA)) (m0 i x5 KA DB) (l0 i x5 KA DB) := rfl
theorem a1_eq : a1 i x5 x7 KA DB = aN (scA (qa0 i x5) (kS00 i KA)) (vS0 i x7) (m0 i x5 KA DB) (a0 i x5 x7 KA DB) := rfl
theorem n1_eq : n1 i x5 KA DB = mN (scA (qa1 i x5) (kS01 i KA)) (n0 i x5 KA DB) := rfl
theorem k1_eq : k1 i x5 KA DB = lN (scA (qa1 i x5) (kS01 i KA)) (n0 i x5 KA DB) (k0 i x5 KA DB) := rfl
theorem b1_eq : b1 i x5 x7 KA DB = aN (scA (qa1 i x5) (kS01 i KA)) (vS0 i x7) (n0 i x5 KA DB) (b0 i x5 x7 KA DB) := rfl
theorem m2_eq : m2 i x5 KA DB = mN (scA (qa0 i x5) (kS10 i KA)) (m1 i x5 KA DB) := rfl
theorem l2_eq : l2 i x5 KA DB = lN (scA (qa0 i x5) (kS10 i KA)) (m1 i x5 KA DB) (l1 i x5 KA DB) := rfl
theorem a2_eq : a2 i x5 x7 KA DB = aN (scA (qa0 i x5) (kS10 i KA)) (vS1 i x7) (m1 i x5 KA DB) (a1 i x5 x7 KA DB) := rfl
theorem n2_eq : n2 i x5 KA DB = mN (scA (qa1 i x5) (kS11 i KA)) (n1 i x5 KA DB) := rfl
theorem k2_eq : k2 i x5 KA DB = lN (scA (qa1 i x5) (kS11 i KA)) (n1 i x5 KA DB) (k1 i x5 KA DB) := rfl
theorem b2_eq : b2 i x5 x7 KA DB = aN (scA (qa1 i x5) (kS11 i KA)) (vS1 i x7) (n1 i x5 KA DB) (b1 i x5 x7 KA DB) := rfl
theorem l3_eq : l3 i x5 KA DB = lN (scA (qa0 i x5) (kS20 i KA)) (m2 i x5 KA DB) (l2 i x5 KA DB) := rfl
theorem a3_eq : a3 i x5 x7 KA DB = aN (scA (qa0 i x5) (kS20 i KA)) (vS2 i x7) (m2 i x5 KA DB) (a2 i x5 x7 KA DB) := rfl
theorem k3_eq : k3 i x5 KA DB = lN (scA (qa1 i x5) (kS21 i KA)) (n2 i x5 KA DB) (k2 i x5 KA DB) := rfl
theorem b3_eq : b3 i x5 x7 KA DB = aN (scA (qa1 i x5) (kS21 i KA)) (vS2 i x7) (n2 i x5 KA DB) (b2 i x5 x7 KA DB) := rfl
end Out

end Cert.KernelIdeal.Att

end
-- ==== Proof.StepsI.lean ====
module

public import proofs.«01_k».proof.Proof.Steps
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal.Gen

/-! ## One block of keys over the reals -/

theorem scA_apply (Q : Vec Ideal S1x512x128 .bf16) (K : Vec Ideal S1x1x512x128 .bf16) (r c : Fin 512) :
    scA Q K (ix2 r c) = ∑ d : Fin 128, Q (ix3 (0 : Fin 1) r d) * K (ix4 (0 : Fin 1) (0 : Fin 1) c d) := by
  pointwise [scA]
theorem scD_apply (Q : FVec Ideal S512x128 .bf16) (K : Vec Ideal S1x1x512x128 .bf16) (DB : Vec Ideal S512x512 .f32) (r c : Fin 512) :
    scD Q K DB (ix2 r c) = (∑ d : Fin 128, Q (ix2 r d) * K (ix4 (0 : Fin 1) (0 : Fin 1) c d)) + DB (ix2 r c) := by
  pointwise [scD]

/-- The pattern of minus infinity is the least extended real. -/
theorem ninf_eq : Ideal.ofBits FTy.f32 4286578688#32 = (⊥ : EReal) := by
  simp [Ideal.ofBits, Ideal.ieee]

/-- The maximum of finitely many reals, at least one, is a real. -/
theorem fold_max_real {n : ℕ} (hn : 0 < n) (f : Fin n → ℝ) :
    ∃ μ : ℝ, Finset.univ.fold max (⊥ : EReal) (fun c : Fin n => ((f c : ℝ) : EReal)) = (μ : EReal) := by
  set X := Finset.univ.fold max (⊥ : EReal) (fun c : Fin n => ((f c : ℝ) : EReal)) with hX
  have h1 : X ≠ ⊥ := by
    intro h
    have : ((f ⟨0, hn⟩ : ℝ) : EReal) ≤ X := (Finset.le_fold_max _).2 (Or.inr ⟨⟨0, hn⟩, Finset.mem_univ _, le_rfl⟩)
    rw [h] at this
    exact absurd (le_bot_iff.1 this) (EReal.coe_ne_bot _)
  have h2 : X ≠ ⊤ := by
    have : X < ⊤ := (Finset.fold_max_lt _).2 ⟨bot_lt_top, fun c _ => EReal.coe_lt_top _⟩
    exact this.ne
  exact ⟨X.toReal, (EReal.coe_toReal h2 h1).symm⟩

theorem coe_fsum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem iexp_coe (x : ℝ) : Ideal.exp (x : EReal) = ((Real.exp x : ℝ) : EReal) := by
  simp only [Ideal.exp_coe]

theorem mxB_apply (S : FVec Ideal S512x512 .f32) (r : Fin 512) (d : Fin 128) :
    mxB S (ix2 r d) = Finset.univ.fold max (⊥ : EReal) (fun c : Fin 512 => S (ix2 r c)) := by
  pointwise [mxB]
  rw [ninf_eq]
theorem mxD_apply (S : FVec Ideal S512x512 .f32) (r : Fin 512) (d : Fin 128) :
    mxD S (ix2 r d) = Finset.univ.fold max (⊥ : EReal) (fun c : Fin 512 => S (ix2 r c)) := by
  pointwise [mxD]
  rw [ninf_eq]
theorem rowP_apply (S : FVec Ideal S512x512 .f32) (M : FVec Ideal S512x128 .f32) (r : Fin 512) (d : Fin 128) :
    rowP S M (ix2 r d) = Ideal.exp (S (ix2 r ⟨d.val, by omega⟩) - M (ix2 r d)) + Ideal.exp (S (ix2 r ⟨128 + d.val, by omega⟩) - M (ix2 r d)) +
        Ideal.exp (S (ix2 r ⟨256 + d.val, by omega⟩) - M (ix2 r d)) +
      Ideal.exp (S (ix2 r ⟨384 + d.val, by omega⟩) - M (ix2 r d)) := by
  pointwise [rowP, pgA, pgB, pgC, pgD]
theorem pmat_apply (S : FVec Ideal S512x512 .f32) (M : FVec Ideal S512x128 .f32) (r c : Fin 512) (x : EReal) (hM : ∀ d, M (ix2 r d) = x) :
    pmat S M (ix2 r c) = Ideal.exp (S (ix2 r c) - x) := by
  pointwise [pmat, pgA, pgB, pgC, pgD]
  simp only [hM]
  have e : ∀ a : Fin 512, a.val = c.val → Ideal.exp (S (ix2 r a) - x) = Ideal.exp (S (ix2 r c) - x) := fun a h => by rw [Fin.ext h]
  have := c.isLt
  split_ifs
  all_goals first | rfl | contradiction | exact e _ (by dsimp only; omega)
theorem pv_apply (S : FVec Ideal S512x512 .f32) (M : FVec Ideal S512x128 .f32) (v : Vec Ideal S512x128 .bf16) (r : Fin 512) (d : Fin 128) :
    pv S M v (ix2 r d) = ∑ c : Fin 512, pmat S M (ix2 r c) * v (ix2 c d) := by
  pointwise [pv]
theorem same_apply (x : FVec Ideal S512x128 .f32) (r : Fin 512) (d : Fin 128) : same x (ix2 r d) = x (ix2 r d) := by
  pointwise [same]
theorem mN_apply (S : FVec Ideal S512x512 .f32) (m : FVec Ideal S512x128 .f32) (r : Fin 512) (d : Fin 128) :
    mN S m (ix2 r d) = max (m (ix2 r d)) (mxB S (ix2 r d)) := by
  pointwise [mN, same]
theorem maxf_apply (S : FVec Ideal S512x512 .f32) (m : FVec Ideal S512x128 .f32) (r : Fin 512) (d : Fin 128) :
    maximumf m (mxB S) (ix2 r d) = max (m (ix2 r d)) (mxB S (ix2 r d)) := by
  pointwise
theorem lN_apply (S : FVec Ideal S512x512 .f32) (m l : FVec Ideal S512x128 .f32) (r : Fin 512) (d : Fin 128) :
    lN S m l (ix2 r d) = Ideal.exp (m (ix2 r d) - max (m (ix2 r d)) (mxB S (ix2 r d))) * l (ix2 r d) + rowP S (maximumf m (mxB S)) (ix2 r d) := by
  pointwise [lN, same]
theorem aN_apply (S : FVec Ideal S512x512 .f32) (v : Vec Ideal S512x128 .bf16) (m a : FVec Ideal S512x128 .f32) (r : Fin 512) (d : Fin 128) :
    aN S v m a (ix2 r d) = Ideal.exp (m (ix2 r d) - max (m (ix2 r d)) (mxB S (ix2 r d))) * a (ix2 r d) + pv S (maximumf m (mxB S)) v (ix2 r d) := by
  pointwise [aN, same]

/-- A sum over 512 columns, as a sum over 128 lanes of four columns each. -/
theorem sum_512 (f : Fin 512 → ℝ) : ∑ c, f c = ∑ d : Fin 128, (f ⟨d.val, by omega⟩ + f ⟨128 + d.val, by omega⟩ + f ⟨256 + d.val, by omega⟩ + f ⟨384 + d.val, by omega⟩) := by
  rw [Finset.sum_add_distrib, Finset.sum_add_distrib, Finset.sum_add_distrib]
  have h1 := Fin.sum_univ_add (a := 384) (b := 128) f
  have h2 := Fin.sum_univ_add (a := 256) (b := 128) (fun i : Fin 384 => f (Fin.castAdd 128 i))
  have h3 := Fin.sum_univ_add (a := 128) (b := 128) (fun i : Fin 256 => f (Fin.castAdd 128 (Fin.castAdd 128 i : Fin 384)))
  exact h1.trans (by rw [h2]; congr 1; congr 1)

/-- After the blocks whose exponentials add up to `L`, and whose exponentials times the values add up to `A`: the running
    maximum is one real `μ` on every lane, the partial sums add up to `exp (-μ) L` and the accumulator is `exp (-μ) A`.
    Nothing more is asked of `μ`: it cancels in the end. -/
def Inv (r : Fin 512) (m l a : FVec Ideal S512x128 .f32) (L : ℝ) (A : Fin 128 → ℝ) : Prop :=
  ∃ (μ : ℝ) (u : Fin 128 → ℝ), (∀ d : Fin 128, m (ix2 r d) = (μ : EReal)) ∧ (∀ d : Fin 128, l (ix2 r d) = ((u d : ℝ) : EReal))
    ∧ ∑ d, u d = Real.exp (-μ) * L ∧ ∀ d : Fin 128, a (ix2 r d) = ((Real.exp (-μ) * A d : ℝ) : EReal)

section Row
variable (S : FVec Ideal S512x512 .f32) (v : Vec Ideal S512x128 .bf16) (r : Fin 512) (s : Fin 512 → ℝ) (w : Fin 512 → Fin 128 → ℝ)
  (hS : ∀ c : Fin 512, S (ix2 r c) = ((s c : ℝ) : EReal)) (hv : ∀ (c : Fin 512) (d : Fin 128), v (ix2 c d) = ((w c d : ℝ) : EReal))
include hS

theorem mxB_real : ∃ μ : ℝ, ∀ d : Fin 128, mxB S (ix2 r d) = (μ : EReal) := by
  obtain ⟨μ, h⟩ := fold_max_real (by decide) s
  refine ⟨μ, fun d => ?_⟩
  rw [mxB_apply, ← h]
  simp only [hS]
theorem mxD_real : ∃ μ : ℝ, ∀ d : Fin 128, mxD S (ix2 r d) = (μ : EReal) := by
  obtain ⟨μ, h⟩ := fold_max_real (by decide) s
  refine ⟨μ, fun d => ?_⟩
  rw [mxD_apply, ← h]
  simp only [hS]

/-- What the four groups of a block add up to. -/
def rowU (s : Fin 512 → ℝ) (μ : ℝ) (d : Fin 128) : ℝ :=
  Real.exp (s ⟨d.val, by omega⟩ - μ) + Real.exp (s ⟨128 + d.val, by omega⟩ - μ) + Real.exp (s ⟨256 + d.val, by omega⟩ - μ) + Real.exp (s ⟨384 + d.val, by omega⟩ - μ)
omit hS in
theorem sum_rowU (μ : ℝ) : ∑ d, rowU s μ d = Real.exp (-μ) * ∑ c, Real.exp (s c) := by
  rw [Finset.mul_sum]
  refine (sum_512 (fun c => Real.exp (s c - μ))).symm.trans ?_
  exact Finset.sum_congr rfl fun c _ => by rw [← Real.exp_add]; ring_nf

theorem rowP_real (M : FVec Ideal S512x128 .f32) (μ : ℝ) (hM : ∀ d : Fin 128, M (ix2 r d) = (μ : EReal)) (d : Fin 128) :
    rowP S M (ix2 r d) = ((rowU s μ d : ℝ) : EReal) := by
  rw [rowP_apply, hM]
  simp only [hS, ← EReal.coe_sub, iexp_coe, ← EReal.coe_add, rowU]

include hv in
theorem pv_real (M : FVec Ideal S512x128 .f32) (μ : ℝ) (hM : ∀ d : Fin 128, M (ix2 r d) = (μ : EReal)) (d : Fin 128) :
    pv S M v (ix2 r d) = ((Real.exp (-μ) * ∑ c, Real.exp (s c) * w c d : ℝ) : EReal) := by
  rw [pv_apply, Finset.mul_sum, ← coe_fsum]
  refine Finset.sum_congr rfl fun c _ => ?_
  rw [pmat_apply S M r c _ hM, hS, hv, ← EReal.coe_sub, iexp_coe, ← EReal.coe_mul, ← mul_assoc, ← Real.exp_add]
  congr 3; ring

include hv in
/-- The diagonal block starts the recursion. -/
theorem inv_start : Inv r (same (mxD S)) (same (rowP S (mxD S))) (same (pv S (mxD S) v)) (∑ c, Real.exp (s c)) (fun d => ∑ c, Real.exp (s c) * w c d) := by
  obtain ⟨μ, hM⟩ := mxD_real S r s hS
  refine ⟨μ, rowU s μ, fun d => ?_, fun d => ?_, sum_rowU s μ, fun d => ?_⟩
  · rw [same_apply, hM]
  · rw [same_apply, rowP_real S r s hS _ μ hM]
  · rw [same_apply, pv_real S v r s w hS hv _ μ hM]

include hv in
/-- Every further block carries it on. -/
theorem inv_step (m l a : FVec Ideal S512x128 .f32) (L : ℝ) (A : Fin 128 → ℝ) (h : Inv r m l a L A) :
    Inv r (mN S m) (lN S m l) (aN S v m a) (L + ∑ c, Real.exp (s c)) (fun d => A d + ∑ c, Real.exp (s c) * w c d) := by
  obtain ⟨μ, u, hm, hl, hu, ha⟩ := h
  obtain ⟨ν, hν⟩ := mxB_real S r s hS
  have hM : ∀ d : Fin 128, maximumf m (mxB S) (ix2 r d) = ((max μ ν : ℝ) : EReal) := fun d => by
    rw [maxf_apply, hm, hν]; exact (EReal.coe_strictMono.monotone.map_max).symm
  have hM' : ∀ d : Fin 128, max (m (ix2 r d)) (mxB S (ix2 r d)) = ((max μ ν : ℝ) : EReal) := fun d => by rw [← maxf_apply, hM]
  refine ⟨max μ ν, fun d => Real.exp (μ - max μ ν) * u d + rowU s (max μ ν) d, fun d => ?_, fun d => ?_, ?_, fun d => ?_⟩
  · rw [mN_apply, hM']
  · rw [lN_apply, hM', hm, hl, rowP_real S r s hS _ _ hM, ← EReal.coe_sub, iexp_coe, ← EReal.coe_mul, ← EReal.coe_add]
  · rw [Finset.sum_add_distrib, ← Finset.mul_sum, hu, sum_rowU, mul_add, ← mul_assoc, ← Real.exp_add]
    congr 3; ring
  · rw [aN_apply, hM', hm, ha, pv_real S v r s w hS hv _ _ hM, ← EReal.coe_sub, iexp_coe, ← EReal.coe_mul, ← EReal.coe_add, ← mul_assoc, ← Real.exp_add, mul_add]
    congr 4; ring
end Row

end Cert.KernelIdeal.Att

end
-- ==== Proof.KA.lean ====
module

public import proofs.«01_k».proof.Proof.StepsI
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal.Gen

/-! ## The augmented queries and keys, entry by entry -/

theorem sel_if {α : Type} (p : Prop) [Decidable p] (c : BitVec 1) (a b : α) (h : c = if p then 1#1 else 0#1) :
    Scalar.select c a b = if p then a else b := by
  subst h
  split_ifs <;> rfl
theorem lane_slt : ∀ d : Fin 128, IntOp.cmpi CmpIPredicate.slt (BitVec.ofNat 32 d.val) 64#32 = if d.val < 64 then 1#1 else 0#1 := by decide +kernel
theorem lane_sge : ∀ d : Fin 128, IntOp.cmpi CmpIPredicate.sge (BitVec.ofNat 32 d.val) 64#32 = if 64 ≤ d.val then 1#1 else 0#1 := by decide +kernel
theorem lane_eq0 : ∀ d : Fin 128, IntOp.cmpi CmpIPredicate.eq (BitVec.ofNat 32 d.val) 0#32 = if d.val = 0 then 1#1 else 0#1 := by decide +kernel
theorem lane_eq1 : ∀ d : Fin 128, IntOp.cmpi CmpIPredicate.eq (BitVec.ofNat 32 d.val) 1#32 = if d.val = 1 then 1#1 else 0#1 := by decide +kernel
theorem lane_eq2 : ∀ d : Fin 128, IntOp.cmpi CmpIPredicate.eq (BitVec.ofNat 32 d.val) 2#32 = if d.val = 2 then 1#1 else 0#1 := by decide +kernel
theorem lane_eq3 : ∀ d : Fin 128, IntOp.cmpi CmpIPredicate.eq (BitVec.ofNat 32 d.val) 3#32 = if d.val = 3 then 1#1 else 0#1 := by decide +kernel
theorem lane_eq64 : ∀ d : Fin 128, IntOp.cmpi CmpIPredicate.eq (BitVec.ofNat 32 d.val) 64#32 = if d.val = 64 then 1#1 else 0#1 := by decide +kernel
theorem lane_eq65 : ∀ d : Fin 128, IntOp.cmpi CmpIPredicate.eq (BitVec.ofNat 32 d.val) 65#32 = if d.val = 65 then 1#1 else 0#1 := by decide +kernel
theorem lane_eq66 : ∀ d : Fin 128, IntOp.cmpi CmpIPredicate.eq (BitVec.ofNat 32 d.val) 66#32 = if d.val = 66 then 1#1 else 0#1 := by decide +kernel
theorem lane_eq67 : ∀ d : Fin 128, IntOp.cmpi CmpIPredicate.eq (BitVec.ofNat 32 d.val) 67#32 = if d.val = 67 then 1#1 else 0#1 := by decide +kernel
theorem pos_hi : ∀ (k : Fin 4) (r : Fin 512), (IntOp.shrsi ArithUnit.vector (IntOp.addi (Scalar.muli (Scf.iv 0#32 1#32 k.val) 512#32) (BitVec.ofNat 32 r.val)) 6#32).toInt = (((512 * k.val + r.val) / 64 : ℕ) : ℤ) := by decide +kernel
theorem pos_lo : ∀ (k : Fin 4) (r : Fin 512), (IntOp.andi (IntOp.addi (Scalar.muli (Scf.iv 0#32 1#32 k.val) 512#32) (BitVec.ofNat 32 r.val)) 63#32).toInt = (((512 * k.val + r.val) % 64 : ℕ) : ℤ) := by decide +kernel
theorem qpos_hi : ∀ (k : Fin 4) (r : Fin 512), (IntOp.shrsi ArithUnit.vector (IntOp.addi (Scalar.muli (BitVec.ofNat 32 k.val) 512#32) (BitVec.ofNat 32 r.val)) 6#32).toInt = (((512 * k.val + r.val) / 64 : ℕ) : ℤ) := by decide +kernel
theorem qpos_lo : ∀ (k : Fin 4) (r : Fin 512), (IntOp.andi (IntOp.addi (Scalar.muli (BitVec.ofNat 32 k.val) 512#32) (BitVec.ofNat 32 r.val)) 63#32).toInt = (((512 * k.val + r.val) % 64 : ℕ) : ℤ) := by decide +kernel
theorem sitofp_nat (x : BitVec 32) (n : ℕ) (h : x.toInt = (n : ℤ)) : (FloatOps.sitofp (F := Ideal) FTy.f32 x : EReal) = ((n : ℝ) : EReal) := by
  show ((x.toInt : ℝ) : EReal) = _
  rw [h]; simp
theorem m64_eq : Ideal.ofBits FTy.f32 3263168512#32 = ((-64 : ℝ) : EReal) := by
  simp [Ideal.ofBits, Ideal.ieee, -EReal.coe_mul]; norm_num
theorem p64_eq : Ideal.ofBits FTy.f32 1115684864#32 = ((64 : ℝ) : EReal) := by
  simp [Ideal.ofBits, Ideal.ieee, -EReal.coe_mul]; norm_num

/-- Position features of a key, by feature number. -/
def featK (sl : ℝ) (pos e : ℕ) : ℝ :=
  if e = 0 then -64 * sl else if e = 1 then 0 - sl else if e = 2 then 64 * sl * ((pos / 64 : ℕ) : ℝ) else if e = 3 then sl * ((pos % 64 : ℕ) : ℝ) else 0
/-- Position features of a query. -/
def featQ (pos e : ℕ) : ℝ :=
  if e = 0 then ((pos / 64 : ℕ) : ℝ) else if e = 1 then ((pos % 64 : ℕ) : ℝ) else if e = 2 then 1 else if e = 3 then 1 else 0

theorem feat_sum (sl : ℝ) (p j : ℕ) : ∑ e : Fin 64, featQ p e.val * featK sl j e.val = sl * ((j : ℝ) - (p : ℝ)) := by
  rw [Fin.sum_univ_add (a := 4) (b := 60) (fun e : Fin 64 => featQ p e.val * featK sl j e.val), Fin.sum_univ_four]
  rw [Finset.sum_eq_zero (s := (Finset.univ : Finset (Fin 60)))]
  · have hp : (p : ℝ) = 64 * ((p / 64 : ℕ) : ℝ) + ((p % 64 : ℕ) : ℝ) := by exact_mod_cast (Nat.div_add_mod p 64).symm
    have hj : (j : ℝ) = 64 * ((j / 64 : ℕ) : ℝ) + ((j % 64 : ℕ) : ℝ) := by exact_mod_cast (Nat.div_add_mod j 64).symm
    simp [featQ, featK, Fin.castAdd, Fin.castLE]
    rw [hp, hj]; push_cast; ring
  · intro e _
    have : featQ p (Fin.natAdd 4 e).val = 0 := by
      have h : 4 ≤ (Fin.natAdd 4 e : Fin 64).val := by simp
      unfold featQ
      rw [if_neg (by omega), if_neg (by omega), if_neg (by omega), if_neg (by omega)]
    rw [this, zero_mul]

theorem pay7_apply (sl : ℝ) (k : Fin k0_t1_loop.trips) (hk : k.val < 4) (r : Fin 512) (d : Fin 128) (hd : 64 ≤ d.val) :
    k0_pay7 (F := Ideal) ((sl : ℝ) : EReal) laneI rowI 0#32 1#32 k (ix2 r d) = ((featK sl (512 * k.val + r.val) (d.val - 64) : ℝ) : EReal) := by
  pointwise [k0_pay7, k0_pay4, k0_pay5, k0_pay3]
  rw [sel_if _ _ _ _ (lane_eq64 d), sel_if _ _ _ _ (lane_eq65 d), sel_if _ _ _ _ (lane_eq66 d), sel_if _ _ _ _ (lane_eq67 d),
    sitofp_nat _ _ (pos_hi ⟨k.val, hk⟩ r), sitofp_nat _ _ (pos_lo ⟨k.val, hk⟩ r), m64_eq, p64_eq]
  have c0 : (d.val - 64 = 0) = (d.val = 64) := by apply propext; omega
  have c1 : (d.val - 64 = 1) = (d.val = 65) := by apply propext; omega
  have c2 : (d.val - 64 = 2) = (d.val = 66) := by apply propext; omega
  have c3 : (d.val - 64 = 3) = (d.val = 67) := by apply propext; omega
  simp only [featK, c0, c1, c2, c3]
  split_ifs <;> simp only [EReal.coe_mul, EReal.coe_sub, EReal.coe_zero]
theorem pay11_apply (sl : ℝ) (k : Fin k0_t1_loop.trips) (hk : k.val < 4) (r : Fin 512) (d : Fin 128) :
    k0_pay11 (F := Ideal) ((sl : ℝ) : EReal) laneI (k0_pay4 rowI 0#32 1#32 k) (k0_pay5 rowI 0#32 1#32 k) (ix2 r d) = ((featK sl (512 * k.val + r.val) d.val : ℝ) : EReal) := by
  pointwise [k0_pay11, k0_pay4, k0_pay5, k0_pay3]
  rw [sel_if _ _ _ _ (lane_eq0 d), sel_if _ _ _ _ (lane_eq1 d), sel_if _ _ _ _ (lane_eq2 d), sel_if _ _ _ _ (lane_eq3 d),
    sitofp_nat _ _ (pos_hi ⟨k.val, hk⟩ r), sitofp_nat _ _ (pos_lo ⟨k.val, hk⟩ r), m64_eq, p64_eq]
  simp only [featK]
  split_ifs <;> simp only [EReal.coe_mul, EReal.coe_sub, EReal.coe_zero]

/-! The four copies of the keys. -/

theorem pay8_apply (sl : ℝ) (k : Fin k0_t1_loop.trips) (hk : k.val < 4) (x : Vec Ideal S512x128 .bf16) (r : Fin 512) (d : Fin 128) :
    k0_pay8 (F := Ideal) ((sl : ℝ) : EReal) laneI rowI 0#32 1#32 k x (ix4 (0 : Fin 1) (0 : Fin 1) r d)
      = if d.val < 64 then x (ix2 r d) else ((featK sl (512 * k.val + r.val) (d.val - 64) : ℝ) : EReal) := by
  pointwise [k0_pay8, k0_pay6, k0_pay2]
  rw [sel_if _ _ _ _ (lane_slt d)]
  split_ifs with h
  · rfl
  · exact pay7_apply sl k hk r d (by omega)
theorem pay9_apply (sl : ℝ) (k : Fin k0_t1_loop.trips) (hk : k.val < 4) (x : Vec Ideal S512x128 .bf16) (r : Fin 512) (d : Fin 128) :
    k0_pay9 (F := Ideal) (k0_pay2 x) (k0_pay6 laneI) (k0_pay7 (F := Ideal) ((sl : ℝ) : EReal) laneI rowI 0#32 1#32 k) (ix4 (0 : Fin 1) (0 : Fin 1) r d)
      = if d.val < 64 then x (ix2 r d) else ((0 - featK sl (512 * k.val + r.val) (d.val - 64) : ℝ) : EReal) := by
  pointwise [k0_pay9, k0_pay6, k0_pay2]
  rw [sel_if _ _ _ _ (lane_slt d)]
  split_ifs with h
  · rfl
  · rw [pay7_apply sl k hk r d (by omega), EReal.coe_sub, EReal.coe_zero]
theorem pay12_apply (sl : ℝ) (k : Fin k0_t1_loop.trips) (hk : k.val < 4) (x : Vec Ideal S512x128 .bf16) (r : Fin 512) (d : Fin 128) :
    k0_pay12 (F := Ideal) ((sl : ℝ) : EReal) laneI (k0_pay2 x) (k0_pay4 rowI 0#32 1#32 k) (k0_pay5 rowI 0#32 1#32 k) (ix4 (0 : Fin 1) (0 : Fin 1) r d)
      = if 64 ≤ d.val then x (ix2 r d) else ((featK sl (512 * k.val + r.val) d.val : ℝ) : EReal) := by
  pointwise [k0_pay12, k0_pay10, k0_pay2]
  rw [sel_if _ _ _ _ (lane_sge d)]
  split_ifs with h
  · rfl
  · exact pay11_apply sl k hk r d
theorem pay16_apply (sl : ℝ) (k : Fin k0_t1_loop.trips) (hk : k.val < 4) (x : Vec Ideal S512x128 .bf16) (r : Fin 512) (d : Fin 128) :
    k0_pay16 (F := Ideal) (k0_pay2 x) (k0_pay10 laneI) (k0_pay13 (F := Ideal) ((sl : ℝ) : EReal) laneI (k0_pay4 rowI 0#32 1#32 k) (k0_pay5 rowI 0#32 1#32 k)) (ix4 (0 : Fin 1) (0 : Fin 1) r d)
      = if 64 ≤ d.val then x (ix2 r d) else ((0 - featK sl (512 * k.val + r.val) d.val : ℝ) : EReal) := by
  pointwise [k0_pay16, k0_pay13, k0_pay10, k0_pay2]
  rw [sel_if _ _ _ _ (lane_sge d)]
  split_ifs with h
  · rfl
  · rw [pay11_apply sl k hk r d, EReal.coe_sub, EReal.coe_zero]

/-- The sign of the features on each side of the diagonal. -/
def sgn (sd : ℕ) : ℝ := if sd = 0 then 1 else -1
/-- An augmented key of the first map. -/
def kR0 (sl : ℝ) (sd row : ℕ) (k : Fin 128 → ℝ) (d : Fin 128) : ℝ := if d.val < 64 then k d else sgn sd * featK sl row (d.val - 64)
/-- An augmented key of the second map. -/
def kR1 (sl : ℝ) (sd row : ℕ) (k : Fin 128 → ℝ) (d : Fin 128) : ℝ := if 64 ≤ d.val then k d else sgn sd * featK sl row d.val

section KA
variable (sl : ℝ) (x6 : Vec Ideal S2048x128 .bf16) (kr : Fin 2048 → Fin 128 → ℝ) (hx : ∀ (j : Fin 2048) (d : Fin 128), x6 (ix2 j d) = ((kr j d : ℝ) : EReal))
include hx

theorem keyBlk_apply (j : Fin 2048) (d : Fin 128) : keyBlk x6 (tripOf j) (ix2 (⟨j.val % 512, Nat.mod_lt _ (by decide)⟩ : Fin 512) d) = ((kr j d : ℝ) : EReal) := by
  rw [← hx]
  refine congrArg x6 ?_
  funext a
  refine Fin.ext ?_
  match a with
  | 0 => exact Nat.div_add_mod j.val 512
  | 1 => rfl

theorem kaug0_apply (sd : Fin 2) (j : Fin 2048) (d : Fin 128) :
    kaug (F := Ideal) ((sl : ℝ) : EReal) x6 (ix4 (0 : Fin 2) sd j d) = ((kR0 sl sd.val j.val (kr j) d : ℝ) : EReal) := by
  have hk : (tripOf j).val < 4 := by show j.val / 512 < 4; have := j.isLt; omega
  have hp : 512 * (tripOf j).val + j.val % 512 = j.val := Nat.div_add_mod j.val 512
  by_cases h : sd.val = 0
  · unfold kaug
    dsimp only
    rw [if_pos (show (((ix4 (0 : Fin 2) sd j d : S2x2x2048x128.Idx) 0).val = 0) from rfl), if_pos (show (((ix4 (0 : Fin 2) sd j d : S2x2x2048x128.Idx) 1).val = 0) from h)]
    refine Eq.trans (pay8_apply sl (tripOf j) hk (keyBlk x6 (tripOf j)) ⟨j.val % 512, Nat.mod_lt _ (by decide)⟩ d) ?_
    rw [keyBlk_apply x6 kr hx]
    dsimp only
    rw [hp]
    unfold kR0 sgn
    rw [if_pos h, one_mul]
    split_ifs <;> rfl
  · unfold kaug
    dsimp only
    rw [if_pos (show (((ix4 (0 : Fin 2) sd j d : S2x2x2048x128.Idx) 0).val = 0) from rfl), if_neg (show ¬ (((ix4 (0 : Fin 2) sd j d : S2x2x2048x128.Idx) 1).val = 0) from h)]
    refine Eq.trans (pay9_apply sl (tripOf j) hk (keyBlk x6 (tripOf j)) ⟨j.val % 512, Nat.mod_lt _ (by decide)⟩ d) ?_
    rw [keyBlk_apply x6 kr hx]
    dsimp only
    rw [hp]
    unfold kR0 sgn
    rw [if_neg h, neg_one_mul, zero_sub]
    split_ifs <;> rfl
theorem kaug1_apply (sd : Fin 2) (j : Fin 2048) (d : Fin 128) :
    kaug (F := Ideal) ((sl : ℝ) : EReal) x6 (ix4 (1 : Fin 2) sd j d) = ((kR1 sl sd.val j.val (kr j) d : ℝ) : EReal) := by
  have hk : (tripOf j).val < 4 := by show j.val / 512 < 4; have := j.isLt; omega
  have hp : 512 * (tripOf j).val + j.val % 512 = j.val := Nat.div_add_mod j.val 512
  have h1 : ¬ ((1 : Fin 2).val = 0) := by decide
  by_cases h : sd.val = 0
  · unfold kaug
    dsimp only
    rw [if_neg (show ¬ (((ix4 (1 : Fin 2) sd j d : S2x2x2048x128.Idx) 0).val = 0) from h1), if_pos (show (((ix4 (1 : Fin 2) sd j d : S2x2x2048x128.Idx) 1).val = 0) from h)]
    refine Eq.trans (pay12_apply sl (tripOf j) hk (keyBlk x6 (tripOf j)) ⟨j.val % 512, Nat.mod_lt _ (by decide)⟩ d) ?_
    rw [keyBlk_apply x6 kr hx]
    dsimp only
    rw [hp]
    unfold kR1 sgn
    rw [if_pos h, one_mul]
    split_ifs <;> rfl
  · unfold kaug
    dsimp only
    rw [if_neg (show ¬ (((ix4 (1 : Fin 2) sd j d : S2x2x2048x128.Idx) 0).val = 0) from h1), if_neg (show ¬ (((ix4 (1 : Fin 2) sd j d : S2x2x2048x128.Idx) 1).val = 0) from h)]
    refine Eq.trans (pay16_apply sl (tripOf j) hk (keyBlk x6 (tripOf j)) ⟨j.val % 512, Nat.mod_lt _ (by decide)⟩ d) ?_
    rw [keyBlk_apply x6 kr hx]
    dsimp only
    rw [hp]
    unfold kR1 sgn
    rw [if_neg h, neg_one_mul, zero_sub]
    split_ifs <;> rfl
end KA

end Cert.KernelIdeal.Att

end
-- ==== Proof.Sc.lean ====
module

public import proofs.«01_k».proof.Proof.KA
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal.Gen

/-! ## Scores, over the reals -/

/-- Score of a query at position `p` against the key at position `j`, first map: the product over the first
    64 lanes, less the slope times the distance. -/
def sc0 (sl : ℝ) (x : Fin 128 → ℝ) (p : ℕ) (k : Fin 128 → ℝ) (j : ℕ) : ℝ :=
  (∑ e : Fin 64, x ⟨e.val, by omega⟩ * k ⟨e.val, by omega⟩) - sl * |(p : ℝ) - (j : ℝ)|
/-- The same for the second map, over the last 64 lanes. -/
def sc1 (sl : ℝ) (x : Fin 128 → ℝ) (p : ℕ) (k : Fin 128 → ℝ) (j : ℕ) : ℝ :=
  (∑ e : Fin 64, x ⟨64 + e.val, by omega⟩ * k ⟨64 + e.val, by omega⟩) - sl * |(p : ℝ) - (j : ℝ)|

/-- An augmented query of the first map. -/
def qR0 (p : ℕ) (x : Fin 128 → ℝ) (d : Fin 128) : ℝ := if d.val < 64 then x d else featQ p (d.val - 64)
/-- An augmented query of the second map. -/
def qR1 (p : ℕ) (x : Fin 128 → ℝ) (d : Fin 128) : ℝ := if 64 ≤ d.val then x d else featQ p d.val

/-- A sum over 128 lanes, half by half. -/
theorem sum_128 (f : Fin 128 → ℝ) : ∑ d, f d = (∑ e : Fin 64, f ⟨e.val, by omega⟩) + ∑ e : Fin 64, f ⟨64 + e.val, by omega⟩ :=
  Fin.sum_univ_add (a := 64) (b := 64) f

theorem sgn_dist (sl : ℝ) (sd p j : ℕ) (h : (sd = 0 ∧ j ≤ p) ∨ (sd = 1 ∧ p ≤ j)) : sgn sd * (sl * ((j : ℝ) - (p : ℝ))) = -(sl * |(p : ℝ) - (j : ℝ)|) := by
  rcases h with ⟨h, hj⟩ | ⟨h, hj⟩
  · have : (j : ℝ) ≤ p := by exact_mod_cast hj
    rw [abs_of_nonneg (by linarith), h, sgn, if_pos rfl]; ring
  · have : (p : ℝ) ≤ j := by exact_mod_cast hj
    rw [abs_of_nonpos (by linarith), h, sgn, if_neg (by decide)]; ring

theorem dot0 (sl : ℝ) (x k : Fin 128 → ℝ) (sd p j : ℕ) (h : (sd = 0 ∧ j ≤ p) ∨ (sd = 1 ∧ p ≤ j)) :
    ∑ d, qR0 p x d * kR0 sl sd j k d = sc0 sl x p k j := by
  rw [sum_128, sc0, sub_eq_add_neg, ← sgn_dist sl sd p j h, ← feat_sum, Finset.mul_sum]
  refine congrArg₂ (· + ·) ?_ ?_
  · exact Finset.sum_congr rfl fun e _ => by
      have := e.isLt
      simp only [qR0, kR0, if_pos this]
  · exact Finset.sum_congr rfl fun e _ => by
      have : ¬ (64 + e.val < 64) := by omega
      simp only [qR0, kR0, if_neg this, Nat.add_sub_cancel_left]; ring
theorem dot1 (sl : ℝ) (x k : Fin 128 → ℝ) (sd p j : ℕ) (h : (sd = 0 ∧ j ≤ p) ∨ (sd = 1 ∧ p ≤ j)) :
    ∑ d, qR1 p x d * kR1 sl sd j k d = sc1 sl x p k j := by
  rw [sum_128, sc1, sub_eq_add_neg, ← sgn_dist sl sd p j h, ← feat_sum, Finset.mul_sum, add_comm]
  refine congrArg₂ (· + ·) ?_ ?_
  · exact Finset.sum_congr rfl fun e _ => by
      have : 64 ≤ 64 + e.val := by omega
      simp only [qR1, kR1, if_pos this]
  · exact Finset.sum_congr rfl fun e _ => by
      have : ¬ (64 ≤ e.val) := by omega
      simp only [qR1, kR1, if_neg this]; ring
theorem dotD0 (sl : ℝ) (x k : Fin 128 → ℝ) (j : ℕ) :
    ∑ d : Fin 128, (if d.val < 64 then x d else 0) * kR0 sl 0 j k d = ∑ e : Fin 64, x ⟨e.val, by omega⟩ * k ⟨e.val, by omega⟩ := by
  rw [sum_128, Finset.sum_eq_zero (s := Finset.univ) (f := fun e : Fin 64 => (if (⟨64 + e.val, by omega⟩ : Fin 128).val < 64 then x ⟨64 + e.val, by omega⟩ else 0) * kR0 sl 0 j k ⟨64 + e.val, by omega⟩), add_zero]
  · exact Finset.sum_congr rfl fun e _ => by
      have := e.isLt
      simp only [kR0, if_pos this]
  · intro e _
    rw [if_neg (by simp), zero_mul]
theorem dotD1 (sl : ℝ) (x k : Fin 128 → ℝ) (j : ℕ) :
    ∑ d : Fin 128, (if 64 ≤ d.val then x d else 0) * kR1 sl 0 j k d = ∑ e : Fin 64, x ⟨64 + e.val, by omega⟩ * k ⟨64 + e.val, by omega⟩ := by
  rw [sum_128, Finset.sum_eq_zero (s := Finset.univ) (f := fun e : Fin 64 => (if 64 ≤ (⟨e.val, by omega⟩ : Fin 128).val then x ⟨e.val, by omega⟩ else 0) * kR1 sl 0 j k ⟨e.val, by omega⟩), zero_add]
  · exact Finset.sum_congr rfl fun e _ => by
      have : 64 ≤ 64 + e.val := by omega
      simp only [kR1, if_pos this]
  · intro e _
    rw [if_neg (by simp), zero_mul]

/-! ## The queries, masked and augmented -/

theorem one_eq : Ideal.ofBits FTy.f32 1065353216#32 = ((1 : ℝ) : EReal) := by
  simp [Ideal.ofBits, Ideal.ieee, -EReal.coe_mul]; norm_num

section Q
variable (i : grid0.Coords) (x5 : Vec Ideal S512x128 .bf16) (r : Fin 512) (x : Fin 128 → ℝ) (hq : ∀ d : Fin 128, x5 (ix2 r d) = ((x d : ℝ) : EReal))
include hq

theorem qm0_apply (d : Fin 128) : qm0 x5 (ix2 r d) = (((if d.val < 64 then x d else 0) : ℝ) : EReal) := by
  pointwise [qm0, k0_pay27, k0_pay17, k0_pay19]
  rw [sel_if _ _ _ _ (lane_slt d), hq]
  split_ifs
  · rfl
  · simp [Ideal.ofBits, Ideal.ieee]
theorem qm1_apply (d : Fin 128) : qm1 x5 (ix2 r d) = (((if 64 ≤ d.val then x d else 0) : ℝ) : EReal) := by
  pointwise [qm1, k0_pay30, k0_pay17, k0_pay28]
  rw [sel_if _ _ _ _ (lane_sge d), hq]
  split_ifs
  · rfl
  · simp [Ideal.ofBits, Ideal.ieee]
theorem qa0_apply (d : Fin 128) : qa0 i x5 (ix3 (0 : Fin 1) r d) = ((qR0 (512 * (i 2).val + r.val) x d : ℝ) : EReal) := by
  pointwise [qa0, k0_pay26, k0_pay17, k0_pay19, k0_pay22, k0_pay23, k0_pay24, k0_pay25, k0_pay20, k0_pay21, k0_pay18]
  rw [sel_if _ _ _ _ (lane_slt d), sel_if _ _ _ _ (lane_eq64 d), sel_if _ _ _ _ (lane_eq65 d), sel_if _ _ _ _ (lane_eq66 d), sel_if _ _ _ _ (lane_eq67 d),
    sitofp_nat _ _ (qpos_hi ⟨(i 2).val, (i 2).isLt⟩ r), sitofp_nat _ _ (qpos_lo ⟨(i 2).val, (i 2).isLt⟩ r), hq]
  unfold qR0 featQ
  by_cases h : d.val < 64
  · rw [if_pos h, if_pos h]
  · have c0 : (d.val - 64 = 0) = (d.val = 64) := by apply propext; omega
    have c1 : (d.val - 64 = 1) = (d.val = 65) := by apply propext; omega
    have c2 : (d.val - 64 = 2) = (d.val = 66) := by apply propext; omega
    have c3 : (d.val - 64 = 3) = (d.val = 67) := by apply propext; omega
    rw [if_neg h, if_neg h]
    simp only [c0, c1, c2, c3]
    split_ifs <;> simp
theorem qa1_apply (d : Fin 128) : qa1 i x5 (ix3 (0 : Fin 1) r d) = ((qR1 (512 * (i 2).val + r.val) x d : ℝ) : EReal) := by
  pointwise [qa1, k0_pay29, k0_pay17, k0_pay28, k0_pay18]
  rw [sel_if _ _ _ _ (lane_sge d), sel_if _ _ _ _ (lane_eq0 d), sel_if _ _ _ _ (lane_eq1 d), sel_if _ _ _ _ (lane_eq2 d), sel_if _ _ _ _ (lane_eq3 d),
    sitofp_nat _ _ (qpos_hi ⟨(i 2).val, (i 2).isLt⟩ r), sitofp_nat _ _ (qpos_lo ⟨(i 2).val, (i 2).isLt⟩ r), hq]
  unfold qR1 featQ
  split_ifs <;> simp
end Q

theorem abs_small : ∀ n : Fin 2048, (IntOp.absi (BitVec.ofNat 32 n.val)).toInt = (n.val : ℤ) ∧ (IntOp.absi (-(BitVec.ofNat 32 n.val))).toInt = (n.val : ℤ) := by decide +kernel
theorem abs_toInt (a b : ℕ) (ha : a < 2048) (hb : b < 2048) : (IntOp.absi (IntOp.subi (BitVec.ofNat 32 a) (BitVec.ofNat 32 b))).toInt = |(a : ℤ) - (b : ℤ)| := by
  rcases Nat.le_total b a with h | h
  · obtain ⟨n, rfl⟩ := Nat.exists_eq_add_of_le h
    have e : IntOp.subi (BitVec.ofNat 32 (b + n)) (BitVec.ofNat 32 b) = BitVec.ofNat 32 n := by
      show BitVec.ofNat 32 (b + n) - BitVec.ofNat 32 b = _
      rw [BitVec.ofNat_add]
      generalize BitVec.ofNat 32 b = u
      generalize BitVec.ofNat 32 n = w
      rw [BitVec.add_comm, BitVec.add_sub_cancel]
    rw [e, (abs_small ⟨n, by omega⟩).1]
    push_cast
    rw [add_sub_cancel_left, abs_of_nonneg (by positivity)]
  · obtain ⟨n, rfl⟩ := Nat.exists_eq_add_of_le h
    have e : IntOp.subi (BitVec.ofNat 32 a) (BitVec.ofNat 32 (a + n)) = -(BitVec.ofNat 32 n) := by
      show BitVec.ofNat 32 a - BitVec.ofNat 32 (a + n) = _
      rw [BitVec.ofNat_add]
      generalize BitVec.ofNat 32 a = u
      generalize BitVec.ofNat 32 n = w
      rw [BitVec.sub_eq_add_neg, BitVec.neg_add, BitVec.sub_eq_add_neg, ← BitVec.add_assoc, ← BitVec.sub_eq_add_neg u u, BitVec.sub_self, BitVec.zero_add]
    rw [e, (abs_small ⟨n, by omega⟩).2]
    push_cast
    rw [sub_add_cancel_left, abs_neg, abs_of_nonneg (by positivity)]
theorem abs_float (a b : ℕ) (ha : a < 2048) (hb : b < 2048) :
    (FloatOps.sitofp (F := Ideal) FTy.f32 (IntOp.absi (IntOp.subi (BitVec.ofNat 32 a) (BitVec.ofNat 32 b))) : EReal) = ((|(a : ℝ) - (b : ℝ)| : ℝ) : EReal) := by
  show (((IntOp.absi (IntOp.subi (BitVec.ofNat 32 a) (BitVec.ofNat 32 b))).toInt : ℝ) : EReal) = _
  rw [abs_toInt a b ha hb]; push_cast; rfl
theorem pay15_apply (i : grid0.Coords) (sl : ℝ) (hsl : k0_pay14 (F := Ideal) i = ((sl : ℝ) : EReal)) (r c : Fin 512) :
    k0_pay15 (F := Ideal) i (ix2 r c) = ((-(sl * |(r.val : ℝ) - (c.val : ℝ)|) : ℝ) : EReal) := by
  pointwise [k0_pay15]
  rw [abs_float r.val c.val (by omega) (by omega), hsl, ← EReal.coe_zero, ← EReal.coe_sub, ← EReal.coe_mul]
  congr 1; ring

/-! ## Blocks of keys and values -/

/-- A block of the augmented keys, entry by entry. -/
theorem ldK (KA : Vec Ideal S2x2x2048x128 .bf16) (off : Fin 4 → ℕ) (inb) (mp sd j0 : ℕ) (h : off = ![mp, sd, j0, 0]) (hmp : mp < 2) (hsd : sd < 2) (hj : j0 + 512 ≤ 2048) (c : Fin 512) (d : Fin 128) :
    View.ld KA (Rect.unit (s := S2x2x2048x128) off S1x1x512x128.size inb) (ix4 (0 : Fin 1) (0 : Fin 1) c d) = KA (ix4 (⟨mp, hmp⟩ : Fin 2) (⟨sd, hsd⟩ : Fin 2) (⟨j0 + c.val, by omega⟩ : Fin 2048) d) := by
  subst h
  pointwise
/-- A block of the values, entry by entry. -/
theorem ldV (x7 : Vec Ideal S2048x128 .bf16) (off : Fin 2 → ℕ) (inb) (j0 : ℕ) (h : off = ![j0, 0]) (hj : j0 + 512 ≤ 2048) (c : Fin 512) (d : Fin 128) :
    View.ld x7 (Rect.unit (s := S2048x128) off S512x128.size inb) (ix2 c d) = x7 (ix2 (⟨j0 + c.val, by omega⟩ : Fin 2048) d) := by
  subst h
  pointwise

end Cert.KernelIdeal.Att

end
-- ==== Proof.Row.lean ====
module

public import proofs.«01_k».proof.Proof.Sc
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal.Gen

/-! ## A row of the two score maps, all four blocks of keys -/

/-- The block of keys taken up at step `r` after the diagonal, by the queries' block `q`. -/
def jb (q r : ℕ) : ℕ := if q ≤ r then r + 1 else r
/-- Which side of the diagonal it lies on. -/
def sdn (q j : ℕ) : ℕ := if q < j then 1 else 0

theorem offs : ∀ t : Fin grid0.N, (grid0.coords t 2).val = t.val % 4
    ∧ k0_off6 (grid0.coords t) = ![512 * (t.val % 4), 0] ∧ k0_off7 (grid0.coords t) = ![0, 0, 512 * (t.val % 4), 0] ∧ k0_off8 (grid0.coords t) = ![1, 0, 512 * (t.val % 4), 0] :=
  (by decide +kernel : ∀ t : Fin grid0.N, _)
theorem offs0 : ∀ t : Fin grid0.N, k0_off9 (grid0.coords t) 0#32 = ![512 * jb (t.val % 4) 0, 0]
    ∧ k0_off10 (grid0.coords t) 0#32 = ![0, sdn (t.val % 4) (jb (t.val % 4) 0), 512 * jb (t.val % 4) 0, 0] ∧ k0_off11 (grid0.coords t) 0#32 = ![1, sdn (t.val % 4) (jb (t.val % 4) 0), 512 * jb (t.val % 4) 0, 0] :=
  (by decide +kernel : ∀ t : Fin grid0.N, _)
theorem offs1 : ∀ t : Fin grid0.N, k0_off9 (grid0.coords t) 1#32 = ![512 * jb (t.val % 4) 1, 0]
    ∧ k0_off10 (grid0.coords t) 1#32 = ![0, sdn (t.val % 4) (jb (t.val % 4) 1), 512 * jb (t.val % 4) 1, 0] ∧ k0_off11 (grid0.coords t) 1#32 = ![1, sdn (t.val % 4) (jb (t.val % 4) 1), 512 * jb (t.val % 4) 1, 0] :=
  (by decide +kernel : ∀ t : Fin grid0.N, _)
theorem offs2 : ∀ t : Fin grid0.N, k0_off9 (grid0.coords t) 2#32 = ![512 * jb (t.val % 4) 2, 0]
    ∧ k0_off10 (grid0.coords t) 2#32 = ![0, sdn (t.val % 4) (jb (t.val % 4) 2), 512 * jb (t.val % 4) 2, 0] ∧ k0_off11 (grid0.coords t) 2#32 = ![1, sdn (t.val % 4) (jb (t.val % 4) 2), 512 * jb (t.val % 4) 2, 0] :=
  (by decide +kernel : ∀ t : Fin grid0.N, _)

/-- The diagonal block and the three others are all of the keys. -/
theorem sum_blocks (f : ℕ → ℝ) (q : ℕ) (hq : q < 4) :
    (∑ c : Fin 512, f (512 * q + c.val)) + (∑ c : Fin 512, f (512 * jb q 0 + c.val)) + (∑ c : Fin 512, f (512 * jb q 1 + c.val)) + (∑ c : Fin 512, f (512 * jb q 2 + c.val))
      = ∑ j : Fin 2048, f j.val := by
  have h (b : ℕ) : ∑ c : Fin 512, f (512 * b + c.val) = ∑ c ∈ Finset.range 512, f (512 * b + c) := Fin.sum_univ_eq_sum_range (fun c => f (512 * b + c)) 512
  have h' : ∑ j : Fin 2048, f j.val = (∑ c ∈ Finset.range 512, f (512 * 0 + c)) + (∑ c ∈ Finset.range 512, f (512 * 1 + c)) + (∑ c ∈ Finset.range 512, f (512 * 2 + c)) + (∑ c ∈ Finset.range 512, f (512 * 3 + c)) := by
    rw [Fin.sum_univ_eq_sum_range f 2048, show 2048 = 512 + 512 + 512 + 512 from rfl, Finset.sum_range_add, Finset.sum_range_add, Finset.sum_range_add]
    simp
  rw [h, h, h, h, h']
  interval_cases q <;> simp only [jb] <;> simp <;> ring

theorem side_ok (q j r c : ℕ) (h : q ≠ j) (hr : r < 512) (hc : c < 512) :
    (sdn q j = 0 ∧ 512 * j + c ≤ 512 * q + r) ∨ (sdn q j = 1 ∧ 512 * q + r ≤ 512 * j + c) := by
  unfold sdn
  split_ifs <;> omega
theorem jb_ne (q r : ℕ) : q ≠ jb q r := by unfold jb; split_ifs <;> omega

section Row
variable (t : Fin grid0.N) (sl : ℝ) (hsl : k0_pay14 (F := Ideal) (grid0.coords t) = ((sl : ℝ) : EReal))
  (x5 : Vec Ideal S512x128 .bf16) (x6 x7 : Vec Ideal S2048x128 .bf16) (r : Fin 512) (x : Fin 128 → ℝ) (kr wr : ℕ → Fin 128 → ℝ)
  (hq : ∀ d : Fin 128, x5 (ix2 r d) = ((x d : ℝ) : EReal))
  (hk : ∀ (j : Fin 2048) (d : Fin 128), x6 (ix2 j d) = ((kr j.val d : ℝ) : EReal))
  (hw : ∀ (j : Fin 2048) (d : Fin 128), x7 (ix2 j d) = ((wr j.val d : ℝ) : EReal))
include hq hk

theorem scA0_real (off : Fin 4 → ℕ) (inb) (j : ℕ) (hj : j < 4) (hne : t.val % 4 ≠ j) (hoff : off = ![0, sdn (t.val % 4) j, 512 * j, 0]) (c : Fin 512) :
    scA (qa0 (grid0.coords t) x5) (View.ld (kaug (F := Ideal) ((sl : ℝ) : EReal) x6) (Rect.unit (s := S2x2x2048x128) off S1x1x512x128.size inb)) (ix2 r c)
      = ((sc0 sl x (512 * (t.val % 4) + r.val) (kr (512 * j + c.val)) (512 * j + c.val) : ℝ) : EReal) := by
  have hs : sdn (t.val % 4) j < 2 := by unfold sdn; split_ifs <;> omega
  rw [scA_apply, ← dot0 sl x (kr (512 * j + c.val)) (sdn (t.val % 4) j) _ _ (side_ok _ _ _ _ hne r.isLt c.isLt), ← coe_fsum]
  refine Finset.sum_congr rfl fun d _ => ?_
  rw [qa0_apply (grid0.coords t) x5 r x hq d, (offs t).1, EReal.coe_mul]
  refine congrArg (_ * ·) ?_
  refine (ldK _ off inb 0 _ (512 * j) hoff (by decide) hs (by omega) c d).trans ?_
  exact kaug0_apply sl x6 (fun j => kr j.val) hk ⟨sdn (t.val % 4) j, hs⟩ ⟨512 * j + c.val, by omega⟩ d
theorem scA1_real (off : Fin 4 → ℕ) (inb) (j : ℕ) (hj : j < 4) (hne : t.val % 4 ≠ j) (hoff : off = ![1, sdn (t.val % 4) j, 512 * j, 0]) (c : Fin 512) :
    scA (qa1 (grid0.coords t) x5) (View.ld (kaug (F := Ideal) ((sl : ℝ) : EReal) x6) (Rect.unit (s := S2x2x2048x128) off S1x1x512x128.size inb)) (ix2 r c)
      = ((sc1 sl x (512 * (t.val % 4) + r.val) (kr (512 * j + c.val)) (512 * j + c.val) : ℝ) : EReal) := by
  have hs : sdn (t.val % 4) j < 2 := by unfold sdn; split_ifs <;> omega
  rw [scA_apply, ← dot1 sl x (kr (512 * j + c.val)) (sdn (t.val % 4) j) _ _ (side_ok _ _ _ _ hne r.isLt c.isLt), ← coe_fsum]
  refine Finset.sum_congr rfl fun d _ => ?_
  rw [qa1_apply (grid0.coords t) x5 r x hq d, (offs t).1, EReal.coe_mul]
  refine congrArg (_ * ·) ?_
  refine (ldK _ off inb 1 _ (512 * j) hoff (by decide) hs (by omega) c d).trans ?_
  exact kaug1_apply sl x6 (fun j => kr j.val) hk ⟨sdn (t.val % 4) j, hs⟩ ⟨512 * j + c.val, by omega⟩ d

include hsl
theorem scD0_real (c : Fin 512) :
    scD (qm0 x5) (kD0 (grid0.coords t) (kaug (F := Ideal) ((sl : ℝ) : EReal) x6)) (k0_pay15 (F := Ideal) (grid0.coords t)) (ix2 r c)
      = ((sc0 sl x (512 * (t.val % 4) + r.val) (kr (512 * (t.val % 4) + c.val)) (512 * (t.val % 4) + c.val) : ℝ) : EReal) := by
  have e : sc0 sl x (512 * (t.val % 4) + r.val) (kr (512 * (t.val % 4) + c.val)) (512 * (t.val % 4) + c.val)
      = (∑ d : Fin 128, (if d.val < 64 then x d else 0) * kR0 sl 0 (512 * (t.val % 4) + c.val) (kr (512 * (t.val % 4) + c.val)) d) + -(sl * |((512 * (t.val % 4) + r.val : ℕ) : ℝ) - ((512 * (t.val % 4) + c.val : ℕ) : ℝ)|) := by
    rw [dotD0]; exact sub_eq_add_neg _ _
  rw [scD_apply, pay15_apply _ sl hsl, e, EReal.coe_add, ← coe_fsum]
  refine congrArg₂ (· + ·) (Finset.sum_congr rfl fun d _ => ?_) ?_
  · rw [qm0_apply x5 r x hq d, EReal.coe_mul]
    refine congrArg (_ * ·) ?_
    refine (ldK _ _ _ 0 0 (512 * (t.val % 4)) (offs t).2.2.1 (by decide) (by decide) (by omega) c d).trans ?_
    exact kaug0_apply sl x6 (fun j => kr j.val) hk 0 ⟨512 * (t.val % 4) + c.val, by omega⟩ d
  · push_cast
    rw [add_sub_add_left_eq_sub]
theorem scD1_real (c : Fin 512) :
    scD (qm1 x5) (kD1 (grid0.coords t) (kaug (F := Ideal) ((sl : ℝ) : EReal) x6)) (k0_pay15 (F := Ideal) (grid0.coords t)) (ix2 r c)
      = ((sc1 sl x (512 * (t.val % 4) + r.val) (kr (512 * (t.val % 4) + c.val)) (512 * (t.val % 4) + c.val) : ℝ) : EReal) := by
  have e : sc1 sl x (512 * (t.val % 4) + r.val) (kr (512 * (t.val % 4) + c.val)) (512 * (t.val % 4) + c.val)
      = (∑ d : Fin 128, (if 64 ≤ d.val then x d else 0) * kR1 sl 0 (512 * (t.val % 4) + c.val) (kr (512 * (t.val % 4) + c.val)) d) + -(sl * |((512 * (t.val % 4) + r.val : ℕ) : ℝ) - ((512 * (t.val % 4) + c.val : ℕ) : ℝ)|) := by
    rw [dotD1]; exact sub_eq_add_neg _ _
  rw [scD_apply, pay15_apply _ sl hsl, e, EReal.coe_add, ← coe_fsum]
  refine congrArg₂ (· + ·) (Finset.sum_congr rfl fun d _ => ?_) ?_
  · rw [qm1_apply x5 r x hq d, EReal.coe_mul]
    refine congrArg (_ * ·) ?_
    refine (ldK _ _ _ 1 0 (512 * (t.val % 4)) (offs t).2.2.2 (by decide) (by decide) (by omega) c d).trans ?_
    exact kaug1_apply sl x6 (fun j => kr j.val) hk 0 ⟨512 * (t.val % 4) + c.val, by omega⟩ d
  · push_cast
    rw [add_sub_add_left_eq_sub]

/-- Sum of the exponentials of a row of scores. -/
def rowL (s : ℕ → ℝ) : ℝ := ∑ j : Fin 2048, Real.exp (s j.val)
/-- Exponentials of a row of scores times the values. -/
def rowA (s : ℕ → ℝ) (wr : ℕ → Fin 128 → ℝ) (d : Fin 128) : ℝ := ∑ j : Fin 2048, Real.exp (s j.val) * wr j.val d

include hw
/-- The first map after all four blocks. -/
theorem inv0 : ∃ M, Inv r M (l3 (grid0.coords t) x5 (kaug (F := Ideal) ((sl : ℝ) : EReal) x6) (k0_pay15 (F := Ideal) (grid0.coords t)))
    (a3 (grid0.coords t) x5 x7 (kaug (F := Ideal) ((sl : ℝ) : EReal) x6) (k0_pay15 (F := Ideal) (grid0.coords t)))
    (rowL fun j => sc0 sl x (512 * (t.val % 4) + r.val) (kr j) j) (rowA (fun j => sc0 sl x (512 * (t.val % 4) + r.val) (kr j) j) wr) := by
  have hb : t.val % 4 < 4 := Nat.mod_lt _ (by decide)
  have hj (r : ℕ) (h : r < 3) : jb (t.val % 4) r < 4 := by unfold jb; split_ifs <;> omega
  have hv (off : Fin 2 → ℕ) (inb) (j : ℕ) (hj : j < 4) (hoff : off = ![512 * j, 0]) (c : Fin 512) (d : Fin 128) :
      View.ld x7 (Rect.unit (s := S2048x128) off S512x128.size inb) (ix2 c d) = ((wr (512 * j + c.val) d : ℝ) : EReal) :=
    (ldV x7 off inb (512 * j) hoff (by omega) c d).trans (hw _ d)
  have h0 := inv_start _ (vD (grid0.coords t) x7) r _ (fun c d => wr (512 * (t.val % 4) + c.val) d) (scD0_real t sl hsl x5 x6 r x kr hq hk) (hv _ _ _ hb (offs t).2.1)
  have h1 := inv_step _ (vS0 (grid0.coords t) x7) r _ (fun c d => wr (512 * jb (t.val % 4) 0 + c.val) d) (scA0_real t sl x5 x6 r x kr hq hk _ (k0_off10_inb (grid0.coords t) 0) (jb (t.val % 4) 0) (hj 0 (by decide)) (jb_ne _ _) (offs0 t).2.1) (hv _ _ _ (hj 0 (by decide)) (offs0 t).1) _ _ _ _ _ h0
  have h2 := inv_step _ (vS1 (grid0.coords t) x7) r _ (fun c d => wr (512 * jb (t.val % 4) 1 + c.val) d) (scA0_real t sl x5 x6 r x kr hq hk _ (k0_off10_inb (grid0.coords t) 1) (jb (t.val % 4) 1) (hj 1 (by decide)) (jb_ne _ _) (offs1 t).2.1) (hv _ _ _ (hj 1 (by decide)) (offs1 t).1) _ _ _ _ _ h1
  have h3 := inv_step _ (vS2 (grid0.coords t) x7) r _ (fun c d => wr (512 * jb (t.val % 4) 2 + c.val) d) (scA0_real t sl x5 x6 r x kr hq hk _ (k0_off10_inb (grid0.coords t) 2) (jb (t.val % 4) 2) (hj 2 (by decide)) (jb_ne _ _) (offs2 t).2.1) (hv _ _ _ (hj 2 (by decide)) (offs2 t).1) _ _ _ _ _ h2
  have eL := sum_blocks (fun j => Real.exp (sc0 sl x (512 * (t.val % 4) + r.val) (kr j) j)) (t.val % 4) hb
  have eA (d : Fin 128) := sum_blocks (fun j => Real.exp (sc0 sl x (512 * (t.val % 4) + r.val) (kr j) j) * wr j d) (t.val % 4) hb
  beta_reduce at eL eA
  rw [eL] at h3
  simp only [eA] at h3
  exact ⟨_, h3⟩
/-- The second map after all four blocks. -/
theorem inv1 : ∃ M, Inv r M (k3 (grid0.coords t) x5 (kaug (F := Ideal) ((sl : ℝ) : EReal) x6) (k0_pay15 (F := Ideal) (grid0.coords t)))
    (b3 (grid0.coords t) x5 x7 (kaug (F := Ideal) ((sl : ℝ) : EReal) x6) (k0_pay15 (F := Ideal) (grid0.coords t)))
    (rowL fun j => sc1 sl x (512 * (t.val % 4) + r.val) (kr j) j) (rowA (fun j => sc1 sl x (512 * (t.val % 4) + r.val) (kr j) j) wr) := by
  have hb : t.val % 4 < 4 := Nat.mod_lt _ (by decide)
  have hj (r : ℕ) (h : r < 3) : jb (t.val % 4) r < 4 := by unfold jb; split_ifs <;> omega
  have hv (off : Fin 2 → ℕ) (inb) (j : ℕ) (hj : j < 4) (hoff : off = ![512 * j, 0]) (c : Fin 512) (d : Fin 128) :
      View.ld x7 (Rect.unit (s := S2048x128) off S512x128.size inb) (ix2 c d) = ((wr (512 * j + c.val) d : ℝ) : EReal) :=
    (ldV x7 off inb (512 * j) hoff (by omega) c d).trans (hw _ d)
  have h0 := inv_start _ (vD (grid0.coords t) x7) r _ (fun c d => wr (512 * (t.val % 4) + c.val) d) (scD1_real t sl hsl x5 x6 r x kr hq hk) (hv _ _ _ hb (offs t).2.1)
  have h1 := inv_step _ (vS0 (grid0.coords t) x7) r _ (fun c d => wr (512 * jb (t.val % 4) 0 + c.val) d) (scA1_real t sl x5 x6 r x kr hq hk _ (k0_off11_inb (grid0.coords t) 0) (jb (t.val % 4) 0) (hj 0 (by decide)) (jb_ne _ _) (offs0 t).2.2) (hv _ _ _ (hj 0 (by decide)) (offs0 t).1) _ _ _ _ _ h0
  have h2 := inv_step _ (vS1 (grid0.coords t) x7) r _ (fun c d => wr (512 * jb (t.val % 4) 1 + c.val) d) (scA1_real t sl x5 x6 r x kr hq hk _ (k0_off11_inb (grid0.coords t) 1) (jb (t.val % 4) 1) (hj 1 (by decide)) (jb_ne _ _) (offs1 t).2.2) (hv _ _ _ (hj 1 (by decide)) (offs1 t).1) _ _ _ _ _ h1
  have h3 := inv_step _ (vS2 (grid0.coords t) x7) r _ (fun c d => wr (512 * jb (t.val % 4) 2 + c.val) d) (scA1_real t sl x5 x6 r x kr hq hk _ (k0_off11_inb (grid0.coords t) 2) (jb (t.val % 4) 2) (hj 2 (by decide)) (jb_ne _ _) (offs2 t).2.2) (hv _ _ _ (hj 2 (by decide)) (offs2 t).1) _ _ _ _ _ h2
  have eL := sum_blocks (fun j => Real.exp (sc1 sl x (512 * (t.val % 4) + r.val) (kr j) j)) (t.val % 4) hb
  have eA (d : Fin 128) := sum_blocks (fun j => Real.exp (sc1 sl x (512 * (t.val % 4) + r.val) (kr j) j) * wr j d) (t.val % 4) hb
  beta_reduce at eL eA
  rw [eL] at h3
  simp only [eA] at h3
  exact ⟨_, h3⟩
end Row

end Cert.KernelIdeal.Att

end
-- ==== Proof.Tail.lean ====
module

public import proofs.«01_k».proof.Proof.Row
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal.Gen

/-! ## The end of the body: the difference of the two maps, its norm and the gain -/

/-- The norm over a head's lanes, its gain and the constant factor. -/
def tailE (o : Fin 128 → EReal) (g : EReal) (d : Fin 128) : EReal :=
  o d * Ideal.rsqrt (Ideal.div (∑ e : Fin 128, o e * o e) (Ideal.ofBits FTy.f32 0x43000000#32) + Ideal.ofBits FTy.f32 0x358637BD#32) * g * Ideal.ofBits FTy.f32 0x3F4CCCCD#32
/-- The factor of the second map. -/
def lamE (x0 x1 x2 x3 : Fin 64 → EReal) : EReal :=
  Ideal.exp (∑ e : Fin 64, x0 e * x1 e) - Ideal.exp (∑ e : Fin 64, x2 e * x3 e) + Ideal.ofBits FTy.f32 0x3E4CCCCD#32

theorem pay126_apply (x0 x1 x2 x3 : Vec Ideal S1x64 .f32) (a l b k : Vec Ideal S512x128 .f32) (r : Fin 512) (d : Fin 128) :
    k0_pay126 (k0_pay124 x0 x1) (k0_pay125 x2 x3) a l b k (ix2 r d)
      = Ideal.div (a (ix2 r d)) (∑ e : Fin 128, l (ix2 r e)) - lamE (fun e => x0 (ix2 (0 : Fin 1) e)) (fun e => x1 (ix2 (0 : Fin 1) e)) (fun e => x2 (ix2 (0 : Fin 1) e)) (fun e => x3 (ix2 (0 : Fin 1) e)) * Ideal.div (b (ix2 r d)) (∑ e : Fin 128, k (ix2 r e)) := by
  unfold lamE
  pointwise [k0_pay126, k0_pay124, k0_pay125]
theorem pay1_apply (u : Vec Ideal S512x128 .f32) (x4 : Vec Ideal S1x128 .f32) (w : Vec Ideal S512x128 .f32) (r : Fin 512) (d : Fin 128) :
    k0_pay1 u (k0_pay127 x4) w (ix2 r d) = u (ix2 r d) * w (ix2 r d) * x4 (ix2 (0 : Fin 1) d) * Ideal.ofBits FTy.f32 0x3F4CCCCD#32 := by
  pointwise [k0_pay1, k0_pay127]
theorem pay128_apply (h0 : Vec Ideal S1x1 .f32) (h1 : Vec Ideal S1x64 .f32) (a l b k : Vec Ideal S512x128 .f32) (r : Fin 512) (d : Fin 128) :
    k0_pay128 h0 h1 a l b k (ix2 r d) = Ideal.rsqrt (Ideal.div (∑ e : Fin 128, k0_pay126 h0 h1 a l b k (ix2 r e) * k0_pay126 h0 h1 a l b k (ix2 r e)) (Ideal.ofBits FTy.f32 0x43000000#32) + Ideal.ofBits FTy.f32 0x358637BD#32) := by
  unfold k0_pay128
  generalize k0_pay126 h0 h1 a l b k = u
  pointwise []

/-- One row of the attention's value over the reals, before its norm. -/
def oR (s0 s1 : ℕ → ℝ) (lam : ℝ) (wr : ℕ → Fin 128 → ℝ) (d : Fin 128) : ℝ := rowA s0 wr d / rowL s0 - lam * (rowA s1 wr d / rowL s1)
theorem rowL_pos (s : ℕ → ℝ) : 0 < rowL s := by
  unfold rowL
  exact Finset.sum_pos (fun _ _ => Real.exp_pos _) ⟨0, Finset.mem_univ _⟩
theorem inv_div (r : Fin 512) (m l a : Vec Ideal S512x128 .f32) (L : ℝ) (A : Fin 128 → ℝ) (hL : 0 < L) (h : Inv r m l a L A) (d : Fin 128) :
    Ideal.div (a (ix2 r d)) (∑ e : Fin 128, l (ix2 r e)) = ((A d / L : ℝ) : EReal) := by
  obtain ⟨μ, u, -, hl, hs, ha⟩ := h
  have e : ∑ e : Fin 128, l (ix2 r e) = ((Real.exp (-μ) * L : ℝ) : EReal) := by
    rw [← hs, ← coe_fsum]; exact Finset.sum_congr rfl fun d _ => hl d
  have hp := Real.exp_pos (-μ)
  have hne : Real.exp (-μ) * L ≠ 0 := by positivity
  rw [e, ha d, Ideal.div_coe hne, ← EReal.coe_mul]
  refine congrArg _ ?_
  field_simp

theorem attOut_apply (t : Fin grid0.N) (sl : ℝ) (hsl : k0_pay14 (F := Ideal) (grid0.coords t) = ((sl : ℝ) : EReal))
    (x0 x1 x2 x3 : Vec Ideal S1x64 .f32) (x4 : Vec Ideal S1x128 .f32) (lam : ℝ)
    (hlam : lamE (fun e => x0 (ix2 (0 : Fin 1) e)) (fun e => x1 (ix2 (0 : Fin 1) e)) (fun e => x2 (ix2 (0 : Fin 1) e)) (fun e => x3 (ix2 (0 : Fin 1) e)) = ((lam : ℝ) : EReal))
    (x5 : Vec Ideal S512x128 .bf16) (x6 x7 : Vec Ideal S2048x128 .bf16) (r : Fin 512) (x : Fin 128 → ℝ) (kr wr : ℕ → Fin 128 → ℝ)
    (hq : ∀ d : Fin 128, x5 (ix2 r d) = ((x d : ℝ) : EReal))
    (hk : ∀ (j : Fin 2048) (d : Fin 128), x6 (ix2 j d) = ((kr j.val d : ℝ) : EReal))
    (hw : ∀ (j : Fin 2048) (d : Fin 128), x7 (ix2 j d) = ((wr j.val d : ℝ) : EReal)) (d : Fin 128) :
    attOut (grid0.coords t) x0 x1 x2 x3 x4 x5 x7 (kaug (F := Ideal) (k0_pay14 (F := Ideal) (grid0.coords t)) x6) (k0_pay15 (F := Ideal) (grid0.coords t)) (ix2 r d)
      = tailE (fun e => ((oR (fun j => sc0 sl x (512 * (t.val % 4) + r.val) (kr j) j) (fun j => sc1 sl x (512 * (t.val % 4) + r.val) (kr j) j) lam wr e : ℝ) : EReal)) (x4 (ix2 (0 : Fin 1) d)) d := by
  rw [hsl]
  obtain ⟨M0, h0⟩ := inv0 t sl hsl x5 x6 x7 r x kr wr hq hk hw
  obtain ⟨M1, h1⟩ := inv1 t sl hsl x5 x6 x7 r x kr wr hq hk hw
  have ho (e : Fin 128) := pay126_apply x0 x1 x2 x3 _ _ _ _ r e |>.trans
    (congrArg₂ (· - ·) (inv_div r _ _ _ _ _ (rowL_pos _) h0 e) (congrArg₂ (· * ·) hlam (inv_div r _ _ _ _ _ (rowL_pos _) h1 e)))
  have ho' (e : Fin 128) := (ho e).trans (show _ = ((oR (fun j => sc0 sl x (512 * (t.val % 4) + r.val) (kr j) j) (fun j => sc1 sl x (512 * (t.val % 4) + r.val) (kr j) j) lam wr e : ℝ) : EReal) by
    unfold oR; push_cast; rfl)
  unfold attOut tailE
  refine (pay1_apply _ x4 _ r d).trans ?_
  refine congrArg₂ (· * ·) (congrArg₂ (· * ·) (congrArg₂ (· * ·) (ho' d) ?_) rfl) rfl
  refine (pay128_apply (k0_pay124 x0 x1) (k0_pay125 x2 x3) _ _ _ _ r d).trans ?_
  refine congrArg Ideal.rsqrt (congrArg (· + _) (congrArg (Ideal.div · _) (Finset.sum_congr rfl fun e _ => ?_)))
  exact congrArg₂ (· * ·) (ho' e) (ho' e)

end Cert.KernelIdeal.Att

end
-- ==== Proof.Ref.lean ====
module

public import proofs.«01_k».proof.Proof.Gen.ReferenceIdeal.Read
public import proofs.«01_k».proof.Proof.Tail
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The reference's values, read at an index -/

/-- The row of the projection that position `i` of sequence `b` stands in. -/
def rowOf (b : Fin 32) (i : Fin 2048) : Fin 81920 := ⟨16384 + (b.val * 2048 + i.val), by omega⟩
/-- The column of lane `e` of head `h`, in the group of 512 columns `g`. -/
def colOf (g : Fin 3) (h : Fin 4) (e : Fin 128) : Fin 1536 := ⟨512 * g.val + (128 * h.val + e.val), by omega⟩
/-- A lane of a head's first half. -/
def lo (e : Fin 64) : Fin 128 := ⟨e.val, by omega⟩
/-- A lane of a head's second half. -/
def hi (e : Fin 64) : Fin 128 := ⟨64 + e.val, by omega⟩

theorem ix2_congr {m n : ℕ} {a a' : Fin m} {b b' : Fin n} (h : a.val = a'.val) (h' : b.val = b'.val) : (ix2 a b : Shape.Idx _) = ix2 a' b' := by
  rw [Fin.ext h, Fin.ext h']

variable (x0 : Vec Ideal S81920x1536 .f32)
theorem v44_at (b : Fin 32) (i : Fin 2048) (h : Fin 4) (e : Fin 64) : val_main_v44 (F := Ideal) x0 (ix4 b i h e) = x0 (ix2 (rowOf b i) (colOf 0 h (lo e))) := by
  pointwise [val_main_v44, val_main_v43, val_main_v3, val_main_v2, val_main_v1, val_main_v0]
  exact congrArg x0 (ix2_congr (by simp [rowOf]) (by simp [colOf, lo]; try omega))
theorem v46_at (b : Fin 32) (i : Fin 2048) (h : Fin 4) (e : Fin 64) : val_main_v46 (F := Ideal) x0 (ix4 b i h e) = x0 (ix2 (rowOf b i) (colOf 1 h (lo e))) := by
  pointwise [val_main_v46, val_main_v45, val_main_v5, val_main_v4, val_main_v1, val_main_v0]
  exact congrArg x0 (ix2_congr (by simp [rowOf]) (by simp [colOf, lo]; try omega))
theorem v65_at (b : Fin 32) (i : Fin 2048) (h : Fin 4) (e : Fin 64) : val_main_v65 (F := Ideal) x0 (ix4 b i h e) = x0 (ix2 (rowOf b i) (colOf 0 h (hi e))) := by
  pointwise [val_main_v65, val_main_v64, val_main_v3, val_main_v2, val_main_v1, val_main_v0]
  exact congrArg x0 (ix2_congr (by simp [rowOf]) (by simp [colOf, hi]; try omega))
theorem v67_at (b : Fin 32) (i : Fin 2048) (h : Fin 4) (e : Fin 64) : val_main_v67 (F := Ideal) x0 (ix4 b i h e) = x0 (ix2 (rowOf b i) (colOf 1 h (hi e))) := by
  pointwise [val_main_v67, val_main_v66, val_main_v5, val_main_v4, val_main_v1, val_main_v0]
  exact congrArg x0 (ix2_congr (by simp [rowOf]) (by simp [colOf, hi]; try omega))
theorem v7_at (b : Fin 32) (i : Fin 2048) (h : Fin 4) (e : Fin 128) : val_main_v7 (F := Ideal) x0 (ix4 b i h e) = x0 (ix2 (rowOf b i) (colOf 2 h e)) := by
  pointwise [val_main_v7, val_main_v6, val_main_v1, val_main_v0]
  exact congrArg x0 (ix2_congr (by simp [rowOf]) (by simp [colOf]; try omega))
theorem v47_at (b : Fin 32) (h : Fin 4) (i j : Fin 2048) : val_main_v47 (F := Ideal) x0 (ix4 b h i j) = ∑ e : Fin 64, x0 (ix2 (rowOf b i) (colOf 0 h (lo e))) * x0 (ix2 (rowOf b j) (colOf 1 h (lo e))) := by
  simp only [← v44_at, ← v46_at]
  unfold val_main_v47
  generalize val_main_v44 (F := Ideal) x0 = y
  generalize val_main_v46 (F := Ideal) x0 = z
  pointwise []
theorem v68_at (b : Fin 32) (h : Fin 4) (i j : Fin 2048) : val_main_v68 (F := Ideal) x0 (ix4 b h i j) = ∑ e : Fin 64, x0 (ix2 (rowOf b i) (colOf 0 h (hi e))) * x0 (ix2 (rowOf b j) (colOf 1 h (hi e))) := by
  simp only [← v65_at, ← v67_at]
  unfold val_main_v68
  generalize val_main_v65 (F := Ideal) x0 = y
  generalize val_main_v67 (F := Ideal) x0 = z
  pointwise []
theorem v37_at (i j : Fin 2048) : val_main_v37 (F := Ideal) (ix2 i j) = ((|(i.val : ℝ) - (j.val : ℝ)| : ℝ) : EReal) := by
  rw [← abs_float i.val j.val i.isLt j.isLt]
  pointwise [val_main_v37, val_main_v36, val_main_v35, val_main_v34, val_main_v33, val_main_v32, val_main_v31, val_main_v30]

end Cert.ReferenceIdeal.Att

end
-- ==== Proof.Ref2.lean ====
module

public import proofs.«01_k».proof.Proof.Ref
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The reference's scores and their softmax -/
variable (x0 : Vec Ideal S81920x1536 .f32)
/-- A head's slope. -/
def slope (h : Fin 4) : ℝ := (1 / 4) ^ (h.val + 1)
theorem shl_at : ∀ h : Fin 4, (IntOp.shli ArithUnit.host 1#32 (IntOp.muli 2#32 (IntOp.addi 1#32 (BitVec.ofNat 32 h.val)))).toInt = 4 ^ (h.val + 1) := by decide +kernel
theorem v29_at (h : Fin 4) : val_main_v29 (F := Ideal) (ix1 h) = ((slope h : ℝ) : EReal) := by
  pointwise [val_main_v29, val_main_v28, val_main_v27, val_main_v26, val_main_v25, val_main_v24, val_main_v23, val_main_v22, val_main_v21, val_main_v20]
  have e : (FloatOps.sitofp (F := Ideal) FTy.f32 (IntOp.shli ArithUnit.host 1#32 (IntOp.muli 2#32 (IntOp.addi 1#32 (BitVec.ofNat 32 h.val)))) : EReal) = ((4 ^ (h.val + 1) : ℝ) : EReal) := by
    show (((IntOp.shli ArithUnit.host 1#32 (IntOp.muli 2#32 (IntOp.addi 1#32 (BitVec.ofNat 32 h.val)))).toInt : ℝ) : EReal) = _
    rw [shl_at]; push_cast; rfl
  refine (congrArg₂ Ideal.div (show _ = ((1 : ℝ) : EReal) from ?_) e).trans ?_
  · show Ideal.ofBits FTy.f32 0x3F800000#32 = _
    simp [Ideal.ofBits, Ideal.ieee, -EReal.coe_mul]; norm_num
  · rw [Ideal.div_coe (by positivity), ← EReal.coe_mul]
    refine congrArg _ ?_
    unfold slope
    rw [one_mul, div_pow, one_pow]
theorem v52_at (b : Fin 32) (h : Fin 4) (i j : Fin 2048) : val_main_v52 (F := Ideal) x0 (ix4 b h i j)
    = (∑ e : Fin 64, x0 (ix2 (rowOf b i) (colOf 0 h (lo e))) * x0 (ix2 (rowOf b j) (colOf 1 h (lo e)))) * Ideal.ofBits FTy.f32 0x3E000000#32 - ((slope h * |(i.val : ℝ) - (j.val : ℝ)| : ℝ) : EReal) := by
  rw [← v47_at, EReal.coe_mul, ← v37_at, ← v29_at]
  unfold val_main_v52 val_main_v49 val_main_v51 val_main_v50 val_main_v42 val_main_v40 val_main_v41
  generalize val_main_v47 (F := Ideal) x0 = y
  pointwise [val_main_v48, val_main_v38, val_main_v39, val_main_cst_5]
theorem v73_at (b : Fin 32) (h : Fin 4) (i j : Fin 2048) : val_main_v73 (F := Ideal) x0 (ix4 b h i j)
    = (∑ e : Fin 64, x0 (ix2 (rowOf b i) (colOf 0 h (hi e))) * x0 (ix2 (rowOf b j) (colOf 1 h (hi e)))) * Ideal.ofBits FTy.f32 0x3E000000#32 - ((slope h * |(i.val : ℝ) - (j.val : ℝ)| : ℝ) : EReal) := by
  rw [← v68_at, EReal.coe_mul, ← v37_at, ← v29_at]
  unfold val_main_v73 val_main_v70 val_main_v72 val_main_v71 val_main_v42 val_main_v40 val_main_v41
  generalize val_main_v68 (F := Ideal) x0 = y
  pointwise [val_main_v69, val_main_v38, val_main_v39, val_main_cst_9]

end Cert.ReferenceIdeal.Att

end
-- ==== Proof.Ref4.lean ====
module

public import proofs.«01_k».proof.Proof.Ref2
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The greatest score of a row -/
variable (x0 : Vec Ideal S81920x1536 .f32)
theorem max_at (y : FVec Ideal S32x4x2048x2048 .f32) (b : Fin 32) (h : Fin 4) (i : Fin 2048) :
    Host.reduce FloatOps.maximumf y (constant (F := Ideal) S_ .f32 0xFF800000#32) reducesTo_S32x4x2048x2048_S32x4x2048_d3 h_S_ (ix3 b h i)
      = Finset.univ.fold max (Ideal.ofBits FTy.f32 0xFF800000#32) (fun j : Fin 2048 => y (ix4 b h i j)) := by
  pointwise []
theorem v53_at (b : Fin 32) (h : Fin 4) (i : Fin 2048) : val_main_v53 (F := Ideal) x0 (ix3 b h i) = Finset.univ.fold max (⊥ : EReal) (fun j : Fin 2048 => val_main_v52 (F := Ideal) x0 (ix4 b h i j)) := by
  rw [← ninf_eq]
  unfold val_main_v53 val_main_cst_6
  generalize val_main_v52 (F := Ideal) x0 = y
  exact max_at y b h i
theorem v74_at (b : Fin 32) (h : Fin 4) (i : Fin 2048) : val_main_v74 (F := Ideal) x0 (ix3 b h i) = Finset.univ.fold max (⊥ : EReal) (fun j : Fin 2048 => val_main_v73 (F := Ideal) x0 (ix4 b h i j)) := by
  rw [← ninf_eq]
  unfold val_main_v74 val_main_cst_10
  generalize val_main_v73 (F := Ideal) x0 = y
  exact max_at y b h i

end Cert.ReferenceIdeal.Att

end
-- ==== Proof.Ref3.lean ====
module

public import proofs.«01_k».proof.Proof.Ref4
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The softmax -/
variable (x0 : Vec Ideal S81920x1536 .f32)

theorem sum_at (y : FVec Ideal S32x4x2048x2048 .f32) (b : Fin 32) (h : Fin 4) (i : Fin 2048) :
    Host.reduceAdd y (constant (F := Ideal) S_ .f32 0x00000000#32) reducesTo_S32x4x2048x2048_S32x4x2048_d3 h_S_ (ix3 b h i) = ∑ j : Fin 2048, y (ix4 b h i j) := by
  pointwise []
theorem softmax_real (s : ℕ → ℝ) (μ : ℝ) (p : Fin 2048 → EReal) (hp : ∀ j : Fin 2048, p j = Ideal.exp (((s j.val : ℝ) : EReal) - ((μ : ℝ) : EReal)))
    (z : EReal) (hz : z = ∑ k : Fin 2048, p k) (w : EReal) (j : Fin 2048) (hw : w = Ideal.div (p j) z) : w = ((Real.exp (s j.val) / rowL s : ℝ) : EReal) := by
  have hp' (j : Fin 2048) : p j = ((Real.exp (-μ) * Real.exp (s j.val) : ℝ) : EReal) := by
    rw [hp, ← EReal.coe_sub, Ideal.exp_coe, ← Real.exp_add, sub_eq_add_neg, add_comm]
  have hz' : z = ((Real.exp (-μ) * rowL s : ℝ) : EReal) := by
    unfold rowL
    rw [hz, Finset.mul_sum, ← coe_fsum]
    exact Finset.sum_congr rfl fun k _ => hp' k
  have h1 := Real.exp_pos (-μ)
  have h2 := rowL_pos s
  have hne : Real.exp (-μ) * rowL s ≠ 0 := by positivity
  rw [hw, hz', hp', Ideal.div_coe hne, ← EReal.coe_mul]
  refine congrArg _ ?_
  field_simp
theorem v55_at (b : Fin 32) (h : Fin 4) (i : Fin 2048) : val_main_v55 (F := Ideal) x0 (ix3 b h i) = max ⊥ (val_main_v53 (F := Ideal) x0 (ix3 b h i)) := by
  rw [val_main_v55_apply]
  generalize val_main_v53 (F := Ideal) x0 = z
  rw [val_main_v54_apply, val_main_cst_7_apply]
  exact congrArg (fun w : EReal => max w (z (ix3 b h i))) ninf_eq
theorem v59_at (b : Fin 32) (h : Fin 4) (i j : Fin 2048) : val_main_v59 (F := Ideal) x0 (ix4 b h i j) = Ideal.exp (val_main_v52 (F := Ideal) x0 (ix4 b h i j) - val_main_v55 (F := Ideal) x0 (ix3 b h i)) := by
  unfold val_main_v59 val_main_v58 val_main_v57 val_main_v56
  generalize val_main_v52 (F := Ideal) x0 = y
  generalize val_main_v55 (F := Ideal) x0 = z
  pointwise []
theorem v60_at (b : Fin 32) (h : Fin 4) (i : Fin 2048) : val_main_v60 (F := Ideal) x0 (ix3 b h i) = ∑ k : Fin 2048, val_main_v59 (F := Ideal) x0 (ix4 b h i k) := by
  unfold val_main_v60 val_main_cst_8
  generalize val_main_v59 (F := Ideal) x0 = y
  exact sum_at y b h i
theorem v63_at (b : Fin 32) (h : Fin 4) (i j : Fin 2048) : val_main_v63 (F := Ideal) x0 (ix4 b h i j) = Ideal.div (val_main_v59 (F := Ideal) x0 (ix4 b h i j)) (val_main_v60 (F := Ideal) x0 (ix3 b h i)) := by
  unfold val_main_v63 val_main_v62 val_main_v61
  generalize val_main_v59 (F := Ideal) x0 = y
  generalize val_main_v60 (F := Ideal) x0 = z
  pointwise []
/-- A row of real scores has the softmax of the reals. -/
theorem v63_real (b : Fin 32) (h : Fin 4) (i : Fin 2048) (s : ℕ → ℝ) (hs : ∀ j : Fin 2048, val_main_v52 (F := Ideal) x0 (ix4 b h i j) = ((s j.val : ℝ) : EReal)) (j : Fin 2048) :
    val_main_v63 (F := Ideal) x0 (ix4 b h i j) = ((Real.exp (s j.val) / rowL s : ℝ) : EReal) := by
  obtain ⟨μ, hμ⟩ := fold_max_real (by decide : 0 < 2048) (fun j : Fin 2048 => s j.val)
  have hm : val_main_v55 (F := Ideal) x0 (ix3 b h i) = ((μ : ℝ) : EReal) := by
    rw [v55_at, v53_at]
    simp only [hs]
    rw [hμ]; exact max_eq_right bot_le
  exact softmax_real s μ _ (fun j => by rw [v59_at, hs, hm]) _ (v60_at x0 b h i) _ j (v63_at x0 b h i j)
theorem v76_at (b : Fin 32) (h : Fin 4) (i : Fin 2048) : val_main_v76 (F := Ideal) x0 (ix3 b h i) = max ⊥ (val_main_v74 (F := Ideal) x0 (ix3 b h i)) := by
  rw [val_main_v76_apply]
  generalize val_main_v74 (F := Ideal) x0 = z
  rw [val_main_v75_apply, val_main_cst_11_apply]
  exact congrArg (fun w : EReal => max w (z (ix3 b h i))) ninf_eq
theorem v80_at (b : Fin 32) (h : Fin 4) (i j : Fin 2048) : val_main_v80 (F := Ideal) x0 (ix4 b h i j) = Ideal.exp (val_main_v73 (F := Ideal) x0 (ix4 b h i j) - val_main_v76 (F := Ideal) x0 (ix3 b h i)) := by
  unfold val_main_v80 val_main_v79 val_main_v78 val_main_v77
  generalize val_main_v73 (F := Ideal) x0 = y
  generalize val_main_v76 (F := Ideal) x0 = z
  pointwise []
theorem v81_at (b : Fin 32) (h : Fin 4) (i : Fin 2048) : val_main_v81 (F := Ideal) x0 (ix3 b h i) = ∑ k : Fin 2048, val_main_v80 (F := Ideal) x0 (ix4 b h i k) := by
  unfold val_main_v81 val_main_cst_12
  generalize val_main_v80 (F := Ideal) x0 = y
  exact sum_at y b h i
theorem v84_at (b : Fin 32) (h : Fin 4) (i j : Fin 2048) : val_main_v84 (F := Ideal) x0 (ix4 b h i j) = Ideal.div (val_main_v80 (F := Ideal) x0 (ix4 b h i j)) (val_main_v81 (F := Ideal) x0 (ix3 b h i)) := by
  unfold val_main_v84 val_main_v83 val_main_v82
  generalize val_main_v80 (F := Ideal) x0 = y
  generalize val_main_v81 (F := Ideal) x0 = z
  pointwise []
/-- A row of real scores has the softmax of the reals. -/
theorem v84_real (b : Fin 32) (h : Fin 4) (i : Fin 2048) (s : ℕ → ℝ) (hs : ∀ j : Fin 2048, val_main_v73 (F := Ideal) x0 (ix4 b h i j) = ((s j.val : ℝ) : EReal)) (j : Fin 2048) :
    val_main_v84 (F := Ideal) x0 (ix4 b h i j) = ((Real.exp (s j.val) / rowL s : ℝ) : EReal) := by
  obtain ⟨μ, hμ⟩ := fold_max_real (by decide : 0 < 2048) (fun j : Fin 2048 => s j.val)
  have hm : val_main_v76 (F := Ideal) x0 (ix3 b h i) = ((μ : ℝ) : EReal) := by
    rw [v76_at, v74_at]
    simp only [hs]
    rw [hμ]; exact max_eq_right bot_le
  exact softmax_real s μ _ (fun j => by rw [v80_at, hs, hm]) _ (v81_at x0 b h i) _ j (v84_at x0 b h i j)

end Cert.ReferenceIdeal.Att

end
-- ==== Proof.Ref5.lean ====
module

public import proofs.«01_k».proof.Proof.Ref4
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The reference's result -/
variable (x0 : Vec Ideal S81920x1536 .f32) (x1 x2 x3 x4 : Vec Ideal S1x64 .f32) (x5 : Vec Ideal S1x128 .f32)
theorem v19_at : val_main_v19 (F := Ideal) x1 x2 x3 x4 ix0 = lamE (fun e => x1 (ix2 (0 : Fin 1) e)) (fun e => x2 (ix2 (0 : Fin 1) e)) (fun e => x3 (ix2 (0 : Fin 1) e)) (fun e => x4 (ix2 (0 : Fin 1) e)) := by
  unfold lamE
  pointwise [val_main_v19, val_main_v18, val_main_v17, val_main_v16, val_main_v15, val_main_v14, val_main_v13, val_main_v12, val_main_v11, val_main_v10, val_main_v9, val_main_v8, val_main_cst, val_main_cst_0, val_main_cst_1]
theorem v87_at (b : Fin 32) (h : Fin 4) (i j : Fin 2048) : val_main_v87 (F := Ideal) x0 x1 x2 x3 x4 (ix4 b h i j)
    = val_main_v63 (F := Ideal) x0 (ix4 b h i j) - val_main_v19 (F := Ideal) x1 x2 x3 x4 ix0 * val_main_v84 (F := Ideal) x0 (ix4 b h i j) := by
  unfold val_main_v87 val_main_v86 val_main_v85
  generalize val_main_v63 (F := Ideal) x0 = y
  generalize val_main_v84 (F := Ideal) x0 = z
  generalize val_main_v19 (F := Ideal) x1 x2 x3 x4 = w
  pointwise []
theorem v89_at (b : Fin 32) (i : Fin 2048) (h : Fin 4) (d : Fin 128) : val_main_v89 (F := Ideal) x0 x1 x2 x3 x4 (ix4 b i h d)
    = ∑ j : Fin 2048, val_main_v7 (F := Ideal) x0 (ix4 b j h d) * val_main_v87 (F := Ideal) x0 x1 x2 x3 x4 (ix4 b h i j) := by
  unfold val_main_v89 val_main_v88
  generalize val_main_v7 (F := Ideal) x0 = y
  generalize val_main_v87 (F := Ideal) x0 x1 x2 x3 x4 = z
  pointwise []
theorem v105_at (b : Fin 32) (i : Fin 2048) (h : Fin 4) (d : Fin 128) : val_main_v105 (F := Ideal) x0 x1 x2 x3 x4 x5 (ix4 b i h d)
    = tailE (fun e => val_main_v89 (F := Ideal) x0 x1 x2 x3 x4 (ix4 b i h e)) (x5 (ix2 (0 : Fin 1) d)) d := by
  unfold tailE val_main_v105 val_main_v103 val_main_v100 val_main_v99 val_main_v98 val_main_v97 val_main_v95 val_main_v93 val_main_v92 val_main_v91
  generalize val_main_v89 (F := Ideal) x0 x1 x2 x3 x4 = y
  pointwise [val_main_v104, val_main_v102, val_main_v101, val_main_v90, val_main_v96, val_main_v94, val_main_cst_13, val_main_cst_14, val_main_cst_15, val_main_cst_16]
theorem v107_at (b : Fin 32) (i : Fin 2048) (h : Fin 4) (d : Fin 128) (n : Fin 65536) (k : Fin 512) (hn : n.val = b.val * 2048 + i.val) (hk : k.val = h.val * 128 + d.val) :
    val_main_v107 (F := Ideal) x0 x1 x2 x3 x4 x5 (ix2 n k) = tailE (fun e => val_main_v89 (F := Ideal) x0 x1 x2 x3 x4 (ix4 b i h e)) (x5 (ix2 (0 : Fin 1) d)) d := by
  rw [← v105_at, val_main_v107_apply, val_main_v106_apply]
  refine congrArg (val_main_v105 (F := Ideal) x0 x1 x2 x3 x4 x5) (funext fun a => Fin.ext ?_)
  have hb := b.isLt
  have hi := i.isLt
  have hh := h.isLt
  have hd := d.isLt
  match a with
  | ⟨0, _⟩ => show (n.val * 512 + k.val) / 1048576 = b.val; omega
  | ⟨1, _⟩ => show (n.val * 512 + k.val) / 512 % 2048 = i.val; omega
  | ⟨2, _⟩ => show (n.val * 512 + k.val) / 128 % 4 = h.val; omega
  | ⟨3, _⟩ => show (n.val * 512 + k.val) % 128 = d.val; omega

end Cert.ReferenceIdeal.Att

end
-- ==== Proof.Ref6.lean ====
module

public import proofs.«01_k».proof.Proof.Ref3
public import proofs.«01_k».proof.Proof.Ref5
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read
open Cert.KernelIdeal.Att (sc0 sc1 rowL rowA oR tailE lamE coe_fsum fold_max_real ninf_eq iexp_coe abs_float rowL_pos)

/-! ## The reference's result on real inputs -/
variable (x0 : Vec Ideal S81920x1536 .f32) (x1 x2 x3 x4 : Vec Ideal S1x64 .f32) (x5 : Vec Ideal S1x128 .f32)
theorem eighth_eq : Ideal.ofBits FTy.f32 0x3E000000#32 = ((1 / 8 : ℝ) : EReal) := by
  simp [Ideal.ofBits, Ideal.ieee, -EReal.coe_mul]; norm_num
/-- The row of the projection at position `j` of sequence `b`. -/
def rowN (b j : ℕ) : ℕ := 16384 + (b * 2048 + j)
/-- A head's lane of the queries, scaled. -/
def qN (P : ℕ → ℕ → ℝ) (b h j : ℕ) (d : Fin 128) : ℝ := P (rowN b j) (128 * h + d.val) * (1 / 8)
/-- A head's lane of the keys. -/
def kN (P : ℕ → ℕ → ℝ) (b h j : ℕ) (d : Fin 128) : ℝ := P (rowN b j) (512 + (128 * h + d.val))
/-- A head's lane of the values. -/
def vN (P : ℕ → ℕ → ℝ) (b h j : ℕ) (d : Fin 128) : ℝ := P (rowN b j) (1024 + (128 * h + d.val))
/-- The first map's scores of a row. -/
def sN0 (P : ℕ → ℕ → ℝ) (b : ℕ) (h : Fin 4) (i j : ℕ) : ℝ := sc0 (slope h) (qN P b h.val i) i (kN P b h.val j) j
/-- The second map's scores of a row. -/
def sN1 (P : ℕ → ℕ → ℝ) (b : ℕ) (h : Fin 4) (i j : ℕ) : ℝ := sc1 (slope h) (qN P b h.val i) i (kN P b h.val j) j

variable (P : ℕ → ℕ → ℝ) (hP : ∀ (n : Fin 81920) (k : Fin 1536), x0 (ix2 n k) = ((P n.val k.val : ℝ) : EReal))
include hP
theorem v52_real (b : Fin 32) (h : Fin 4) (i j : Fin 2048) : val_main_v52 (F := Ideal) x0 (ix4 b h i j) = ((sN0 P b.val h i.val j.val : ℝ) : EReal) := by
  rw [v52_at, eighth_eq]
  simp only [hP, ← EReal.coe_mul, coe_fsum, ← EReal.coe_sub]
  refine congrArg _ ?_
  unfold sN0 sc0
  rw [Finset.sum_mul]
  refine congrArg (· - _) (Finset.sum_congr rfl fun e _ => ?_)
  simp only [qN, kN, rowN, rowOf, colOf, lo]
  norm_num
  ring
theorem v73_real (b : Fin 32) (h : Fin 4) (i j : Fin 2048) : val_main_v73 (F := Ideal) x0 (ix4 b h i j) = ((sN1 P b.val h i.val j.val : ℝ) : EReal) := by
  rw [v73_at, eighth_eq]
  simp only [hP, ← EReal.coe_mul, coe_fsum, ← EReal.coe_sub]
  refine congrArg _ ?_
  unfold sN1 sc1
  rw [Finset.sum_mul]
  refine congrArg (· - _) (Finset.sum_congr rfl fun e _ => ?_)
  simp only [qN, kN, rowN, rowOf, colOf, hi]
  norm_num
  ring
theorem v7_real (b : Fin 32) (i : Fin 2048) (h : Fin 4) (d : Fin 128) : val_main_v7 (F := Ideal) x0 (ix4 b i h d) = ((vN P b.val h.val i.val d : ℝ) : EReal) := by
  rw [v7_at, hP]
  rfl
theorem v89_real (lam : ℝ) (hlam : val_main_v19 (F := Ideal) x1 x2 x3 x4 ix0 = ((lam : ℝ) : EReal)) (b : Fin 32) (i : Fin 2048) (h : Fin 4) (d : Fin 128) :
    val_main_v89 (F := Ideal) x0 x1 x2 x3 x4 (ix4 b i h d) = ((oR (sN0 P b.val h i.val) (sN1 P b.val h i.val) lam (vN P b.val h.val) d : ℝ) : EReal) := by
  rw [v89_at]
  have e (j : Fin 2048) : val_main_v7 (F := Ideal) x0 (ix4 b j h d) * val_main_v87 (F := Ideal) x0 x1 x2 x3 x4 (ix4 b h i j)
      = ((vN P b.val h.val j.val d * (Real.exp (sN0 P b.val h i.val j.val) / rowL (sN0 P b.val h i.val) - lam * (Real.exp (sN1 P b.val h i.val j.val) / rowL (sN1 P b.val h i.val))) : ℝ) : EReal) := by
    rw [v87_at, v7_real x0 P hP, v63_real x0 b h i _ (fun j => v52_real x0 P hP b h i j), v84_real x0 b h i _ (fun j => v73_real x0 P hP b h i j), hlam]
    push_cast
    rfl
  rw [Finset.sum_congr rfl fun j _ => e j, coe_fsum]
  refine congrArg _ ?_
  unfold oR rowA
  rw [Finset.sum_div, Finset.sum_div, Finset.mul_sum, ← Finset.sum_sub_distrib]
  refine Finset.sum_congr rfl fun j _ => ?_
  ring
/-- The reference's result at row `n` and column `k`. -/
theorem v107_real (lam : ℝ) (hlam : lamE (fun e => x1 (ix2 (0 : Fin 1) e)) (fun e => x2 (ix2 (0 : Fin 1) e)) (fun e => x3 (ix2 (0 : Fin 1) e)) (fun e => x4 (ix2 (0 : Fin 1) e)) = ((lam : ℝ) : EReal))
    (b : Fin 32) (i : Fin 2048) (h : Fin 4) (d : Fin 128) (n : Fin 65536) (k : Fin 512) (hn : n.val = b.val * 2048 + i.val) (hk : k.val = h.val * 128 + d.val) :
    val_main_v107 (F := Ideal) x0 x1 x2 x3 x4 x5 (ix2 n k)
      = tailE (fun e => ((oR (sN0 P b.val h i.val) (sN1 P b.val h i.val) lam (vN P b.val h.val) e : ℝ) : EReal)) (x5 (ix2 (0 : Fin 1) d)) d := by
  rw [v107_at x0 x1 x2 x3 x4 x5 b i h d n k hn hk]
  exact congrArg (fun o => tailE o _ d) (funext fun e => v89_real x0 x1 x2 x3 x4 P hP lam ((v19_at x1 x2 x3 x4).trans hlam) b i h e)

end Cert.ReferenceIdeal.Att

end
-- ==== Proof.Ent.lean ====
module

public import proofs.«01_k».proof.Proof.Fr
public import proofs.«01_k».proof.Proof.Ref6
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Att

open Idealize.ShloMosaic Idealize.ShloMosaic.TcCoe Idealize.SL.Sem
open Cert.KernelIdeal.Gen

/-! ## What each point reads, over the arguments -/
variable (m : (ℓ : Loc nD τ sig) → Buf (Elt Ideal) ℓ) (c : Dev nD) (t : Fin cfg0.N)

/-- The projection argument. -/
abbrev X0 : Vec Ideal S81920x1536 .f32 := m ((c : Thread nD τ).loc main_arg0)
/-- The projection as the region finds it: its first 512 columns scaled. -/
theorem v5_at (n : Fin 81920) (k : Fin 1536) : ((V m c main_v5 : Vec Ideal S81920x1536 .bf16) (ix2 n k) : EReal)
    = if k.val < 512 then X0 m c (ix2 n k) * Ideal.ofBits FTy.f32 0x3E000000#32 else X0 m c (ix2 n k) := by
  entry_read
  pointwise []
  by_cases h : k.val < 512
  · rw [dif_pos h, if_pos h]
  · rw [dif_neg h, if_neg h]
    exact congrArg (fun k' => X0 m c (ix2 n k')) (Fin.ext (by show 512 + (k.val - 512) = k.val; omega))
theorem t_lt : t.val < 512 := Nat.lt_of_lt_of_eq t.isLt N_0
theorem blk5 (r : Fin 512) (d : Fin 128) : (iblk m c 5 t : Vec Ideal S512x128 .bf16) (ix2 r d)
    = (V m c main_v5 : Vec Ideal S81920x1536 .bf16) (ix2 ⟨512 * (32 + t.val / 16 * 4 + t.val % 4) + r.val, by have := t_lt t; omega⟩ ⟨128 * (t.val / 4 % 4) + d.val, by omega⟩) := by
  blk_ext [iblk, idx t]
theorem blk6 (j : Fin 2048) (d : Fin 128) : (iblk m c 6 t : Vec Ideal S2048x128 .bf16) (ix2 j d)
    = (V m c main_v5 : Vec Ideal S81920x1536 .bf16) (ix2 ⟨2048 * (8 + t.val / 16) + j.val, by have := t_lt t; omega⟩ ⟨128 * (4 + t.val / 4 % 4) + d.val, by omega⟩) := by
  blk_ext [iblk, idx t]
theorem blk7 (j : Fin 2048) (d : Fin 128) : (iblk m c 7 t : Vec Ideal S2048x128 .bf16) (ix2 j d)
    = (V m c main_v5 : Vec Ideal S81920x1536 .bf16) (ix2 ⟨2048 * (8 + t.val / 16) + j.val, by have := t_lt t; omega⟩ ⟨128 * (8 + t.val / 4 % 4) + d.val, by omega⟩) := by
  blk_ext [iblk, idx t]
theorem idx0 : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)
theorem blk0 (e : Fin 64) : (iblk m c 0 t : Vec Ideal S1x64 .f32) (ix2 (0 : Fin 1) e) = (m ((c : Thread nD τ).loc main_arg1) : Vec Ideal S1x64 .f32) (ix2 (0 : Fin 1) e) := by
  have h : (iblk m c 0 t : Vec Ideal S1x64 .f32) (ix2 (0 : Fin 1) e) = (V m c main_v7 : Vec Ideal S1x64 .f32) (ix2 (0 : Fin 1) e) := by blk_ext [iblk, idx0 t]
  rw [h]; entry_read; pointwise []
theorem blk1 (e : Fin 64) : (iblk m c 1 t : Vec Ideal S1x64 .f32) (ix2 (0 : Fin 1) e) = (m ((c : Thread nD τ).loc main_arg2) : Vec Ideal S1x64 .f32) (ix2 (0 : Fin 1) e) := by
  have h : (iblk m c 1 t : Vec Ideal S1x64 .f32) (ix2 (0 : Fin 1) e) = (V m c main_v9 : Vec Ideal S1x64 .f32) (ix2 (0 : Fin 1) e) := by blk_ext [iblk, idx0 t]
  rw [h]; entry_read; pointwise []
theorem blk2 (e : Fin 64) : (iblk m c 2 t : Vec Ideal S1x64 .f32) (ix2 (0 : Fin 1) e) = (m ((c : Thread nD τ).loc main_arg3) : Vec Ideal S1x64 .f32) (ix2 (0 : Fin 1) e) := by
  have h : (iblk m c 2 t : Vec Ideal S1x64 .f32) (ix2 (0 : Fin 1) e) = (V m c main_v11 : Vec Ideal S1x64 .f32) (ix2 (0 : Fin 1) e) := by blk_ext [iblk, idx0 t]
  rw [h]; entry_read; pointwise []
theorem blk3 (e : Fin 64) : (iblk m c 3 t : Vec Ideal S1x64 .f32) (ix2 (0 : Fin 1) e) = (m ((c : Thread nD τ).loc main_arg4) : Vec Ideal S1x64 .f32) (ix2 (0 : Fin 1) e) := by
  have h : (iblk m c 3 t : Vec Ideal S1x64 .f32) (ix2 (0 : Fin 1) e) = (V m c main_v13 : Vec Ideal S1x64 .f32) (ix2 (0 : Fin 1) e) := by blk_ext [iblk, idx0 t]
  rw [h]; entry_read; pointwise []
theorem blk4 (e : Fin 128) : (iblk m c 4 t : Vec Ideal S1x128 .f32) (ix2 (0 : Fin 1) e) = (m ((c : Thread nD τ).loc main_arg5) : Vec Ideal S1x128 .f32) (ix2 (0 : Fin 1) e) := by
  have h : (iblk m c 4 t : Vec Ideal S1x128 .f32) (ix2 (0 : Fin 1) e) = (V m c main_v15 : Vec Ideal S1x128 .f32) (ix2 (0 : Fin 1) e) := by blk_ext [iblk, idx0 t]
  rw [h]; entry_read; pointwise []

theorem pay14_slope (h : Fin 4) (hh : t.val / 4 % 4 = h.val) : k0_pay14 (F := Ideal) (grid0.coords t) = ((Cert.ReferenceIdeal.Att.slope h : ℝ) : EReal) := by
  have e := (coords_val t).2.1
  rw [hh] at e
  unfold k0_pay14 Cert.ReferenceIdeal.Att.slope
  simp only [e]
  fin_cases h <;> simp [Ideal.ofBits, Ideal.ieee, -EReal.coe_mul, Scalar.select, Scalar.cmpi, IntOp.cmpi] <;> norm_num

end Cert.KernelIdeal.Att

end
-- ==== Proof.Finite.lean ====
module

public import proofs.«01_k».proof.Proof.Tail
public import proofs.«01_k».proof.Proof.Gen.Pre_finite
public import Idealize.ShloMosaic.Lib.Pointwise
public import Idealize.ShloMosaic.Lib.ReduceAll

@[expose] public section

set_option maxRecDepth 16384

noncomputable section

namespace Cert.KernelIdeal.Att

open Idealize.ShloMosaic Idealize.ShloMosaic.TcCoe Idealize.SL.Sem
open Cert.KernelIdeal.Gen

/-! ## What the precondition says -/

theorem and_one : ∀ a b : BitVec 1, IntOp.andi a b = 1#1 → a = 1#1 ∧ b = 1#1 := by decide
theorem inf_eq : Ideal.ofBits FTy.f32 0x7F800000#32 = (⊤ : EReal) := by simp [Ideal.ofBits, Ideal.ieee]
/-- A number whose absolute value is below infinity is a real. -/
theorem real_of_lt (x : EReal) (h : FloatOps.cmpf (F := Ideal) (φ := .f32) .olt (FloatOps.hostAbsf x) (Ideal.ofBits FTy.f32 0x7F800000#32) = 1#1) : x = ((x.toReal : ℝ) : EReal) := by
  have h' : Ideal.cmp .olt (max x (-x)) (Ideal.ofBits FTy.f32 0x7F800000#32) = 1#1 := h
  rw [inf_eq] at h'
  have hl : max x (-x) < (⊤ : EReal) := by
    by_contra hn
    simp [Ideal.cmp, hn] at h'
  rcases max_lt_iff.mp hl with ⟨h1, h2⟩
  refine (EReal.coe_toReal h1.ne fun hb => ?_).symm
  rw [hb] at h2
  simp at h2
theorem real_all (s : Shape) (axes : List (Fin s.rank)) (x : FVec Ideal s .f32) (hb : Cert.Pre_finite.S_.BroadcastsInDim s (![] : Fin 0 → Fin s.rank)) (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant (F := Ideal) Cert.Pre_finite.S_ .f32 0x7F800000#32))) (constantI Cert.Pre_finite.S_ 1 1#1) hr hu j = 1#1) (i : s.Idx) :
    x i = (((x i).toReal : ℝ) : EReal) :=
  real_of_lt _ (Host.reduce_andi_all _ _ _ _ j h i)
theorem finite_args (x0 : FVec Ideal Cert.Pre_finite.S81920x1536 .f32) (x1 x2 x3 x4 : FVec Ideal Cert.Pre_finite.S1x64 .f32) (x5 : FVec Ideal Cert.Pre_finite.S1x128 .f32)
    (h : Cert.Pre_finite.fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal)) ∧ (∀ i, x3 i = (((x3 i).toReal : ℝ) : EReal)) ∧ (∀ i, x4 i = (((x4 i).toReal : ℝ) : EReal)) := by
  have h0 := congrFun h ix0
  simp only [Cert.Pre_finite.fn, Cert.Pre_finite.fn_part1, andi] at h0
  obtain ⟨h0, h4⟩ := and_one _ _ h0
  obtain ⟨h0, h3⟩ := and_one _ _ h0
  obtain ⟨h0, h2⟩ := and_one _ _ h0
  obtain ⟨h0, h1⟩ := and_one _ _ h0
  exact ⟨real_all _ _ x0 _ _ _ _ h0, real_all _ _ x1 _ _ _ _ h1, real_all _ _ x2 _ _ _ _ h2, real_all _ _ x3 _ _ _ _ h3, real_all _ _ x4 _ _ _ _ h4⟩

/-- On real vectors the factor of the second map is real. -/
theorem lam_real (x0 x1 x2 x3 : Fin 64 → EReal) (h0 : ∀ e, x0 e = (((x0 e).toReal : ℝ) : EReal)) (h1 : ∀ e, x1 e = (((x1 e).toReal : ℝ) : EReal)) (h2 : ∀ e, x2 e = (((x2 e).toReal : ℝ) : EReal)) (h3 : ∀ e, x3 e = (((x3 e).toReal : ℝ) : EReal)) :
    ∃ lam : ℝ, lamE x0 x1 x2 x3 = ((lam : ℝ) : EReal) := by
  have hc : ∃ k : ℝ, Ideal.ofBits FTy.f32 0x3E4CCCCD#32 = ((k : ℝ) : EReal) := by
    refine ⟨13421773 / 67108864, ?_⟩
    simp [Ideal.ofBits, Ideal.ieee, -EReal.coe_mul]; norm_num
  obtain ⟨k, hk⟩ := hc
  unfold lamE
  rw [hk, Finset.sum_congr rfl fun e _ => congrArg₂ (· * ·) (h0 e) (h1 e), Finset.sum_congr rfl fun e _ => congrArg₂ (· * ·) (h2 e) (h3 e)]
  simp only [← EReal.coe_mul, coe_fsum, Ideal.exp_coe, ← EReal.coe_sub, ← EReal.coe_add]
  exact ⟨_, rfl⟩

end Cert.KernelIdeal.Att

end
-- ==== Proof.Final.lean ====
module

public import proofs.«01_k».proof.Proof.Ent
public import proofs.«01_k».proof.Proof.Finite
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Att

open Idealize.ShloMosaic Idealize.ShloMosaic.TcCoe Idealize.SL.Sem
open Cert.KernelIdeal.Gen

open Cert.ReferenceIdeal.Att (qN kN vN sN0 sN1 rowN slope eighth_eq v107_real)
/-! ## The kernel's result is the reference's -/
variable (m : (ℓ : Loc nD τ sig) → Buf (Elt Ideal) ℓ) (c : Dev nD)

/-- The reference's result over the kernel's arguments. -/
def refV : Vec Ideal S65536x512 .bf16 :=
  Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem v5_real (P : ℕ → ℕ → ℝ) (hP : ∀ (n : Fin 81920) (k : Fin 1536), X0 m c (ix2 n k) = ((P n.val k.val : ℝ) : EReal)) (n : Fin 81920) (k : Fin 1536) :
    ((V m c main_v5 : Vec Ideal S81920x1536 .bf16) (ix2 n k) : EReal) = (((if k.val < 512 then P n.val k.val * (1 / 8) else P n.val k.val) : ℝ) : EReal) := by
  rw [v5_at, eighth_eq, hP]
  split_ifs
  · rw [EReal.coe_mul]
  · rfl

theorem point (P : ℕ → ℕ → ℝ) (hP : ∀ (n : Fin 81920) (k : Fin 1536), X0 m c (ix2 n k) = ((P n.val k.val : ℝ) : EReal)) (lam : ℝ)
    (hlam : lamE (fun e => (m ((c : Thread nD τ).loc main_arg1) : Vec Ideal S1x64 .f32) (ix2 (0 : Fin 1) e)) (fun e => (m ((c : Thread nD τ).loc main_arg2) : Vec Ideal S1x64 .f32) (ix2 (0 : Fin 1) e))
      (fun e => (m ((c : Thread nD τ).loc main_arg3) : Vec Ideal S1x64 .f32) (ix2 (0 : Fin 1) e)) (fun e => (m ((c : Thread nD τ).loc main_arg4) : Vec Ideal S1x64 .f32) (ix2 (0 : Fin 1) e)) = ((lam : ℝ) : EReal))
    (t : Fin cfg0.N) (r : Fin 512) (d : Fin 128) (n : Fin 65536) (k : Fin 512) (hn : n.val = 512 * (t.val / 16 * 4 + t.val % 4) + r.val) (hk : k.val = 128 * (t.val / 4 % 4) + d.val) :
    outT m c t (ix2 r d) = refV m c (ix2 n k) := by
  have ht := t_lt t
  have hb : t.val / 16 < 32 := by omega
  have hh : t.val / 4 % 4 < 4 := by omega
  have hi : 512 * (t.val % 4) + r.val < 2048 := by omega
  have hx (d : Fin 128) : (iblk m c 5 t : Vec Ideal S512x128 .bf16) (ix2 r d) = ((qN P (t.val / 16) (t.val / 4 % 4) (512 * (t.val % 4) + r.val) d : ℝ) : EReal) := by
    rw [blk5]
    refine (v5_real m c P hP _ _).trans (congrArg _ ?_)
    have h1 : 128 * (t.val / 4 % 4) + d.val < 512 := by omega
    rw [if_pos h1]
    unfold qN rowN
    exact congrArg (fun a => P a (128 * (t.val / 4 % 4) + d.val) * (1 / 8)) (by show 512 * (32 + t.val / 16 * 4 + t.val % 4) + r.val = _; omega)
  have hky (j : Fin 2048) (d : Fin 128) : (iblk m c 6 t : Vec Ideal S2048x128 .bf16) (ix2 j d) = ((kN P (t.val / 16) (t.val / 4 % 4) j.val d : ℝ) : EReal) := by
    rw [blk6]
    refine (v5_real m c P hP _ _).trans (congrArg _ ?_)
    have h1 : ¬ 128 * (4 + t.val / 4 % 4) + d.val < 512 := by omega
    rw [if_neg h1]
    unfold kN rowN
    exact congrArg₂ P (by show 2048 * (8 + t.val / 16) + j.val = _; omega) (by show 128 * (4 + t.val / 4 % 4) + d.val = _; omega)
  have hvl (j : Fin 2048) (d : Fin 128) : (iblk m c 7 t : Vec Ideal S2048x128 .bf16) (ix2 j d) = ((vN P (t.val / 16) (t.val / 4 % 4) j.val d : ℝ) : EReal) := by
    rw [blk7]
    refine (v5_real m c P hP _ _).trans (congrArg _ ?_)
    have h1 : ¬ 128 * (8 + t.val / 4 % 4) + d.val < 512 := by omega
    rw [if_neg h1]
    unfold vN rowN
    exact congrArg₂ P (by show 2048 * (8 + t.val / 16) + j.val = _; omega) (by show 128 * (8 + t.val / 4 % 4) + d.val = _; omega)
  have hl : lamE (fun e => (iblk m c 0 t : Vec Ideal S1x64 .f32) (ix2 (0 : Fin 1) e)) (fun e => (iblk m c 1 t : Vec Ideal S1x64 .f32) (ix2 (0 : Fin 1) e)) (fun e => (iblk m c 2 t : Vec Ideal S1x64 .f32) (ix2 (0 : Fin 1) e)) (fun e => (iblk m c 3 t : Vec Ideal S1x64 .f32) (ix2 (0 : Fin 1) e)) = ((lam : ℝ) : EReal) := by
    rw [← hlam, funext (blk0 m c t), funext (blk1 m c t), funext (blk2 m c t), funext (blk3 m c t)]
  have hk' := attOut_apply t (slope ⟨t.val / 4 % 4, hh⟩) (pay14_slope t ⟨t.val / 4 % 4, hh⟩ rfl) (iblk m c 0 t) (iblk m c 1 t) (iblk m c 2 t) (iblk m c 3 t) (iblk m c 4 t) lam hl
    (iblk m c 5 t) (iblk m c 6 t) (iblk m c 7 t) r _ _ _ hx hky hvl d
  have hr := v107_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    P hP lam hlam ⟨t.val / 16, hb⟩ ⟨512 * (t.val % 4) + r.val, hi⟩ ⟨t.val / 4 % 4, hh⟩ d n k (by rw [hn]; show _ = t.val / 16 * 2048 + (512 * (t.val % 4) + r.val); omega) (by rw [hk]; show _ = t.val / 4 % 4 * 128 + d.val; omega)
  rw [blk4] at hk'
  exact hk'.trans hr.symm

/-- The array of results after the run. -/
theorem final (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    (dats m 0 c).arrAt 8 (cfgs 0).N = refV m c := by
  obtain ⟨h0, h1, h2, h3, h4⟩ := finite_args _ _ _ _ _ _ h
  obtain ⟨lam, hlam⟩ := lam_real _ _ _ _ (fun e => h1 (ix2 (0 : Fin 1) e)) (fun e => h2 (ix2 (0 : Fin 1) e)) (fun e => h3 (ix2 (0 : Fin 1) e)) (fun e => h4 (ix2 (0 : Fin 1) e))
  let P : ℕ → ℕ → ℝ := fun n k => (X0 m c (ix2 (⟨n % 81920, Nat.mod_lt _ (by decide)⟩ : Fin 81920) (⟨k % 1536, Nat.mod_lt _ (by decide)⟩ : Fin 1536))).toReal
  have hP (n : Fin 81920) (k : Fin 1536) : X0 m c (ix2 n k) = ((P n.val k.val : ℝ) : EReal) := by
    refine (h0 (ix2 n k)).trans (congrArg _ ?_)
    show (X0 m c (ix2 n k)).toReal = (X0 m c (ix2 _ _)).toReal
    rw [show (⟨n.val % 81920, Nat.mod_lt _ (by decide)⟩ : Fin 81920) = n from Fin.ext (Nat.mod_eq_of_lt n.isLt), show (⟨k.val % 1536, Nat.mod_lt _ (by decide)⟩ : Fin 1536) = k from Fin.ext (Nat.mod_eq_of_lt k.isLt)]
  refine (dats m 0 c).arrAt_eq_of_covers 8 _ (by decide +kernel) fun t _ y => ?_
  blk_simp
  rw [after0_8]
  have hy : y = ix2 (y 0) (y 1) := funext fun a => match a with
    | ⟨0, _⟩ => rfl
    | ⟨1, _⟩ => rfl
  have ht := t_lt t
  have hy0 : (y 0).val < 512 := (y 0).isLt
  have hy1 : (y 1).val < 128 := (y 1).isLt
  refine (congrArg (outT m c t) hy).trans ((point m c P hP lam hlam t (y 0) (y 1) ⟨512 * (t.val / 16 * 4 + t.val % 4) + (y 0).val, by omega⟩ ⟨128 * (t.val / 4 % 4) + (y 1).val, by omega⟩ rfl rfl).trans (congrArg (refV m c) ?_))
  blk_ext [idx t]

end Cert.KernelIdeal.Att

end
-- ==== Proof.XSpec.lean ====
module

public import proofs.«01_k».proof.Proof.Gen.Kernel2Ideal.Launch
public import proofs.«01_k».proof.Proof.Gen.Kernel2Ideal.Skeleton
public import Idealize.ShloMosaic.Lib.ValueLayout
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.WordCmp

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

open Idealize.ShloMosaic.ValueIdx

/-! ## What a block's point computes -/

/-- An expert's first weights, rounded. -/
def wu (X : Vec F S1x1024x2048 .f32) : Vec F S1024x2048 .bf16 := fun y => FloatOps.truncf .bf16 bitsLt_bf16_f32 (X (ix3 (0 : Fin 1) (y 0) (y 1)))
/-- An expert's second weights, rounded. -/
def wd (X : Vec F S1x1024x1024 .f32) : Vec F S1024x1024 .bf16 := fun y => FloatOps.truncf .bf16 bitsLt_bf16_f32 (X (ix3 (0 : Fin 1) (y 0) (y 1)))
/-- Columns 256 k … of the first weights. -/
def colW (W : Vec F S1024x2048 .bf16) (k : Fin 8) : Vec F S1024x256 .bf16 := fun z => W (ix2 (z 0) ⟨256 * k.val + (z 1).val, by have := (z 1).isLt; have h : (z 1).val < 256 := this; have := k.isLt; omega⟩)
/-- Entries 256 k … of the first bias. -/
def colB (b : Vec F S1x1x2048 .f32) (k : Fin 8) : Vec F S1x1x256 .f32 := fun z => b (ix3 (0 : Fin 1) (0 : Fin 1) ⟨256 * k.val + (z 2).val, by have := (z 2).isLt; have h : (z 2).val < 256 := this; have := k.isLt; omega⟩)
/-- The activations of 256 columns. -/
def act (x : FVec F S512x1024 .bf16) (wg : Vec F S1024x256 .bf16) (bg : Vec F S1x1x256 .f32) (wl : Vec F S1024x256 .bf16) (bl : Vec F S1x1x256 .f32) : FVec F S512x256 .bf16 :=
  k0_pay2 (k0_pay27 x wl bl) (k0_pay28 x wg bg) (Scalar.ofBits .f32 0xC0E00000#32) (Scalar.ofBits .f32 0x40E00000#32)
theorem pay21_eq (x : Vec F S512x1024 .f32) (wg : Vec F S1024x256 .bf16) (bg : Vec F S1x1x256 .f32) (wl : Vec F S1024x256 .bf16) (bl : Vec F S1x1x256 .f32) :
    k0_pay21 x wg bg wl bl = act (k0_pay20 x) wg bg wl bl := rfl
theorem pay23_eq (x : Vec F S512x1024 .f32) (wg : Vec F S1024x256 .bf16) (bg : Vec F S1x1x256 .f32) (wl : Vec F S1024x256 .bf16) (bl : Vec F S1x1x256 .f32) :
    k0_pay23 (k0_pay20 x) (k0_pay22 x wg) bg wl bl = act (k0_pay20 x) wg bg wl bl := rfl
theorem pay26_eq (x : FVec F S512x1024 .bf16) (wg : Vec F S1024x256 .bf16) (bg : Vec F S1x1x256 .f32) (wl : Vec F S1024x256 .bf16) (bl : Vec F S1x1x256 .f32) :
    k0_pay26 (k0_pay24 x wg bg) (k0_pay25 x wl) bl = act x wg bg wl bl := rfl
theorem pay2_eq (x : FVec F S512x1024 .bf16) (wg : Vec F S1024x256 .bf16) (bg : Vec F S1x1x256 .f32) (wl : Vec F S1024x256 .bf16) (bl : Vec F S1x1x256 .f32) :
    k0_pay2 (k0_pay27 x wl bl) (k0_pay28 x wg bg) (FloatOps.ofBits .f32 3235905536#32) (FloatOps.ofBits .f32 1088421888#32) = act x wg bg wl bl := rfl
/-- All the activations of a block. -/
def aOut (x : Vec F S512x1024 .f32) (W : Vec F S1024x2048 .bf16) (b : Vec F S1x1x2048 .f32) : Vec F S512x1024 .bf16 := fun y =>
  act (k0_pay20 x) (colW W ⟨(y 1).val / 256, by have := (y 1).isLt; have h : (y 1).val < 1024 := this; omega⟩) (colB b ⟨(y 1).val / 256, by have := (y 1).isLt; have h : (y 1).val < 1024 := this; omega⟩)
    (colW W ⟨(y 1).val / 256 + 4, by have := (y 1).isLt; have h : (y 1).val < 1024 := this; omega⟩) (colB b ⟨(y 1).val / 256 + 4, by have := (y 1).isLt; have h : (y 1).val < 1024 := this; omega⟩)
    (ix2 (y 0) ⟨(y 1).val % 256, Nat.mod_lt _ (by decide)⟩)
/-- A block's result: the activations through the second weights, the second bias added. -/
def yOut (x : Vec F S512x1024 .f32) (W : Vec F S1024x2048 .bf16) (b : Vec F S1x1x2048 .f32) (D : Vec F S1024x1024 .bf16) (e : Vec F S1x1x1024 .f32) : Vec F S512x1024 .f32 :=
  k0_pay3 (aOut x W b) D e

/-- The activations at column `256 j + q`. -/
theorem aOut_at (x : Vec F S512x1024 .f32) (W : Vec F S1024x2048 .bf16) (b : Vec F S1x1x2048 .f32) (j : Fin 4) (z : S512x256.Idx) (y : S512x1024.Idx)
    (h0 : (y 0).val = (z 0).val) (h1 : (y 1).val = 256 * j.val + (z 1).val) :
    aOut x W b y = act (k0_pay20 x) (colW W ⟨j.val, by omega⟩) (colB b ⟨j.val, by omega⟩) (colW W ⟨j.val + 4, by omega⟩) (colB b ⟨j.val + 4, by omega⟩) z := by
  have hz : (z 1).val < 256 := (z 1).isLt
  have e1 : (y 1).val / 256 = j.val := by omega
  have e2 : (y 1).val % 256 = (z 1).val := by omega
  unfold aOut
  have e3 : (ix2 (y 0) (⟨(y 1).val % 256, Nat.mod_lt _ (by decide)⟩ : Fin 256) : S512x256.Idx) = z := by
    funext a; apply Fin.ext
    match a with
    | ⟨0, _⟩ => exact h0
    | ⟨1, _⟩ => exact e2
  rw [e3]
  congr 2 <;> exact Fin.ext (by simp only [e1])

/-- A load that the stores before it cover reads what they wrote. -/
theorem readCov_of {κ : Kind} {sp : Space} {s : Shape} {e : EltTy} (v : View sig κ sp s e) (G : Vec F s e) (L : List (View.Piece (Elt F) s e))
    (hG : ∀ p ∈ L, ∀ x : p.1.shape.Idx, p.2 x = G (p.1.emb x)) (hc : ∀ y : s.Idx, ∃ p ∈ L, y ∈ p.1.set) (r : Rect s) :
    v.readCov L r.toLoadRect = View.ld G r := by
  funext x
  exact View.read_writes_apply_of_pieces _ _ G L hG _ (hc _)

/-- Stores that cover a buffer leave what they wrote. -/
theorem read_of {κ : Kind} {sp : Space} {s : Shape} {e : EltTy} (v : View sig κ sp s e) (f : v.ty.Contents (Elt F)) (G : Vec F s e) (L : List (View.Piece (Elt F) s e))
    (hG : ∀ p ∈ L, ∀ x : p.1.shape.Idx, p.2 x = G (p.1.emb x)) (hc : ∀ y : s.Idx, ∃ p ∈ L, y ∈ p.1.set) :
    v.read (Elt F) (v.writes (Elt F) f L) = G := by
  funext x
  exact View.read_writes_apply_of_pieces _ _ G L hG _ (hc _)

/-- A load from a whole buffer reads its block. -/
theorem readAt_ld {κ : Kind} {sp : Space} {s : Shape} {e : EltTy} {m : Memref sig κ sp s e} (h : m.IsWhole) (X : Vec F s e) (r : Rect s) :
    View.readAt (Elt F) m.view r.toLoadRect (h.unread X) = View.ld X r := by
  funext x
  exact congrFun (h.read_unread X) _

/-- A whole load is the block. -/
theorem ld_whole2 {n : Fin 2 → ℕ} {e : EltTy} (X : Vec F ⟨2, n⟩ e) (inb) : View.ld X (Rect.unit (s := ⟨2, n⟩) ![0, 0] n inb) = X := by
  funext y
  show X _ = X y
  congr 1
  funext a; apply Fin.ext
  match a with
  | ⟨0, _⟩ => show 0 + 1 * (y 0).val = (y 0).val; omega
  | ⟨1, _⟩ => show 0 + 1 * (y 1).val = (y 1).val; omega
/-- A whole load is the block. -/
theorem ld_whole3 {n : Fin 3 → ℕ} {e : EltTy} (X : Vec F ⟨3, n⟩ e) (inb) : View.ld X (Rect.unit (s := ⟨3, n⟩) ![0, 0, 0] n inb) = X := by
  funext y
  show X _ = X y
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
/-- A whole store reads back as what was stored. -/
theorem read_whole {n : Fin 2 → ℕ} {e : EltTy} {κ : Kind} {sp : Space} (v : View sig κ sp ⟨2, n⟩ e) (f : v.ty.Contents (Elt F)) (inb) (P : Vec F ⟨2, n⟩ e) :
    v.read (Elt F) (v.writes (Elt F) f [⟨Rect.unit (s := ⟨2, n⟩) ![0, 0] n inb, P⟩]) = P := by
  funext y
  refine View.read_writes_apply_of_pieces _ _ P _ ?_ y ⟨_, .head _, ?_⟩
  · intro p hp x
    obtain rfl : p = _ := List.mem_singleton.mp hp
    show P x = P _
    congr 1
    funext a; apply Fin.ext
    match a with
    | ⟨0, _⟩ => show (x 0).val = 0 + 1 * (x 0).val; omega
    | ⟨1, _⟩ => show (x 1).val = 0 + 1 * (x 1).val; omega
  · refine (Rect.mem_set_unit (inb := inb)).mpr fun a => ?_
    match a with
    | ⟨0, _⟩ => exact ⟨Nat.zero_le _, by have := (y 0).isLt; show (y 0).val < 0 + n 0; rw [Nat.zero_add]; exact this⟩
    | ⟨1, _⟩ => exact ⟨Nat.zero_le _, by have := (y 1).isLt; show (y 1).val < 0 + n 1; rw [Nat.zero_add]; exact this⟩

/-- 128 rows of an expert's weights, rounded and reshaped. -/
theorem slab {n C : ℕ} (o : ℕ) (X : Vec F ⟨3, ![1, n, C]⟩ .f32) (inb) (h : (⟨3, ![1, 128, C]⟩ : Shape).ShapeCasts ⟨2, ![128, C]⟩) (h') (hb)
    (x : (⟨2, ![128, C]⟩ : Shape).Idx) (p : Fin n) (hp : p.val = o + (x 0).val) :
    shapeCast ⟨2, ![128, C]⟩ (truncf .bf16 (shapeCast ⟨2, ![128, C]⟩ (View.ld X (Rect.unit (s := ⟨3, ![1, n, C]⟩) ![0, o, 0] ![1, 128, C] inb)) h) hb) h' x
      = FloatOps.truncf .bf16 hb (X (ix3 (0 : Fin 1) p (x 1))) := by
  rw [shapeCast_self]
  show FloatOps.truncf .bf16 hb (shapeCast ⟨2, ![128, C]⟩ (View.ld X (Rect.unit (s := ⟨3, ![1, n, C]⟩) ![0, o, 0] ![1, 128, C] inb)) h x) = _
  have ex : x = ix2 (x 0) (x 1) := by
    funext a
    match a with
    | ⟨0, _⟩ => rfl
    | ⟨1, _⟩ => rfl
  have key := shapeCast_1ab_ab_apply (View.ld X (Rect.unit (s := ⟨3, ![1, n, C]⟩) ![0, o, 0] ![1, 128, C] inb)) h (x 0) (x 1)
  refine (congrArg (FloatOps.truncf .bf16 hb) ((congrArg (shapeCast ⟨2, ![128, C]⟩ (View.ld X (Rect.unit (s := ⟨3, ![1, n, C]⟩) ![0, o, 0] ![1, 128, C] inb)) h) ex).trans key)).trans ?_
  show FloatOps.truncf .bf16 hb (X _) = _
  congr 2
  funext a; apply Fin.ext
  match a with
  | ⟨0, _⟩ => show 0 + 1 * 0 = 0; omega
  | ⟨1, _⟩ => show o + 1 * (x 0).val = p.val; omega
  | ⟨2, _⟩ => show 0 + 1 * (x 1).val = (x 1).val; omega

theorem slabU0 (X : Vec F S1x1024x2048 .f32) (x : S128x2048.Idx) :
    k0_pay5 (View.ld X (Rect.unit (s := S1x1024x2048) ![0, 0, 0] S1x128x2048.size inb_S1x1024x2048_S1x128x2048_0_0_0)) x
      = wu X ((Rect.unit (s := S1024x2048) ![0, 0] S128x2048.size inb_S1024x2048_S128x2048_0_0).emb x) := by
  have hx : (x 0).val < 128 := (x 0).isLt
  refine (slab 0 X _ _ _ _ x ⟨0 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 0 + (x 0).val = 0 + 1 * (x 0).val; omega
  | ⟨2, _⟩ => show (x 1).val = 0 + 1 * (x 1).val; omega
theorem slabU1 (X : Vec F S1x1024x2048 .f32) (x : S128x2048.Idx) :
    k0_pay6 (View.ld X (Rect.unit (s := S1x1024x2048) ![0, 128, 0] S1x128x2048.size inb_S1x1024x2048_S1x128x2048_0_128_0)) x
      = wu X ((Rect.unit (s := S1024x2048) ![128, 0] S128x2048.size inb_S1024x2048_S128x2048_128_0).emb x) := by
  have hx : (x 0).val < 128 := (x 0).isLt
  refine (slab 128 X _ _ _ _ x ⟨128 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 128 + (x 0).val = 128 + 1 * (x 0).val; omega
  | ⟨2, _⟩ => show (x 1).val = 0 + 1 * (x 1).val; omega
theorem slabU2 (X : Vec F S1x1024x2048 .f32) (x : S128x2048.Idx) :
    k0_pay7 (View.ld X (Rect.unit (s := S1x1024x2048) ![0, 256, 0] S1x128x2048.size inb_S1x1024x2048_S1x128x2048_0_256_0)) x
      = wu X ((Rect.unit (s := S1024x2048) ![256, 0] S128x2048.size inb_S1024x2048_S128x2048_256_0).emb x) := by
  have hx : (x 0).val < 128 := (x 0).isLt
  refine (slab 256 X _ _ _ _ x ⟨256 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 256 + (x 0).val = 256 + 1 * (x 0).val; omega
  | ⟨2, _⟩ => show (x 1).val = 0 + 1 * (x 1).val; omega
theorem slabU3 (X : Vec F S1x1024x2048 .f32) (x : S128x2048.Idx) :
    k0_pay8 (View.ld X (Rect.unit (s := S1x1024x2048) ![0, 384, 0] S1x128x2048.size inb_S1x1024x2048_S1x128x2048_0_384_0)) x
      = wu X ((Rect.unit (s := S1024x2048) ![384, 0] S128x2048.size inb_S1024x2048_S128x2048_384_0).emb x) := by
  have hx : (x 0).val < 128 := (x 0).isLt
  refine (slab 384 X _ _ _ _ x ⟨384 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 384 + (x 0).val = 384 + 1 * (x 0).val; omega
  | ⟨2, _⟩ => show (x 1).val = 0 + 1 * (x 1).val; omega
theorem slabU4 (X : Vec F S1x1024x2048 .f32) (x : S128x2048.Idx) :
    k0_pay9 (View.ld X (Rect.unit (s := S1x1024x2048) ![0, 512, 0] S1x128x2048.size inb_S1x1024x2048_S1x128x2048_0_512_0)) x
      = wu X ((Rect.unit (s := S1024x2048) ![512, 0] S128x2048.size inb_S1024x2048_S128x2048_512_0).emb x) := by
  have hx : (x 0).val < 128 := (x 0).isLt
  refine (slab 512 X _ _ _ _ x ⟨512 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 512 + (x 0).val = 512 + 1 * (x 0).val; omega
  | ⟨2, _⟩ => show (x 1).val = 0 + 1 * (x 1).val; omega
theorem slabU5 (X : Vec F S1x1024x2048 .f32) (x : S128x2048.Idx) :
    k0_pay10 (View.ld X (Rect.unit (s := S1x1024x2048) ![0, 640, 0] S1x128x2048.size inb_S1x1024x2048_S1x128x2048_0_640_0)) x
      = wu X ((Rect.unit (s := S1024x2048) ![640, 0] S128x2048.size inb_S1024x2048_S128x2048_640_0).emb x) := by
  have hx : (x 0).val < 128 := (x 0).isLt
  refine (slab 640 X _ _ _ _ x ⟨640 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 640 + (x 0).val = 640 + 1 * (x 0).val; omega
  | ⟨2, _⟩ => show (x 1).val = 0 + 1 * (x 1).val; omega
theorem slabU6 (X : Vec F S1x1024x2048 .f32) (x : S128x2048.Idx) :
    k0_pay11 (View.ld X (Rect.unit (s := S1x1024x2048) ![0, 768, 0] S1x128x2048.size inb_S1x1024x2048_S1x128x2048_0_768_0)) x
      = wu X ((Rect.unit (s := S1024x2048) ![768, 0] S128x2048.size inb_S1024x2048_S128x2048_768_0).emb x) := by
  have hx : (x 0).val < 128 := (x 0).isLt
  refine (slab 768 X _ _ _ _ x ⟨768 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 768 + (x 0).val = 768 + 1 * (x 0).val; omega
  | ⟨2, _⟩ => show (x 1).val = 0 + 1 * (x 1).val; omega
theorem slabU7 (X : Vec F S1x1024x2048 .f32) (x : S128x2048.Idx) :
    k0_pay12 (View.ld X (Rect.unit (s := S1x1024x2048) ![0, 896, 0] S1x128x2048.size inb_S1x1024x2048_S1x128x2048_0_896_0)) x
      = wu X ((Rect.unit (s := S1024x2048) ![896, 0] S128x2048.size inb_S1024x2048_S128x2048_896_0).emb x) := by
  have hx : (x 0).val < 128 := (x 0).isLt
  refine (slab 896 X _ _ _ _ x ⟨896 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 896 + (x 0).val = 896 + 1 * (x 0).val; omega
  | ⟨2, _⟩ => show (x 1).val = 0 + 1 * (x 1).val; omega
theorem slabD0 (X : Vec F S1x1024x1024 .f32) (x : S128x1024.Idx) :
    k0_pay13 (View.ld X (Rect.unit (s := S1x1024x1024) ![0, 0, 0] S1x128x1024.size inb_S1x1024x1024_S1x128x1024_0_0_0)) x
      = wd X ((Rect.unit (s := S1024x1024) ![0, 0] S128x1024.size inb_S1024x1024_S128x1024_0_0).emb x) := by
  have hx : (x 0).val < 128 := (x 0).isLt
  refine (slab 0 X _ _ _ _ x ⟨0 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 0 + (x 0).val = 0 + 1 * (x 0).val; omega
  | ⟨2, _⟩ => show (x 1).val = 0 + 1 * (x 1).val; omega
theorem slabD1 (X : Vec F S1x1024x1024 .f32) (x : S128x1024.Idx) :
    k0_pay14 (View.ld X (Rect.unit (s := S1x1024x1024) ![0, 128, 0] S1x128x1024.size inb_S1x1024x1024_S1x128x1024_0_128_0)) x
      = wd X ((Rect.unit (s := S1024x1024) ![128, 0] S128x1024.size inb_S1024x1024_S128x1024_128_0).emb x) := by
  have hx : (x 0).val < 128 := (x 0).isLt
  refine (slab 128 X _ _ _ _ x ⟨128 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 128 + (x 0).val = 128 + 1 * (x 0).val; omega
  | ⟨2, _⟩ => show (x 1).val = 0 + 1 * (x 1).val; omega
theorem slabD2 (X : Vec F S1x1024x1024 .f32) (x : S128x1024.Idx) :
    k0_pay15 (View.ld X (Rect.unit (s := S1x1024x1024) ![0, 256, 0] S1x128x1024.size inb_S1x1024x1024_S1x128x1024_0_256_0)) x
      = wd X ((Rect.unit (s := S1024x1024) ![256, 0] S128x1024.size inb_S1024x1024_S128x1024_256_0).emb x) := by
  have hx : (x 0).val < 128 := (x 0).isLt
  refine (slab 256 X _ _ _ _ x ⟨256 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 256 + (x 0).val = 256 + 1 * (x 0).val; omega
  | ⟨2, _⟩ => show (x 1).val = 0 + 1 * (x 1).val; omega
theorem slabD3 (X : Vec F S1x1024x1024 .f32) (x : S128x1024.Idx) :
    k0_pay16 (View.ld X (Rect.unit (s := S1x1024x1024) ![0, 384, 0] S1x128x1024.size inb_S1x1024x1024_S1x128x1024_0_384_0)) x
      = wd X ((Rect.unit (s := S1024x1024) ![384, 0] S128x1024.size inb_S1024x1024_S128x1024_384_0).emb x) := by
  have hx : (x 0).val < 128 := (x 0).isLt
  refine (slab 384 X _ _ _ _ x ⟨384 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 384 + (x 0).val = 384 + 1 * (x 0).val; omega
  | ⟨2, _⟩ => show (x 1).val = 0 + 1 * (x 1).val; omega
theorem slabD4 (X : Vec F S1x1024x1024 .f32) (x : S128x1024.Idx) :
    k0_pay17 (View.ld X (Rect.unit (s := S1x1024x1024) ![0, 512, 0] S1x128x1024.size inb_S1x1024x1024_S1x128x1024_0_512_0)) x
      = wd X ((Rect.unit (s := S1024x1024) ![512, 0] S128x1024.size inb_S1024x1024_S128x1024_512_0).emb x) := by
  have hx : (x 0).val < 128 := (x 0).isLt
  refine (slab 512 X _ _ _ _ x ⟨512 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 512 + (x 0).val = 512 + 1 * (x 0).val; omega
  | ⟨2, _⟩ => show (x 1).val = 0 + 1 * (x 1).val; omega
theorem slabD5 (X : Vec F S1x1024x1024 .f32) (x : S128x1024.Idx) :
    k0_pay18 (View.ld X (Rect.unit (s := S1x1024x1024) ![0, 640, 0] S1x128x1024.size inb_S1x1024x1024_S1x128x1024_0_640_0)) x
      = wd X ((Rect.unit (s := S1024x1024) ![640, 0] S128x1024.size inb_S1024x1024_S128x1024_640_0).emb x) := by
  have hx : (x 0).val < 128 := (x 0).isLt
  refine (slab 640 X _ _ _ _ x ⟨640 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 640 + (x 0).val = 640 + 1 * (x 0).val; omega
  | ⟨2, _⟩ => show (x 1).val = 0 + 1 * (x 1).val; omega
theorem slabD6 (X : Vec F S1x1024x1024 .f32) (x : S128x1024.Idx) :
    k0_pay19 (View.ld X (Rect.unit (s := S1x1024x1024) ![0, 768, 0] S1x128x1024.size inb_S1x1024x1024_S1x128x1024_0_768_0)) x
      = wd X ((Rect.unit (s := S1024x1024) ![768, 0] S128x1024.size inb_S1024x1024_S128x1024_768_0).emb x) := by
  have hx : (x 0).val < 128 := (x 0).isLt
  refine (slab 768 X _ _ _ _ x ⟨768 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 768 + (x 0).val = 768 + 1 * (x 0).val; omega
  | ⟨2, _⟩ => show (x 1).val = 0 + 1 * (x 1).val; omega
theorem slabD7 (X : Vec F S1x1024x1024 .f32) (x : S128x1024.Idx) :
    k0_pay1 (View.ld X (Rect.unit (s := S1x1024x1024) ![0, 896, 0] S1x128x1024.size inb_S1x1024x1024_S1x128x1024_0_896_0)) x
      = wd X ((Rect.unit (s := S1024x1024) ![896, 0] S128x1024.size inb_S1024x1024_S128x1024_896_0).emb x) := by
  have hx : (x 0).val < 128 := (x 0).isLt
  refine (slab 896 X _ _ _ _ x ⟨896 + (x 0).val, by omega⟩ rfl).trans ?_
  show FloatOps.truncf .bf16 bitsLt_bf16_f32 (X _) = FloatOps.truncf .bf16 bitsLt_bf16_f32 (X _)
  congr 2
  funext a; apply Fin.ext
  match a with
  | ⟨0, _⟩ => rfl
  | ⟨1, _⟩ => show 896 + (x 0).val = 896 + 1 * (x 0).val; omega
  | ⟨2, _⟩ => show (x 1).val = 0 + 1 * (x 1).val; omega
theorem ldW0 (W : Vec F S1024x2048 .bf16) : View.ld W (Rect.unit (s := S1024x2048) ![0, 0] ![1024, 256] inb_S1024x2048_S1024x256_0_0) = colW W 0 := by
  funext z
  show W _ = W _
  congr 1
  funext a; apply Fin.ext
  match a with
  | ⟨0, _⟩ => show 0 + 1 * (z 0).val = (z 0).val; omega
  | ⟨1, _⟩ => show 0 + 1 * (z 1).val = 256 * 0 + (z 1).val; omega
theorem ldB0 (b : Vec F S1x1x2048 .f32) : View.ld b (Rect.unit (s := S1x1x2048) ![0, 0, 0] ![1, 1, 256] inb_S1x1x2048_S1x1x256_0_0_0) = colB b 0 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 0 + 1 * (z 2).val = 256 * 0 + (z 2).val; omega
theorem ldW1 (W : Vec F S1024x2048 .bf16) : View.ld W (Rect.unit (s := S1024x2048) ![0, 256] ![1024, 256] inb_S1024x2048_S1024x256_0_256) = colW W 1 := by
  funext z
  show W _ = W _
  congr 1
  funext a; apply Fin.ext
  match a with
  | ⟨0, _⟩ => show 0 + 1 * (z 0).val = (z 0).val; omega
  | ⟨1, _⟩ => show 256 + 1 * (z 1).val = 256 * 1 + (z 1).val; omega
theorem ldB1 (b : Vec F S1x1x2048 .f32) : View.ld b (Rect.unit (s := S1x1x2048) ![0, 0, 256] ![1, 1, 256] inb_S1x1x2048_S1x1x256_0_0_256) = colB b 1 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 256 + 1 * (z 2).val = 256 * 1 + (z 2).val; omega
theorem ldW2 (W : Vec F S1024x2048 .bf16) : View.ld W (Rect.unit (s := S1024x2048) ![0, 512] ![1024, 256] inb_S1024x2048_S1024x256_0_512) = colW W 2 := by
  funext z
  show W _ = W _
  congr 1
  funext a; apply Fin.ext
  match a with
  | ⟨0, _⟩ => show 0 + 1 * (z 0).val = (z 0).val; omega
  | ⟨1, _⟩ => show 512 + 1 * (z 1).val = 256 * 2 + (z 1).val; omega
theorem ldB2 (b : Vec F S1x1x2048 .f32) : View.ld b (Rect.unit (s := S1x1x2048) ![0, 0, 512] ![1, 1, 256] inb_S1x1x2048_S1x1x256_0_0_512) = colB b 2 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 512 + 1 * (z 2).val = 256 * 2 + (z 2).val; omega
theorem ldW3 (W : Vec F S1024x2048 .bf16) : View.ld W (Rect.unit (s := S1024x2048) ![0, 768] ![1024, 256] inb_S1024x2048_S1024x256_0_768) = colW W 3 := by
  funext z
  show W _ = W _
  congr 1
  funext a; apply Fin.ext
  match a with
  | ⟨0, _⟩ => show 0 + 1 * (z 0).val = (z 0).val; omega
  | ⟨1, _⟩ => show 768 + 1 * (z 1).val = 256 * 3 + (z 1).val; omega
theorem ldB3 (b : Vec F S1x1x2048 .f32) : View.ld b (Rect.unit (s := S1x1x2048) ![0, 0, 768] ![1, 1, 256] inb_S1x1x2048_S1x1x256_0_0_768) = colB b 3 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 768 + 1 * (z 2).val = 256 * 3 + (z 2).val; omega
theorem ldW4 (W : Vec F S1024x2048 .bf16) : View.ld W (Rect.unit (s := S1024x2048) ![0, 1024] ![1024, 256] inb_S1024x2048_S1024x256_0_1024) = colW W 4 := by
  funext z
  show W _ = W _
  congr 1
  funext a; apply Fin.ext
  match a with
  | ⟨0, _⟩ => show 0 + 1 * (z 0).val = (z 0).val; omega
  | ⟨1, _⟩ => show 1024 + 1 * (z 1).val = 256 * 4 + (z 1).val; omega
theorem ldB4 (b : Vec F S1x1x2048 .f32) : View.ld b (Rect.unit (s := S1x1x2048) ![0, 0, 1024] ![1, 1, 256] inb_S1x1x2048_S1x1x256_0_0_1024) = colB b 4 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 1024 + 1 * (z 2).val = 256 * 4 + (z 2).val; omega
theorem ldW5 (W : Vec F S1024x2048 .bf16) : View.ld W (Rect.unit (s := S1024x2048) ![0, 1280] ![1024, 256] inb_S1024x2048_S1024x256_0_1280) = colW W 5 := by
  funext z
  show W _ = W _
  congr 1
  funext a; apply Fin.ext
  match a with
  | ⟨0, _⟩ => show 0 + 1 * (z 0).val = (z 0).val; omega
  | ⟨1, _⟩ => show 1280 + 1 * (z 1).val = 256 * 5 + (z 1).val; omega
theorem ldB5 (b : Vec F S1x1x2048 .f32) : View.ld b (Rect.unit (s := S1x1x2048) ![0, 0, 1280] ![1, 1, 256] inb_S1x1x2048_S1x1x256_0_0_1280) = colB b 5 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 1280 + 1 * (z 2).val = 256 * 5 + (z 2).val; omega
theorem ldW6 (W : Vec F S1024x2048 .bf16) : View.ld W (Rect.unit (s := S1024x2048) ![0, 1536] ![1024, 256] inb_S1024x2048_S1024x256_0_1536) = colW W 6 := by
  funext z
  show W _ = W _
  congr 1
  funext a; apply Fin.ext
  match a with
  | ⟨0, _⟩ => show 0 + 1 * (z 0).val = (z 0).val; omega
  | ⟨1, _⟩ => show 1536 + 1 * (z 1).val = 256 * 6 + (z 1).val; omega
theorem ldB6 (b : Vec F S1x1x2048 .f32) : View.ld b (Rect.unit (s := S1x1x2048) ![0, 0, 1536] ![1, 1, 256] inb_S1x1x2048_S1x1x256_0_0_1536) = colB b 6 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 1536 + 1 * (z 2).val = 256 * 6 + (z 2).val; omega
theorem ldW7 (W : Vec F S1024x2048 .bf16) : View.ld W (Rect.unit (s := S1024x2048) ![0, 1792] ![1024, 256] inb_S1024x2048_S1024x256_0_1792) = colW W 7 := by
  funext z
  show W _ = W _
  congr 1
  funext a; apply Fin.ext
  match a with
  | ⟨0, _⟩ => show 0 + 1 * (z 0).val = (z 0).val; omega
  | ⟨1, _⟩ => show 1792 + 1 * (z 1).val = 256 * 7 + (z 1).val; omega
theorem ldB7 (b : Vec F S1x1x2048 .f32) : View.ld b (Rect.unit (s := S1x1x2048) ![0, 0, 1792] ![1, 1, 256] inb_S1x1x2048_S1x1x256_0_0_1792) = colB b 7 := by
  funext z
  show b _ = b _
  congr 1
  funext a; apply Fin.ext
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 1792 + 1 * (z 2).val = 256 * 7 + (z 2).val; omega
theorem actAt0 (x : Vec F S512x1024 .f32) (W : Vec F S1024x2048 .bf16) (b : Vec F S1x1x2048 .f32) (z : S512x256.Idx) :
    act (k0_pay20 x) (colW W 0) (colB b 0) (colW W 4) (colB b 4) z
      = aOut x W b ((Rect.unit (s := S512x1024) ![0, 0] S512x256.size inb_S512x1024_S512x256_0_0).emb z) :=
  (aOut_at x W b 0 z _ (by show 0 + 1 * (z 0).val = (z 0).val; omega) (by show 0 + 1 * (z 1).val = 256 * 0 + (z 1).val; omega)).symm
theorem actAt1 (x : Vec F S512x1024 .f32) (W : Vec F S1024x2048 .bf16) (b : Vec F S1x1x2048 .f32) (z : S512x256.Idx) :
    act (k0_pay20 x) (colW W 1) (colB b 1) (colW W 5) (colB b 5) z
      = aOut x W b ((Rect.unit (s := S512x1024) ![0, 256] S512x256.size inb_S512x1024_S512x256_0_256).emb z) :=
  (aOut_at x W b 1 z _ (by show 0 + 1 * (z 0).val = (z 0).val; omega) (by show 256 + 1 * (z 1).val = 256 * 1 + (z 1).val; omega)).symm
theorem actAt2 (x : Vec F S512x1024 .f32) (W : Vec F S1024x2048 .bf16) (b : Vec F S1x1x2048 .f32) (z : S512x256.Idx) :
    act (k0_pay20 x) (colW W 2) (colB b 2) (colW W 6) (colB b 6) z
      = aOut x W b ((Rect.unit (s := S512x1024) ![0, 512] S512x256.size inb_S512x1024_S512x256_0_512).emb z) :=
  (aOut_at x W b 2 z _ (by show 0 + 1 * (z 0).val = (z 0).val; omega) (by show 512 + 1 * (z 1).val = 256 * 2 + (z 1).val; omega)).symm
theorem actAt3 (x : Vec F S512x1024 .f32) (W : Vec F S1024x2048 .bf16) (b : Vec F S1x1x2048 .f32) (z : S512x256.Idx) :
    act (k0_pay20 x) (colW W 3) (colB b 3) (colW W 7) (colB b 7) z
      = aOut x W b ((Rect.unit (s := S512x1024) ![0, 768] S512x256.size inb_S512x1024_S512x256_0_768).emb z) :=
  (aOut_at x W b 3 z _ (by show 0 + 1 * (z 0).val = (z 0).val; omega) (by show 768 + 1 * (z 1).val = 256 * 3 + (z 1).val; omega)).symm

end Cert.Kernel2Ideal.Exp

end
-- ==== Proof.XCov.lean ====
module

public import proofs.«01_k».proof.Proof.XSpec

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

open Idealize.ShloMosaic.ValueIdx

/-- The eight stores of an expert's first weights. -/
abbrev listU (X : Vec F S1x1024x2048 .f32) : List (View.Piece (Elt F) S1024x2048 .bf16) := [⟨Rect.unit (s := S1024x2048) ![896, 0] S128x2048.size inb_S1024x2048_S128x2048_896_0, k0_pay12 (View.ld X (Rect.unit (s := S1x1024x2048) ![0, 896, 0] S1x128x2048.size inb_S1x1024x2048_S1x128x2048_0_896_0))⟩, ⟨Rect.unit (s := S1024x2048) ![768, 0] S128x2048.size inb_S1024x2048_S128x2048_768_0, k0_pay11 (View.ld X (Rect.unit (s := S1x1024x2048) ![0, 768, 0] S1x128x2048.size inb_S1x1024x2048_S1x128x2048_0_768_0))⟩, ⟨Rect.unit (s := S1024x2048) ![640, 0] S128x2048.size inb_S1024x2048_S128x2048_640_0, k0_pay10 (View.ld X (Rect.unit (s := S1x1024x2048) ![0, 640, 0] S1x128x2048.size inb_S1x1024x2048_S1x128x2048_0_640_0))⟩, ⟨Rect.unit (s := S1024x2048) ![512, 0] S128x2048.size inb_S1024x2048_S128x2048_512_0, k0_pay9 (View.ld X (Rect.unit (s := S1x1024x2048) ![0, 512, 0] S1x128x2048.size inb_S1x1024x2048_S1x128x2048_0_512_0))⟩, ⟨Rect.unit (s := S1024x2048) ![384, 0] S128x2048.size inb_S1024x2048_S128x2048_384_0, k0_pay8 (View.ld X (Rect.unit (s := S1x1024x2048) ![0, 384, 0] S1x128x2048.size inb_S1x1024x2048_S1x128x2048_0_384_0))⟩, ⟨Rect.unit (s := S1024x2048) ![256, 0] S128x2048.size inb_S1024x2048_S128x2048_256_0, k0_pay7 (View.ld X (Rect.unit (s := S1x1024x2048) ![0, 256, 0] S1x128x2048.size inb_S1x1024x2048_S1x128x2048_0_256_0))⟩, ⟨Rect.unit (s := S1024x2048) ![128, 0] S128x2048.size inb_S1024x2048_S128x2048_128_0, k0_pay6 (View.ld X (Rect.unit (s := S1x1024x2048) ![0, 128, 0] S1x128x2048.size inb_S1x1024x2048_S1x128x2048_0_128_0))⟩, ⟨Rect.unit (s := S1024x2048) ![0, 0] S128x2048.size inb_S1024x2048_S128x2048_0_0, k0_pay5 (View.ld X (Rect.unit (s := S1x1024x2048) ![0, 0, 0] S1x128x2048.size inb_S1x1024x2048_S1x128x2048_0_0_0))⟩]
theorem piecesU (X : Vec F S1x1024x2048 .f32) : ∀ p ∈ listU X, ∀ x : p.1.shape.Idx, p.2 x = wu X (p.1.emb x) := by
  intro p hp
  simp only [listU, List.mem_cons, List.not_mem_nil, or_false] at hp
  rcases hp with rfl | rfl | rfl | rfl | rfl | rfl | rfl | rfl
  · exact slabU7 X
  · exact slabU6 X
  · exact slabU5 X
  · exact slabU4 X
  · exact slabU3 X
  · exact slabU2 X
  · exact slabU1 X
  · exact slabU0 X
theorem coverU {X : Vec F S1x1024x2048 .f32} : ∀ y : S1024x2048.Idx, ∃ p ∈ listU X, y ∈ p.1.set :=
  View.cover_of_tiledL (listU X) S128x2048.size (by sl_kernel_rfl)
theorem covU (X : Vec F S1x1024x2048 .f32) {κ : Kind} {sp : Space} (v : View sig κ sp S1024x2048 .bf16) (r : Rect S1024x2048) :
    v.readCov (listU X) r.toLoadRect = View.ld (wu X) r :=
  readCov_of v _ _ (piecesU X) coverU r
/-- The eight stores of an expert's second weights. -/
abbrev listD (X : Vec F S1x1024x1024 .f32) : List (View.Piece (Elt F) S1024x1024 .bf16) := [⟨Rect.unit (s := S1024x1024) ![896, 0] S128x1024.size inb_S1024x1024_S128x1024_896_0, k0_pay1 (View.ld X (Rect.unit (s := S1x1024x1024) ![0, 896, 0] S1x128x1024.size inb_S1x1024x1024_S1x128x1024_0_896_0))⟩, ⟨Rect.unit (s := S1024x1024) ![768, 0] S128x1024.size inb_S1024x1024_S128x1024_768_0, k0_pay19 (View.ld X (Rect.unit (s := S1x1024x1024) ![0, 768, 0] S1x128x1024.size inb_S1x1024x1024_S1x128x1024_0_768_0))⟩, ⟨Rect.unit (s := S1024x1024) ![640, 0] S128x1024.size inb_S1024x1024_S128x1024_640_0, k0_pay18 (View.ld X (Rect.unit (s := S1x1024x1024) ![0, 640, 0] S1x128x1024.size inb_S1x1024x1024_S1x128x1024_0_640_0))⟩, ⟨Rect.unit (s := S1024x1024) ![512, 0] S128x1024.size inb_S1024x1024_S128x1024_512_0, k0_pay17 (View.ld X (Rect.unit (s := S1x1024x1024) ![0, 512, 0] S1x128x1024.size inb_S1x1024x1024_S1x128x1024_0_512_0))⟩, ⟨Rect.unit (s := S1024x1024) ![384, 0] S128x1024.size inb_S1024x1024_S128x1024_384_0, k0_pay16 (View.ld X (Rect.unit (s := S1x1024x1024) ![0, 384, 0] S1x128x1024.size inb_S1x1024x1024_S1x128x1024_0_384_0))⟩, ⟨Rect.unit (s := S1024x1024) ![256, 0] S128x1024.size inb_S1024x1024_S128x1024_256_0, k0_pay15 (View.ld X (Rect.unit (s := S1x1024x1024) ![0, 256, 0] S1x128x1024.size inb_S1x1024x1024_S1x128x1024_0_256_0))⟩, ⟨Rect.unit (s := S1024x1024) ![128, 0] S128x1024.size inb_S1024x1024_S128x1024_128_0, k0_pay14 (View.ld X (Rect.unit (s := S1x1024x1024) ![0, 128, 0] S1x128x1024.size inb_S1x1024x1024_S1x128x1024_0_128_0))⟩, ⟨Rect.unit (s := S1024x1024) ![0, 0] S128x1024.size inb_S1024x1024_S128x1024_0_0, k0_pay13 (View.ld X (Rect.unit (s := S1x1024x1024) ![0, 0, 0] S1x128x1024.size inb_S1x1024x1024_S1x128x1024_0_0_0))⟩]
theorem piecesD (X : Vec F S1x1024x1024 .f32) : ∀ p ∈ listD X, ∀ x : p.1.shape.Idx, p.2 x = wd X (p.1.emb x) := by
  intro p hp
  simp only [listD, List.mem_cons, List.not_mem_nil, or_false] at hp
  rcases hp with rfl | rfl | rfl | rfl | rfl | rfl | rfl | rfl
  · exact slabD7 X
  · exact slabD6 X
  · exact slabD5 X
  · exact slabD4 X
  · exact slabD3 X
  · exact slabD2 X
  · exact slabD1 X
  · exact slabD0 X
theorem coverD {X : Vec F S1x1024x1024 .f32} : ∀ y : S1024x1024.Idx, ∃ p ∈ listD X, y ∈ p.1.set :=
  View.cover_of_tiledL (listD X) S128x1024.size (by sl_kernel_rfl)
theorem covD (X : Vec F S1x1024x1024 .f32) {κ : Kind} {sp : Space} (v : View sig κ sp S1024x1024 .bf16) (r : Rect S1024x1024) :
    v.readCov (listD X) r.toLoadRect = View.ld (wd X) r :=
  readCov_of v _ _ (piecesD X) coverD r
/-- The four stores of a block's activations. -/
abbrev listA (x : Vec F S512x1024 .f32) (W : Vec F S1024x2048 .bf16) (b : Vec F S1x1x2048 .f32) : List (View.Piece (Elt F) S512x1024 .bf16) := [⟨Rect.unit (s := S512x1024) ![0, 768] ![512, 256] inb_S512x1024_S512x256_0_768, act (k0_pay20 x) (colW W 3) (colB b 3) (colW W 7) (colB b 7)⟩, ⟨Rect.unit (s := S512x1024) ![0, 512] ![512, 256] inb_S512x1024_S512x256_0_512, act (k0_pay20 x) (colW W 2) (colB b 2) (colW W 6) (colB b 6)⟩, ⟨Rect.unit (s := S512x1024) ![0, 256] ![512, 256] inb_S512x1024_S512x256_0_256, act (k0_pay20 x) (colW W 1) (colB b 1) (colW W 5) (colB b 5)⟩, ⟨Rect.unit (s := S512x1024) ![0, 0] ![512, 256] inb_S512x1024_S512x256_0_0, act (k0_pay20 x) (colW W 0) (colB b 0) (colW W 4) (colB b 4)⟩]
theorem piecesA (x : Vec F S512x1024 .f32) (W : Vec F S1024x2048 .bf16) (b : Vec F S1x1x2048 .f32) : ∀ p ∈ listA x W b, ∀ z : p.1.shape.Idx, p.2 z = aOut x W b (p.1.emb z) := by
  intro p hp
  simp only [listA, List.mem_cons, List.not_mem_nil, or_false] at hp
  rcases hp with rfl | rfl | rfl | rfl
  · exact actAt3 x W b
  · exact actAt2 x W b
  · exact actAt1 x W b
  · exact actAt0 x W b
theorem coverA {x : Vec F S512x1024 .f32} {W : Vec F S1024x2048 .bf16} {b : Vec F S1x1x2048 .f32} : ∀ y : S512x1024.Idx, ∃ p ∈ listA x W b, y ∈ p.1.set :=
  View.cover_of_tiledL (listA x W b) S512x256.size (by sl_kernel_rfl)
theorem covA (x : Vec F S512x1024 .f32) (W : Vec F S1024x2048 .bf16) (b : Vec F S1x1x2048 .f32) {κ : Kind} {sp : Space} (v : View sig κ sp S512x1024 .bf16) (inb) :
    v.readCov (listA x W b) (Rect.unit (s := S512x1024) ![0, 0] ![512, 1024] inb).toLoadRect = aOut x W b :=
  (readCov_of v _ _ (piecesA x W b) coverA _).trans (ld_whole2 _ _)
theorem ld_S512x1024 (X : Vec F S512x1024 .f32) (inb) : View.ld X (Rect.unit (s := S512x1024) ![0, 0] ![512, 1024] inb) = X := ld_whole2 X inb
theorem ld_S1024x1024b (X : Vec F S1024x1024 .bf16) (inb) : View.ld X (Rect.unit (s := S1024x1024) ![0, 0] ![1024, 1024] inb) = X := ld_whole2 X inb
theorem ld_S1x1x1024 (X : Vec F S1x1x1024 .f32) (inb) : View.ld X (Rect.unit (s := S1x1x1024) ![0, 0, 0] ![1, 1, 1024] inb) = X := ld_whole3 X inb

end Cert.Kernel2Ideal.Exp

end
-- ==== Proof.XTab.lean ====
module

public import proofs.«01_k».proof.Proof.XCov

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

open Idealize.ShloMosaic.ValueIdx

/-! ## The two tables: each block's expert, and how many blocks are used -/

/-- The range the routing draws the tables from: an expert is one of 32, from one to 672 blocks are used. -/
structure InRange (T0 : Vec F S672 .i32) (T1 : Vec F S1 .i32) : Prop where
  be : ∀ i : S672.Idx, (T0 i : BitVec 32).toNat < 32
  lo : ∀ i : S1.Idx, 1 ≤ (T1 i : BitVec 32).toNat
  hi : ∀ i : S1.Idx, (T1 i : BitVec 32).toNat ≤ 672

/-- The tables' contents. -/
def tabs (T0 : Vec F S672 .i32) (T1 : Vec F S1 .i32) : pre0.Contents (Elt F)
  | ⟨0, _⟩ => T0
  | ⟨1, _⟩ => T1

/-- The expert of block `n`. -/
def beN (T0 : Vec F S672 .i32) (n : ℕ) (h : n < 672) : BitVec 32 := T0 (ix1 ⟨n, h⟩)
/-- The number of used blocks. -/
def nuN (T1 : Vec F S1 .i32) : ℕ := (T1 (ix1 0) : BitVec 32).toNat

theorem pt_lt (i : grid0.Coords) : (i 0).val < 672 := (i 0).isLt

/-- The order of two small words is that of their numbers. -/
theorem slt_ofNat (a b : ℕ) (ha : a < 2 ^ 31) (hb : b < 2 ^ 31) : (BitVec.ofNat 32 a).slt (BitVec.ofNat 32 b) = decide (a < b) := by
  have e1 := WordCmp.toInt_ofNat_of_lt (w := 32) (a := a) (by omega)
  have e2 := WordCmp.toInt_ofNat_of_lt (w := 32) (a := b) (by omega)
  simp only [BitVec.slt, e1, e2, Int.ofNat_lt]

/-- The place in the first table a point reads: its own. -/
theorem off1_eq (i : grid0.Coords) : k0_off1 i = ![(i 0).val] := by
  unfold k0_off1 Scalar.indexCast
  simp only [BitVec.toNat_ofNat]
  rw [Nat.mod_eq_of_lt (by have := pt_lt i; omega)]
/-- The place before it. -/
theorem off2_eq (i : grid0.Coords) : k0_off2 i = ![(i 0).val - 1] := by
  have h := pt_lt i
  unfold k0_off2 Scalar.indexCast
  have e : Scalar.maxsi (Scalar.subi (BitVec.ofNat 32 (i 0).val) 1#32) 0#32 = BitVec.ofNat 32 ((i 0).val - 1) := by
    generalize (i 0).val = n at h
    rcases Nat.eq_zero_or_pos n with rfl | hn
    · decide
    · have e1 : Scalar.subi (BitVec.ofNat 32 n) 1#32 = BitVec.ofNat 32 (n - 1) := by
        apply BitVec.eq_of_toNat_eq
        show (BitVec.ofNat 32 n - 1#32).toNat = _
        simp only [BitVec.toNat_sub, BitVec.toNat_ofNat]
        omega
      rw [e1]
      show IntOp.maxsi _ _ = _
      unfold IntOp.maxsi
      have e2 := slt_ofNat 0 (n - 1) (by omega) (by omega)
      by_cases hc : 0 < n - 1
      · rw [if_pos (e2.trans (decide_eq_true hc))]
      · have e3 : n - 1 = 0 := by omega
        rw [e3]; decide
  simp only [e, BitVec.toNat_ofNat]
  rw [Nat.mod_eq_of_lt (by omega)]

/-- What a load of one element of the first table reads. -/
theorem point672 (off : Fin 1 → ℕ) (n : ℕ) (hn : n < 672) (e : off = ![n]) (inb) (x : Shape.Idx _) :
    ((Rect.unit (s := S672) off S1.size inb).emb x : S672.Idx) = ix1 ⟨n, hn⟩ := by
  subst e
  funext a
  refine Fin.ext ?_
  have h0 : (x 0).val < 1 := (x 0).isLt
  match a with
  | ⟨0, _⟩ =>
    show n + 1 * (x 0).val = n
    omega
theorem point1 (inb) (x : Shape.Idx _) :
    ((Rect.unit (s := S1) ![0] S1.size inb).emb x : S1.Idx) = ix1 0 := by
  funext a
  refine Fin.ext ?_
  have h0 : (x 0).val < 1 := (x 0).isLt
  match a with
  | ⟨0, _⟩ =>
    show 0 + 1 * (x 0).val = 0
    omega

/-! ## The conditions at a point -/

theorem cond2_iff (i : grid0.Coords) (w : BitVec 32) (hw : w.toNat ≤ 672) : k0_cond2 i w = 1#1 ↔ (i 0).val < w.toNat := by
  have h := pt_lt i
  have e : w = BitVec.ofNat 32 w.toNat := by rw [BitVec.ofNat_toNat, BitVec.setWidth_eq]
  rw [e]
  simp only [WordCmp.toNat_ofNat_of_lt (show w.toNat < 2 ^ 32 by omega)]
  unfold k0_cond2
  generalize (i 0).val = n at h ⊢
  generalize w.toNat = k at hw ⊢
  word_cmp
theorem cond3_iff (i : grid0.Coords) (w : BitVec 32) (hw : w.toNat ≤ 672) : k0_cond3 i w = 1#1 ↔ ¬ (i 0).val < w.toNat := by
  have h := pt_lt i
  have e : w = BitVec.ofNat 32 w.toNat := by rw [BitVec.ofNat_toNat, BitVec.setWidth_eq]
  rw [e]
  simp only [WordCmp.toNat_ofNat_of_lt (show w.toNat < 2 ^ 32 by omega)]
  unfold k0_cond3
  generalize (i 0).val = n at h ⊢
  generalize w.toNat = k at hw ⊢
  word_cmp

/-- Whether a point rounds its expert's weights anew. -/
def cHot (n : ℕ) (w b1 b2 : BitVec 32) : BitVec 1 :=
  Scalar.cmpi .ne (Scalar.extui (Scalar.andi (Scalar.cmpi .slt (BitVec.ofNat 32 n) w) (Scalar.ori (Scalar.cmpi .eq (BitVec.ofNat 32 n) 0#32) (Scalar.cmpi .ne b1 b2)))) 0#32
theorem hot_iff (n : ℕ) (w b1 b2 : BitVec 32) (h : n < 672) (hw : w.toNat ≤ 672) (h1 : b1.toNat < 32) (h2 : b2.toNat < 32) :
    cHot n w b1 b2 = 1#1 ↔ n < w.toNat ∧ (n = 0 ∨ b1 ≠ b2) := by
  have e : w = BitVec.ofNat 32 w.toNat := by rw [BitVec.ofNat_toNat, BitVec.setWidth_eq]
  have e1 : b1 = BitVec.ofNat 32 b1.toNat := by rw [BitVec.ofNat_toNat, BitVec.setWidth_eq]
  have e2 : b2 = BitVec.ofNat 32 b2.toNat := by rw [BitVec.ofNat_toNat, BitVec.setWidth_eq]
  have e3 : (b1 ≠ b2) ↔ b1.toNat ≠ b2.toNat := by rw [Ne, Ne, BitVec.toNat_inj]
  rw [e3]
  conv_lhs => rw [e, e1, e2]
  unfold cHot
  generalize w.toNat = k at hw ⊢
  generalize b1.toNat = p at h1 ⊢
  generalize b2.toNat = r at h2 ⊢
  word_cmp

/-! ## The windows' blocks at a point -/

theorem at0 (T0 : Vec F S672 .i32) (T1 : Vec F S1 .i32) (i : grid0.Coords) (inb) :
    (tabs T0 T1).at 0 (Rect.unit (s := S672) (k0_off1 i) S1.size inb) numel1_S1 = beN T0 (i 0).val (pt_lt i) :=
  congrArg T0 (point672 _ _ (pt_lt i) (off1_eq i) inb _)
theorem at1 (T0 : Vec F S672 .i32) (T1 : Vec F S1 .i32) (inb) :
    ((tabs T0 T1).at 1 (Rect.unit (s := S1) ![0] S1.size inb) numel1_S1 : BitVec 32) = T1 (ix1 0) :=
  congrArg T1 (point1 inb _)

theorem tr1_eq (T0 : Vec F S672 .i32) (T1 : Vec F S1 .i32) (i : grid0.Coords) :
    cc0_transform_1 k0_off1_inb numel1_S1 (tabs T0 T1) i = ![(beN T0 (i 0).val (pt_lt i)).toNat, 0, 0] :=
  congrArg (fun z : BitVec 32 => ![z.toNat, 0, 0]) (at0 T0 T1 i (k0_off1_inb i))
theorem tr2_eq (T0 : Vec F S672 .i32) (T1 : Vec F S1 .i32) (i : grid0.Coords) :
    cc0_transform_2 k0_off1_inb numel1_S1 (tabs T0 T1) i = ![(beN T0 (i 0).val (pt_lt i)).toNat, 0, 0] :=
  congrArg (fun z : BitVec 32 => ![z.toNat, 0, 0]) (at0 T0 T1 i (k0_off1_inb i))
theorem tr3_eq (T0 : Vec F S672 .i32) (T1 : Vec F S1 .i32) (i : grid0.Coords) :
    cc0_transform_3 k0_off1_inb numel1_S1 (tabs T0 T1) i = ![(beN T0 (i 0).val (pt_lt i)).toNat, 0, 0] :=
  congrArg (fun z : BitVec 32 => ![z.toNat, 0, 0]) (at0 T0 T1 i (k0_off1_inb i))
theorem tr4_eq (T0 : Vec F S672 .i32) (T1 : Vec F S1 .i32) (i : grid0.Coords) :
    cc0_transform_4 k0_off1_inb numel1_S1 (tabs T0 T1) i = ![(beN T0 (i 0).val (pt_lt i)).toNat, 0, 0] :=
  congrArg (fun z : BitVec 32 => ![z.toNat, 0, 0]) (at0 T0 T1 i (k0_off1_inb i))
theorem tr5_eq (i : grid0.Coords) : cc0_transform_5 i = ![(i 0).val, 0] := by
  show ![(BitVec.ofNat 32 (i 0).val).toNat, (0#32 : BitVec 32).toNat] = _
  rw [BitVec.toNat_ofNat, Nat.mod_eq_of_lt (by have := pt_lt i; omega)]
  rfl
/-- The smaller of a block's number and the last used block's. -/
theorem min_used (n : ℕ) (w : BitVec 32) (h : n < 672) (h1 : 1 ≤ w.toNat) (h2 : w.toNat ≤ 672) :
    (Scalar.minsi (BitVec.ofNat 32 n) (Scalar.subi w 1#32)).toNat = min n (w.toNat - 1) := by
  have e1 : Scalar.subi w 1#32 = BitVec.ofNat 32 (w.toNat - 1) := by
    apply BitVec.eq_of_toNat_eq
    show (w - 1#32).toNat = _
    simp only [BitVec.toNat_sub, BitVec.toNat_ofNat]
    omega
  rw [e1]
  show (IntOp.minsi _ _).toNat = _
  unfold IntOp.minsi
  have e2 := slt_ofNat n (w.toNat - 1) (by omega) (by omega)
  by_cases hc : n < w.toNat - 1
  · rw [if_pos (e2.trans (decide_eq_true hc)), BitVec.toNat_ofNat]; omega
  · rw [if_neg (by rw [e2, decide_eq_false hc]; decide), BitVec.toNat_ofNat]; omega
theorem tr0_eq (T0 : Vec F S672 .i32) (T1 : Vec F S1 .i32) (hR : InRange T0 T1) (i : grid0.Coords) :
    cc0_transform_0 inb_S1_S1_0 numel1_S1 (tabs T0 T1) i = ![min (i 0).val (nuN T1 - 1), 0] := by
  refine (congrArg (fun z : BitVec 32 => ![(Scalar.minsi (BitVec.ofNat 32 (i 0).val) (Scalar.subi z 1#32)).toNat, 0]) (at1 T0 T1 inb_S1_S1_0)).trans ?_
  show ![_, _] = _
  rw [min_used _ _ (pt_lt i) (hR.lo _) (hR.hi _)]
  rfl

/-- In range, the tables are admissible: every block the windows name lies in its array. -/
theorem ok0_of (T0 : Vec F S672 .i32) (T1 : Vec F S1 .i32) (hR : InRange T0 T1) : ok0 (tabs T0 T1) := by
  unfold ok0
  refine ⟨fun i => ⟨?_, .inl rfl⟩, fun i => ⟨?_, .inl rfl⟩, fun i => ⟨?_, .inl rfl⟩, fun i => ⟨?_, .inl rfl⟩, fun i => ⟨?_, .inl rfl⟩⟩
  · rw [tr0_eq T0 T1 hR i]
    have h := pt_lt i
    intro a
    match a with
    | ⟨0, _⟩ => show (min (i 0).val (nuN T1 - 1) + 1) * 512 ≤ 344064; omega
    | ⟨1, _⟩ => show (0 + 1) * 1024 ≤ 1024; omega
  · rw [tr1_eq T0 T1 i]
    have h : (beN T0 (i 0).val (pt_lt i)).toNat < 32 := hR.be _
    intro a
    match a with
    | ⟨0, _⟩ => show ((beN T0 (i 0).val (pt_lt i)).toNat + 1) * 1 ≤ 32; omega
    | ⟨1, _⟩ => show (0 + 1) * 1024 ≤ 1024; omega
    | ⟨2, _⟩ => show (0 + 1) * 2048 ≤ 2048; omega
  · rw [tr2_eq T0 T1 i]
    have h : (beN T0 (i 0).val (pt_lt i)).toNat < 32 := hR.be _
    intro a
    match a with
    | ⟨0, _⟩ => show ((beN T0 (i 0).val (pt_lt i)).toNat + 1) * 1 ≤ 32; omega
    | ⟨1, _⟩ => show (0 + 1) * 1 ≤ 1; omega
    | ⟨2, _⟩ => show (0 + 1) * 2048 ≤ 2048; omega
  · rw [tr3_eq T0 T1 i]
    have h : (beN T0 (i 0).val (pt_lt i)).toNat < 32 := hR.be _
    intro a
    match a with
    | ⟨0, _⟩ => show ((beN T0 (i 0).val (pt_lt i)).toNat + 1) * 1 ≤ 32; omega
    | ⟨1, _⟩ => show (0 + 1) * 1024 ≤ 1024; omega
    | ⟨2, _⟩ => show (0 + 1) * 1024 ≤ 1024; omega
  · rw [tr4_eq T0 T1 i]
    have h : (beN T0 (i 0).val (pt_lt i)).toNat < 32 := hR.be _
    intro a
    match a with
    | ⟨0, _⟩ => show ((beN T0 (i 0).val (pt_lt i)).toNat + 1) * 1 ≤ 32; omega
    | ⟨1, _⟩ => show (0 + 1) * 1 ≤ 1; omega
    | ⟨2, _⟩ => show (0 + 1) * 1024 ≤ 1024; omega

/-- The results' buffer is written at every point. -/
theorem idle5 (T0 : Vec F S672 .i32) (T1 : Vec F S1 .i32) (hR : InRange T0 T1) (i : grid0.Coords) : idle0 (tabs T0 T1) 5 i = false := by
  show (!(k0_cond2 i ((tabs T0 T1).atD 1 ![0]) == 1#1) && !(k0_cond3 i ((tabs T0 T1).atD 1 ![0]) == 1#1)) = false
  have e : ((tabs T0 T1).atD 1 ![0] : BitVec 32).toNat ≤ 672 := by
    unfold Pipeline.Prefetch.Contents.atD
    rw [dif_pos (by intro a; match a with | ⟨0, _⟩ => exact Nat.le_refl 1)]
    exact hR.hi _
  generalize ((tabs T0 T1).atD 1 ![0] : BitVec 32) = w at e
  by_cases hlt : (i 0).val < w.toNat
  · rw [(cond2_iff i w e).2 hlt]; rfl
  · rw [(cond3_iff i w e).2 hlt]; simp

end Cert.Kernel2Ideal.Exp
-- ==== Proof.XDat.lean ====
module

public import proofs.«01_k».proof.Proof.XTab
public import Idealize.ShloMosaic.Lib.Pipeline.ValueKit

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

open Idealize.ShloMosaic.ValueIdx

theorem rd1 (arg2 : Memref sig .tc .smem S1 .i32) (harg2 : arg2.IsWhole) (T1 : Vec F S1 .i32) :
    (View.readAt (Elt F) arg2.view (Rect.unit (s := S1) ![0] S1.size inb_S1_S1_0).toLoadRect (harg2.unread T1) (Shape.Idx.first (numel1_S1.symm ▸ Nat.one_pos)) : BitVec 32) = T1 (ValueIdx.ix1 0) :=
  (congrFun (harg2.read_unread T1) _).trans (congrArg T1 (point1 inb_S1_S1_0 _))
theorem rd0 (arg1 : Memref sig .tc .smem S672 .i32) (harg1 : arg1.IsWhole) (T0 : Vec F S672 .i32) (off : Fin 1 → ℕ) (n : ℕ) (hn : n < 672) (e : off = ![n]) (inb) :
    (View.readAt (Elt F) arg1.view (Rect.unit (s := S672) off S1.size inb).toLoadRect (harg1.unread T0) (Shape.Idx.first (numel1_S1.symm ▸ Nat.one_pos)) : BitVec 32) = beN T0 n hn :=
  (congrFun (harg1.read_unread T0) _).trans (congrArg T0 (point672 off n hn e inb _))

section
variable (arg1 : Memref sig .tc .smem S672 .i32) (harg1 : arg1.IsWhole) (arg2 : Memref sig .tc .smem S1 .i32) (harg2 : arg2.IsWhole) (T0 : Vec F S672 .i32) (T1 : Vec F S1 .i32) (hR : InRange T0 T1) (i : grid0.Coords)
include hR
theorem hot_rd : (Scalar.cmpi .ne (Scalar.extui (Scalar.andi (Scalar.cmpi .slt (BitVec.ofNat 32 (i 0).val) (View.readAt (Elt F) arg2.view (Rect.unit (s := S1) ![0] S1.size inb_S1_S1_0).toLoadRect (harg2.unread T1) (Shape.Idx.first (numel1_S1.symm ▸ Nat.one_pos)))) (Scalar.ori (Scalar.cmpi .eq (BitVec.ofNat 32 (i 0).val) 0#32) (Scalar.cmpi .ne (View.readAt (Elt F) arg1.view (Rect.unit (s := S672) (k0_off1 i) S1.size (k0_off1_inb i)).toLoadRect (harg1.unread T0) (Shape.Idx.first (numel1_S1.symm ▸ Nat.one_pos))) (View.readAt (Elt F) arg1.view (Rect.unit (s := S672) (k0_off2 i) S1.size (k0_off2_inb i)).toLoadRect (harg1.unread T0) (Shape.Idx.first (numel1_S1.symm ▸ Nat.one_pos))))))) 0#32 = 1#1) ↔ (i 0).val < nuN T1 ∧ ((i 0).val = 0 ∨ beN T0 (i 0).val (pt_lt i) ≠ beN T0 ((i 0).val - 1) (by have := pt_lt i; omega)) := by
  show cHot (i 0).val (View.readAt (Elt F) arg2.view (Rect.unit (s := S1) ![0] S1.size inb_S1_S1_0).toLoadRect (harg2.unread T1) (Shape.Idx.first (numel1_S1.symm ▸ Nat.one_pos))) (View.readAt (Elt F) arg1.view (Rect.unit (s := S672) (k0_off1 i) S1.size (k0_off1_inb i)).toLoadRect (harg1.unread T0) (Shape.Idx.first (numel1_S1.symm ▸ Nat.one_pos))) (View.readAt (Elt F) arg1.view (Rect.unit (s := S672) (k0_off2 i) S1.size (k0_off2_inb i)).toLoadRect (harg1.unread T0) (Shape.Idx.first (numel1_S1.symm ▸ Nat.one_pos))) = 1#1 ↔ _
  rw [rd1, rd0 arg1 harg1 T0 _ _ (pt_lt i) (off1_eq i), rd0 arg1 harg1 T0 _ _ (by have := pt_lt i; omega) (off2_eq i)]
  exact hot_iff _ _ _ _ (pt_lt i) (hR.hi _) (hR.be _) (hR.be _)
theorem c2_rd : k0_cond2 i (View.readAt (Elt F) arg2.view (Rect.unit (s := S1) ![0] S1.size inb_S1_S1_0).toLoadRect (harg2.unread T1) (Shape.Idx.first (numel1_S1.symm ▸ Nat.one_pos))) = 1#1 ↔ (i 0).val < nuN T1 := by
  rw [rd1]; exact cond2_iff i _ (hR.hi _)
theorem c3_rd : k0_cond3 i (View.readAt (Elt F) arg2.view (Rect.unit (s := S1) ![0] S1.size inb_S1_S1_0).toLoadRect (harg2.unread T1) (Shape.Idx.first (numel1_S1.symm ▸ Nat.one_pos))) = 1#1 ↔ ¬ (i 0).val < nuN T1 := by
  rw [rd1]; exact cond3_iff i _ (hR.hi _)
end

/-! ## What the region finds, and the data the launch keeps -/

section
variable (m : (ℓ : Loc nD τ sig) → Buf (Elt F) ℓ) (ρ : Dev nD → PrngReg) (T0 : Vec F S672 .i32) (T1 : Vec F S1 .i32) (hR : InRange T0 T1)

/-- The buffers when the region is entered: after the reshapes. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The tables, admissible. -/
def adm : (pcfg0 (F := F)).Adm := ⟨tabs T0 T1, ok0_of T0 T1 hR⟩
abbrev cfgA : Pipeline.Cfg sig Λ₀ := cfg0 (adm T0 T1 hR)

theorem t_lt (t : Fin (cfgA T0 T1 hR).N) : t.val < 672 := Nat.lt_of_lt_of_eq t.isLt N_0
theorem coord (t : Fin (cfgA T0 T1 hR).N) : (grid0.coords t 0).val = t.val := (Pipeline.Grid.coords_val (G := grid0) t 0 (S := 1) (B := 672) (by decide) rfl).trans (by have := t_lt T0 T1 hR t; omega)

/-- The block of window `w` at point `t`. -/
def iblk (c : Dev nD) (w : Fin (cfgA T0 T1 hR).W) (t : Fin (cfgA T0 T1 hR).N) : (((cfgA T0 T1 hR).win w).xblock ((cfgA T0 T1 hR).grid.coords t)).Idx → Elt F ((cfgA T0 T1 hR).win w).elt :=
  (((cfgA T0 T1 hR).win w).blk t).view.read (Elt F) (V m c (Pipeline.arrRef spec0 w))

/-- The expert of point `t`. -/
abbrev beT (t : Fin (cfgA T0 T1 hR).N) : BitVec 32 := beN T0 t.val (t_lt T0 T1 hR t)
theorem beN_congr (a b : ℕ) (ha : a < 672) (hb : b < 672) (h : a = b) : beN T0 a ha = beN T0 b hb := by subst h; rfl

theorem ix_w1 (t : Fin (cfgA T0 T1 hR).N) : ((cfgA T0 T1 hR).win 1).index t = ![(beT T0 T1 hR t).toNat, 0, 0] :=
  (tr1_eq T0 T1 (grid0.coords t)).trans (by rw [beN_congr T0 _ _ _ (t_lt T0 T1 hR t) (coord T0 T1 hR t)])
theorem ix_w2 (t : Fin (cfgA T0 T1 hR).N) : ((cfgA T0 T1 hR).win 2).index t = ![(beT T0 T1 hR t).toNat, 0, 0] :=
  (tr2_eq T0 T1 (grid0.coords t)).trans (by rw [beN_congr T0 _ _ _ (t_lt T0 T1 hR t) (coord T0 T1 hR t)])
theorem ix_w3 (t : Fin (cfgA T0 T1 hR).N) : ((cfgA T0 T1 hR).win 3).index t = ![(beT T0 T1 hR t).toNat, 0, 0] :=
  (tr3_eq T0 T1 (grid0.coords t)).trans (by rw [beN_congr T0 _ _ _ (t_lt T0 T1 hR t) (coord T0 T1 hR t)])
theorem ix_w4 (t : Fin (cfgA T0 T1 hR).N) : ((cfgA T0 T1 hR).win 4).index t = ![(beT T0 T1 hR t).toNat, 0, 0] :=
  (tr4_eq T0 T1 (grid0.coords t)).trans (by rw [beN_congr T0 _ _ _ (t_lt T0 T1 hR t) (coord T0 T1 hR t)])
theorem ix_w0 (t : Fin (cfgA T0 T1 hR).N) : ((cfgA T0 T1 hR).win 0).index t = ![min t.val (nuN T1 - 1), 0] :=
  (tr0_eq T0 T1 hR (grid0.coords t)).trans (by rw [coord T0 T1 hR t])
theorem ix_w5 (t : Fin (cfgA T0 T1 hR).N) : ((cfgA T0 T1 hR).win 5).index t = ![t.val, 0] :=
  (tr5_eq (grid0.coords t)).trans (by rw [coord T0 T1 hR t])

/-- Two points of one expert find the same weights. -/
theorem iblk1_congr (c : Dev nD) (s t : Fin (cfgA T0 T1 hR).N) (h : beT T0 T1 hR s = beT T0 T1 hR t) :
    (iblk m T0 T1 hR c 1 s : Vec F S1x1024x2048 .f32) = iblk m T0 T1 hR c 1 t := by
  have e1 := ix_w1 T0 T1 hR s
  have e2 := ix_w1 T0 T1 hR t
  rw [h] at e1
  funext x
  blk_ext [iblk, e1, e2]
theorem iblk3_congr (c : Dev nD) (s t : Fin (cfgA T0 T1 hR).N) (h : beT T0 T1 hR s = beT T0 T1 hR t) :
    (iblk m T0 T1 hR c 3 s : Vec F S1x1024x1024 .f32) = iblk m T0 T1 hR c 3 t := by
  have e1 := ix_w3 T0 T1 hR s
  have e2 := ix_w3 T0 T1 hR t
  rw [h] at e1
  funext x
  blk_ext [iblk, e1, e2]

/-- What a point leaves: a used block's result, zeros elsewhere. -/
def outT (c : Dev nD) (t : Fin (cfgA T0 T1 hR).N) : Vec F S512x1024 .f32 :=
  if t.val < nuN T1 then yOut (iblk m T0 T1 hR c 0 t) (wu (iblk m T0 T1 hR c 1 t)) (iblk m T0 T1 hR c 2 t) (wd (iblk m T0 T1 hR c 3 t)) (iblk m T0 T1 hR c 4 t) else k0_pay4

abbrev tbM0_0 : Memref sig .tc .smem S672 .i32 := Memref.whole main_arg0
abbrev tbM0_1 : Memref sig .tc .smem S1 .i32 := Memref.whole main_arg1
abbrev scM0_0 : Memref sig .tc .vmem S512x1024 .bf16 := Memref.whole cc0_scratch0
abbrev scM0_1 : Memref sig .tc .vmem S1024x2048 .bf16 := Memref.whole cc0_scratch1
abbrev scM0_2 : Memref sig .tc .vmem S1024x1024 .bf16 := Memref.whole cc0_scratch2

/-- The rounded weights kept before point `n`: those of the point before it, if that one's block is used. -/
def Kept (c : Dev nD) (n : ℕ) (a1 : Vec F S1024x2048 .bf16) (a2 : Vec F S1024x1024 .bf16) : Prop :=
  ∀ s : Fin (cfgA T0 T1 hR).N, n = s.val + 1 → s.val < nuN T1 → a1 = wu (iblk m T0 T1 hR c 1 s) ∧ a2 = wd (iblk m T0 T1 hR c 3 s)

/-- What holds between points. -/
def PhiS (c : Dev nD) (n : ℕ) : sProp 𝕄 :=
  iprop((∃ d, owns (c : Thread nD τ) scM0_0 fullShare d) ∗ (∃ a1 a2, ⌜Kept m T0 T1 hR c n a1 a2⌝ ∗ owns (c : Thread nD τ) scM0_1 fullShare a1 ∗ owns (c : Thread nD τ) scM0_2 fullShare a2)
    ∗ owns (c : Thread nD τ) tbM0_0 fullShare.right T0 ∗ owns (c : Thread nD τ) tbM0_1 fullShare.right T1 ∗ (∃ r, prngReg c r))

/-- The pipeline's proof data: every input's block stays, the output's buffer ends with the point's results. -/
def dats (_ : Fin 1) (c : Dev nD) : Dat τ (Elt F) Unit ℕ (UR sig nD τ) ℕ (cfgA T0 T1 hR) c where
  A w := V m c (Pipeline.arrRef spec0 w)
  after w t := match w with
    | ⟨0, _⟩ => iblk m T0 T1 hR c (0 : Fin 6) t
    | ⟨1, _⟩ => iblk m T0 T1 hR c (1 : Fin 6) t
    | ⟨2, _⟩ => iblk m T0 T1 hR c (2 : Fin 6) t
    | ⟨3, _⟩ => iblk m T0 T1 hR c (3 : Fin 6) t
    | ⟨4, _⟩ => iblk m T0 T1 hR c (4 : Fin 6) t
    | ⟨5, _⟩ => outT m T0 T1 hR c t
  Φ t := PhiS m T0 T1 hR c t.val
  q _ := fullShare
  owed _ := 0
theorem after0_0 (c : Dev nD) (t : Fin (cfgA T0 T1 hR).N) : (dats m T0 T1 hR 0 c).after (0 : Fin 6) t = iblk m T0 T1 hR c (0 : Fin 6) t := by dsimp only [dats]
theorem after0_1 (c : Dev nD) (t : Fin (cfgA T0 T1 hR).N) : (dats m T0 T1 hR 0 c).after (1 : Fin 6) t = iblk m T0 T1 hR c (1 : Fin 6) t := by dsimp only [dats]
theorem after0_2 (c : Dev nD) (t : Fin (cfgA T0 T1 hR).N) : (dats m T0 T1 hR 0 c).after (2 : Fin 6) t = iblk m T0 T1 hR c (2 : Fin 6) t := by dsimp only [dats]
theorem after0_3 (c : Dev nD) (t : Fin (cfgA T0 T1 hR).N) : (dats m T0 T1 hR 0 c).after (3 : Fin 6) t = iblk m T0 T1 hR c (3 : Fin 6) t := by dsimp only [dats]
theorem after0_4 (c : Dev nD) (t : Fin (cfgA T0 T1 hR).N) : (dats m T0 T1 hR 0 c).after (4 : Fin 6) t = iblk m T0 T1 hR c (4 : Fin 6) t := by dsimp only [dats]
theorem after0_5 (c : Dev nD) (t : Fin (cfgA T0 T1 hR).N) : (dats m T0 T1 hR 0 c).after (5 : Fin 6) t = outT m T0 T1 hR c t := by dsimp only [dats]
theorem before0_0 (c : Dev nD) (t : Fin (cfgA T0 T1 hR).N) (d) : (dats m T0 T1 hR 0 c).before (0 : Fin 6) t d = iblk m T0 T1 hR c (0 : Fin 6) t :=
  ((dats m T0 T1 hR 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 hR).N) (d) : (dats m T0 T1 hR 0 c).before (1 : Fin 6) t d = iblk m T0 T1 hR c (1 : Fin 6) t :=
  ((dats m T0 T1 hR 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 hR).N) (d) : (dats m T0 T1 hR 0 c).before (2 : Fin 6) t d = iblk m T0 T1 hR c (2 : Fin 6) t :=
  ((dats m T0 T1 hR 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 hR).N) (d) : (dats m T0 T1 hR 0 c).before (3 : Fin 6) t d = iblk m T0 T1 hR c (3 : Fin 6) t :=
  ((dats m T0 T1 hR 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T0 T1 hR).N) (d) : (dats m T0 T1 hR 0 c).before (4 : Fin 6) t d = iblk m T0 T1 hR c (4 : Fin 6) t :=
  ((dats m T0 T1 hR 0 c).before_in_eq_fetched (4 : Fin 6) rfl (fun _ => rfl) (fun _ _ _ => rfl) (fun t => by rw [after0_4]; unfold Dat.blockOf iblk; rfl) t d).trans
    (by unfold Dat.fetched Dat.blockOf iblk; rfl)

end

end Cert.Kernel2Ideal.Exp
-- ==== Proof.XRunA.lean ====
module

public import proofs.«01_k».proof.Proof.XCov

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

section
variable (arg1 : Memref sig .tc .smem S672 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)

set_option maxHeartbeats 8000000 in
/-- A used block whose expert's weights are fetched: they are kept rounded, and its result is stored. -/
theorem runA (c : Dev nD) (i : grid0.Coords) (q : PosShare TreeShare) (T0 : Vec F S672 .i32) (T1 : Vec F S1 .i32)
    (x0 : Vec F S512x1024 .f32) (x1 : Vec F S1x1024x2048 .f32) (x2 : Vec F S1x1x2048 .f32) (x3 : Vec F S1x1024x1024 .f32) (x4 : Vec F S1x1x1024 .f32)
    (a1 : Vec F S1024x2048 .bf16) (a2 : Vec F S1024x1024 .bf16)
    (hc0 : Scalar.cmpi .ne (Scalar.extui (Scalar.andi (Scalar.cmpi .slt (BitVec.ofNat 32 (i 0).val) (View.readAt (Elt F) arg2.view (Rect.unit (s := S1) ![0] S1.size inb_S1_S1_0).toLoadRect (harg2.unread T1) (Shape.Idx.first (numel1_S1.symm ▸ Nat.one_pos)))) (Scalar.ori (Scalar.cmpi .eq (BitVec.ofNat 32 (i 0).val) 0#32) (Scalar.cmpi .ne (View.readAt (Elt F) arg1.view (Rect.unit (s := S672) (k0_off1 i) S1.size (k0_off1_inb i)).toLoadRect (harg1.unread T0) (Shape.Idx.first (numel1_S1.symm ▸ Nat.one_pos))) (View.readAt (Elt F) arg1.view (Rect.unit (s := S672) (k0_off2 i) S1.size (k0_off2_inb i)).toLoadRect (harg1.unread T0) (Shape.Idx.first (numel1_S1.symm ▸ Nat.one_pos))))))) 0#32 = 1#1) (hc2 : k0_cond2 i (View.readAt (Elt F) arg2.view (Rect.unit (s := S1) ![0] S1.size inb_S1_S1_0).toLoadRect (harg2.unread T1) (Shape.Idx.first (numel1_S1.symm ▸ Nat.one_pos))) = 1#1) (hc3 : ¬ k0_cond3 i (View.readAt (Elt F) arg2.view (Rect.unit (s := S1) ![0] S1.size inb_S1_S1_0).toLoadRect (harg2.unread T1) (Shape.Idx.first (numel1_S1.symm ▸ Nat.one_pos))) = 1#1) (E : Set ℕ) (K : PUnit → sProp 𝕄) :
    iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (yOut x0 (wu x1) x2 (wd x3) x4) ∗ (∃ d, owns (c : Thread nD τ) arg9 fullShare d) ∗ owns (c : Thread nD τ) arg10 fullShare (wu x1) ∗ owns (c : Thread nD τ) arg11 fullShare (wd x3)) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9 arg10 harg10 arg11 harg11) K := by
  rw [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%ft0, %hft0, HT0⟩, ⟨%ft1, %hft1, HT1⟩, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg1.eq_unread hft0
  obtain rfl := harg2.eq_unread hft1
  obtain rfl := harg3.eq_unread hf0
  obtain rfl := harg4.eq_unread hf1
  obtain rfl := harg5.eq_unread hf2
  obtain rfl := harg6.eq_unread hf3
  obtain rfl := harg7.eq_unread hf4
  sl_exec! (disch := first | (guard_target = Scalar.cmpi _ _ _ = _; exact hc0) | (guard_target = k0_cond2 _ _ = _; exact hc2) | (guard_target = ¬(k0_cond3 _ _ = _); exact hc3))
  sl_step
  iapply Hk
  isplitl [HT0]
  · iexists _; isplitr; · ipureintro; exact harg1.read_unread _
    iexact HT0
  isplitl [HT1]
  · iexists _; isplitr; · ipureintro; exact harg2.read_unread _
    iexact HT1
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole _ _ _ _).trans ?_
    sl_unfold_run_names
    simp only [readAt_ld, ldB0, ldB1, ldB2, ldB3, ldB4, ldB5, ldB6, ldB7]
    simp only [covU x1 arg10.view, covD x3 arg11.view]
    simp only [ldW0, ldW1, ldW2, ldW3, ldW4, ldW5, ldW6, ldW7, ld_S512x1024, ld_S1024x1024b, ld_S1x1x1024, pay21_eq, pay23_eq, pay26_eq, pay2_eq]
    rw [covA]
    rfl
  isplitl [HS0]
  · iexists _, _; isplitr; swap; · iexact HS0
    ipureintro; rfl
  isplitl [HS1]
  · iexists _; isplitr; swap; · iexact HS1
    ipureintro
    sl_unfold_run_names
    simp only [readAt_ld]
    exact read_of _ _ _ _ (piecesU x1) coverU
  iexists _; isplitr; swap; · iexact HS2
  ipureintro
  sl_unfold_run_names
  simp only [readAt_ld]
  exact read_of _ _ _ _ (piecesD x3) coverD

end

end Cert.Kernel2Ideal.Exp

end
-- ==== Proof.XRunB.lean ====
module

public import proofs.«01_k».proof.Proof.XCov

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

section
variable (arg1 : Memref sig .tc .smem S672 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)

set_option maxHeartbeats 8000000 in
/-- A used block of the expert before it: its result, from the weights kept. -/
theorem runB (c : Dev nD) (i : grid0.Coords) (q : PosShare TreeShare) (T0 : Vec F S672 .i32) (T1 : Vec F S1 .i32)
    (x0 : Vec F S512x1024 .f32) (x1 : Vec F S1x1024x2048 .f32) (x2 : Vec F S1x1x2048 .f32) (x3 : Vec F S1x1024x1024 .f32) (x4 : Vec F S1x1x1024 .f32)
    (a1 : Vec F S1024x2048 .bf16) (a2 : Vec F S1024x1024 .bf16)
    (hc0 : ¬ Scalar.cmpi .ne (Scalar.extui (Scalar.andi (Scalar.cmpi .slt (BitVec.ofNat 32 (i 0).val) (View.readAt (Elt F) arg2.view (Rect.unit (s := S1) ![0] S1.size inb_S1_S1_0).toLoadRect (harg2.unread T1) (Shape.Idx.first (numel1_S1.symm ▸ Nat.one_pos)))) (Scalar.ori (Scalar.cmpi .eq (BitVec.ofNat 32 (i 0).val) 0#32) (Scalar.cmpi .ne (View.readAt (Elt F) arg1.view (Rect.unit (s := S672) (k0_off1 i) S1.size (k0_off1_inb i)).toLoadRect (harg1.unread T0) (Shape.Idx.first (numel1_S1.symm ▸ Nat.one_pos))) (View.readAt (Elt F) arg1.view (Rect.unit (s := S672) (k0_off2 i) S1.size (k0_off2_inb i)).toLoadRect (harg1.unread T0) (Shape.Idx.first (numel1_S1.symm ▸ Nat.one_pos))))))) 0#32 = 1#1) (hc2 : k0_cond2 i (View.readAt (Elt F) arg2.view (Rect.unit (s := S1) ![0] S1.size inb_S1_S1_0).toLoadRect (harg2.unread T1) (Shape.Idx.first (numel1_S1.symm ▸ Nat.one_pos))) = 1#1) (hc3 : ¬ k0_cond3 i (View.readAt (Elt F) arg2.view (Rect.unit (s := S1) ![0] S1.size inb_S1_S1_0).toLoadRect (harg2.unread T1) (Shape.Idx.first (numel1_S1.symm ▸ Nat.one_pos))) = 1#1) (E : Set ℕ) (K : PUnit → sProp 𝕄) :
    iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare a1 ∗ owns (c : Thread nD τ) arg11 fullShare a2
      ∗ (iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (yOut x0 a1 x2 a2 x4) ∗ (∃ d, owns (c : Thread nD τ) arg9 fullShare d) ∗ owns (c : Thread nD τ) arg10 fullShare a1 ∗ owns (c : Thread nD τ) arg11 fullShare a2) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9 arg10 harg10 arg11 harg11) K := by
  rw [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%ft0, %hft0, HT0⟩, ⟨%ft1, %hft1, HT1⟩, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%fs2, %hfs2, HS2⟩, Hk⟩
  obtain rfl := harg1.eq_unread hft0
  obtain rfl := harg2.eq_unread hft1
  obtain rfl := harg3.eq_unread hf0
  obtain rfl := harg4.eq_unread hf1
  obtain rfl := harg5.eq_unread hf2
  obtain rfl := harg6.eq_unread hf3
  obtain rfl := harg7.eq_unread hf4
  obtain rfl := harg10.eq_unread hfs1
  obtain rfl := harg11.eq_unread hfs2
  sl_exec! (disch := first | (guard_target = ¬(Scalar.cmpi _ _ _ = _); exact hc0) | (guard_target = k0_cond2 _ _ = _; exact hc2) | (guard_target = ¬(k0_cond3 _ _ = _); exact hc3))
  sl_step
  iapply Hk
  isplitl [HT0]
  · iexists _; isplitr; · ipureintro; exact harg1.read_unread _
    iexact HT0
  isplitl [HT1]
  · iexists _; isplitr; · ipureintro; exact harg2.read_unread _
    iexact HT1
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_whole _ _ _ _).trans ?_
    sl_unfold_run_names
    simp only [readAt_ld, ldB0, ldB1, ldB2, ldB3, ldB4, ldB5, ldB6, ldB7, ldW0, ldW1, ldW2, ldW3, ldW4, ldW5, ldW6, ldW7, ld_S512x1024, ld_S1024x1024b, ld_S1x1x1024, pay21_eq, pay23_eq, pay26_eq, pay2_eq]
    rw [covA]
    rfl
  isplitl [HS0]
  · iexists _, _; isplitr; swap; · iexact HS0
    ipureintro; rfl
  isplitl [HS1]
  · iexists _; isplitr; · ipureintro; exact harg10.read_unread _
    iexact HS1
  iexists _; isplitr; · ipureintro; exact harg11.read_unread _
  iexact HS2

end

end Cert.Kernel2Ideal.Exp

end
-- ==== Proof.XRunC.lean ====
module

public import proofs.«01_k».proof.Proof.XCov

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

section
variable (arg1 : Memref sig .tc .smem S672 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)

set_option maxHeartbeats 8000000 in
/-- A block past the used ones: zeros are stored. -/
theorem runC (c : Dev nD) (i : grid0.Coords) (q : PosShare TreeShare) (T0 : Vec F S672 .i32) (T1 : Vec F S1 .i32)
    (x0 : Vec F S512x1024 .f32) (x1 : Vec F S1x1024x2048 .f32) (x2 : Vec F S1x1x2048 .f32) (x3 : Vec F S1x1024x1024 .f32) (x4 : Vec F S1x1x1024 .f32)
    (a1 : Vec F S1024x2048 .bf16) (a2 : Vec F S1024x1024 .bf16)
    (hc0 : ¬ Scalar.cmpi .ne (Scalar.extui (Scalar.andi (Scalar.cmpi .slt (BitVec.ofNat 32 (i 0).val) (View.readAt (Elt F) arg2.view (Rect.unit (s := S1) ![0] S1.size inb_S1_S1_0).toLoadRect (harg2.unread T1) (Shape.Idx.first (numel1_S1.symm ▸ Nat.one_pos)))) (Scalar.ori (Scalar.cmpi .eq (BitVec.ofNat 32 (i 0).val) 0#32) (Scalar.cmpi .ne (View.readAt (Elt F) arg1.view (Rect.unit (s := S672) (k0_off1 i) S1.size (k0_off1_inb i)).toLoadRect (harg1.unread T0) (Shape.Idx.first (numel1_S1.symm ▸ Nat.one_pos))) (View.readAt (Elt F) arg1.view (Rect.unit (s := S672) (k0_off2 i) S1.size (k0_off2_inb i)).toLoadRect (harg1.unread T0) (Shape.Idx.first (numel1_S1.symm ▸ Nat.one_pos))))))) 0#32 = 1#1) (hc2 : ¬ k0_cond2 i (View.readAt (Elt F) arg2.view (Rect.unit (s := S1) ![0] S1.size inb_S1_S1_0).toLoadRect (harg2.unread T1) (Shape.Idx.first (numel1_S1.symm ▸ Nat.one_pos))) = 1#1) (hc3 : k0_cond3 i (View.readAt (Elt F) arg2.view (Rect.unit (s := S1) ![0] S1.size inb_S1_S1_0).toLoadRect (harg2.unread T1) (Shape.Idx.first (numel1_S1.symm ▸ Nat.one_pos))) = 1#1) (E : Set ℕ) (K : PUnit → sProp 𝕄) :
    iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare a1 ∗ owns (c : Thread nD τ) arg11 fullShare a2
      ∗ (iprop(owns (c : Thread nD τ) arg1 q T0 ∗ owns (c : Thread nD τ) arg2 q T1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay4 ∗ (∃ d, owns (c : Thread nD τ) arg9 fullShare d) ∗ owns (c : Thread nD τ) arg10 fullShare a1 ∗ owns (c : Thread nD τ) arg11 fullShare a2) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9 arg10 harg10 arg11 harg11) K := by
  rw [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%ft0, %hft0, HT0⟩, ⟨%ft1, %hft1, HT1⟩, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%fs2, %hfs2, HS2⟩, Hk⟩
  obtain rfl := harg1.eq_unread hft0
  obtain rfl := harg2.eq_unread hft1
  obtain rfl := harg3.eq_unread hf0
  obtain rfl := harg4.eq_unread hf1
  obtain rfl := harg5.eq_unread hf2
  obtain rfl := harg6.eq_unread hf3
  obtain rfl := harg7.eq_unread hf4
  obtain rfl := harg10.eq_unread hfs1
  obtain rfl := harg11.eq_unread hfs2
  sl_exec! (disch := first | (guard_target = ¬(Scalar.cmpi _ _ _ = _); exact hc0) | (guard_target = ¬(k0_cond2 _ _ = _); exact hc2) | (guard_target = k0_cond3 _ _ = _; exact hc3))
  sl_step
  iapply Hk
  isplitl [HT0]
  · iexists _; isplitr; · ipureintro; exact harg1.read_unread _
    iexact HT0
  isplitl [HT1]
  · iexists _; isplitr; · ipureintro; exact harg2.read_unread _
    iexact HT1
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    exact read_whole _ _ _ _
  isplitl [HS0]
  · iexists _, _; isplitr; swap; · iexact HS0
    ipureintro; rfl
  isplitl [HS1]
  · iexists _; isplitr; · ipureintro; exact harg10.read_unread _
    iexact HS1
  iexists _; isplitr; · ipureintro; exact harg11.read_unread _
  iexact HS2

end

end Cert.Kernel2Ideal.Exp

end
-- ==== Proof.XFr.lean ====
module

public import proofs.«01_k».proof.Proof.XDat
public import proofs.«01_k».proof.Proof.XRunA
public import proofs.«01_k».proof.Proof.XRunB
public import proofs.«01_k».proof.Proof.XRunC

@[expose] public section

set_option maxRecDepth 16384

noncomputable section

namespace Cert.Kernel2Ideal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

open Idealize.ShloMosaic.Tactic
variable {F : FTy → Type} [FloatOps F]

local notation "𝕄" => MT nD τ sig Unit (Elt F) ℕ (UR sig nD τ) ℕ

/-! ## The body at a point -/

section
variable (m : (ℓ : Loc nD τ sig) → Buf (Elt F) ℓ) (ρ : Dev nD → PrngReg) (T0 : Vec F S672 .i32) (T1 : Vec F S1 .i32) (hR : InRange T0 T1)

abbrev ms0_0 (t : Fin (cfgA T0 T1 hR).N) : Memref sig .tc .vmem S512x1024 .f32 := spec0_0.stage ((cfgA T0 T1 hR).slots t 0)
theorem hs0_0 (t : Fin (cfgA T0 T1 hR).N) : (ms0_0 T0 T1 hR t).IsWhole := hstage0_0 (((cfgA T0 T1 hR).slots t 0).cast nbuf0_0)
abbrev ms0_1 (t : Fin (cfgA T0 T1 hR).N) : Memref sig .tc .vmem S1x1024x2048 .f32 := spec0_1.stage ((cfgA T0 T1 hR).slots t 1)
theorem hs0_1 (t : Fin (cfgA T0 T1 hR).N) : (ms0_1 T0 T1 hR t).IsWhole := hstage0_1 (((cfgA T0 T1 hR).slots t 1).cast nbuf0_1)
abbrev ms0_2 (t : Fin (cfgA T0 T1 hR).N) : Memref sig .tc .vmem S1x1x2048 .f32 := spec0_2.stage ((cfgA T0 T1 hR).slots t 2)
theorem hs0_2 (t : Fin (cfgA T0 T1 hR).N) : (ms0_2 T0 T1 hR t).IsWhole := hstage0_2 (((cfgA T0 T1 hR).slots t 2).cast nbuf0_2)
abbrev ms0_3 (t : Fin (cfgA T0 T1 hR).N) : Memref sig .tc .vmem S1x1024x1024 .f32 := spec0_3.stage ((cfgA T0 T1 hR).slots t 3)
theorem hs0_3 (t : Fin (cfgA T0 T1 hR).N) : (ms0_3 T0 T1 hR t).IsWhole := hstage0_3 (((cfgA T0 T1 hR).slots t 3).cast nbuf0_3)
abbrev ms0_4 (t : Fin (cfgA T0 T1 hR).N) : Memref sig .tc .vmem S1x1x1024 .f32 := spec0_4.stage ((cfgA T0 T1 hR).slots t 4)
theorem hs0_4 (t : Fin (cfgA T0 T1 hR).N) : (ms0_4 T0 T1 hR t).IsWhole := hstage0_4 (((cfgA T0 T1 hR).slots t 4).cast nbuf0_4)
abbrev ms0_5 (t : Fin (cfgA T0 T1 hR).N) : Memref sig .tc .vmem S512x1024 .f32 := spec0_5.stage ((cfgA T0 T1 hR).slots t 5)
theorem hs0_5 (t : Fin (cfgA T0 T1 hR).N) : (ms0_5 T0 T1 hR t).IsWhole := hstage0_5 (((cfgA T0 T1 hR).slots t 5).cast nbuf0_5)

/-- The body at a point. -/
abbrev bodyAt0 (t : Fin (cfgA T0 T1 hR).N) : Prog (TpuEff nD τ sig (Elt F) Λ₀ .tc) PUnit :=
  cc0_experts (grid0.coords t) tbM0_0 (Memref.isWhole_whole _) tbM0_1 (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (ms0_5 T0 T1 hR t) (hs0_5 T0 T1 hR t) scM0_0 (Memref.isWhole_whole _) scM0_1 (Memref.isWhole_whole _) scM0_2 (Memref.isWhole_whole _)
/-- What the body is called with at a point, -/
def bodyPre (c : Dev nD) (t : Fin (cfgA T0 T1 hR).N) : sProp 𝕄 :=
  iprop((dats m T0 T1 hR 0 c).Φ t.castSucc ∗ (dats m T0 T1 hR 0 c).owesAt () t.castSucc
    ∗ (∃ d, owns (c : Thread nD τ) (ms0_0 T0 T1 hR t) fullShare ((dats m T0 T1 hR 0 c).before (0 : Fin 6) t d))
    ∗ (∃ d, owns (c : Thread nD τ) (ms0_1 T0 T1 hR t) fullShare ((dats m T0 T1 hR 0 c).before (1 : Fin 6) t d))
    ∗ (∃ d, owns (c : Thread nD τ) (ms0_2 T0 T1 hR t) fullShare ((dats m T0 T1 hR 0 c).before (2 : Fin 6) t d))
    ∗ (∃ d, owns (c : Thread nD τ) (ms0_3 T0 T1 hR t) fullShare ((dats m T0 T1 hR 0 c).before (3 : Fin 6) t d))
    ∗ (∃ d, owns (c : Thread nD τ) (ms0_4 T0 T1 hR t) fullShare ((dats m T0 T1 hR 0 c).before (4 : Fin 6) t d))
    ∗ (∃ d, owns (c : Thread nD τ) (ms0_5 T0 T1 hR t) fullShare ((dats m T0 T1 hR 0 c).before (5 : Fin 6) t d)))
/-- and what it returns. -/
def bodyPost (c : Dev nD) (t : Fin (cfgA T0 T1 hR).N) : sProp 𝕄 :=
  iprop((dats m T0 T1 hR 0 c).Φ t.succ ∗ (dats m T0 T1 hR 0 c).owesAt () t.succ
    ∗ owns (c : Thread nD τ) (ms0_0 T0 T1 hR t) fullShare ((dats m T0 T1 hR 0 c).after (0 : Fin 6) t)
    ∗ owns (c : Thread nD τ) (ms0_1 T0 T1 hR t) fullShare ((dats m T0 T1 hR 0 c).after (1 : Fin 6) t)
    ∗ owns (c : Thread nD τ) (ms0_2 T0 T1 hR t) fullShare ((dats m T0 T1 hR 0 c).after (2 : Fin 6) t)
    ∗ owns (c : Thread nD τ) (ms0_3 T0 T1 hR t) fullShare ((dats m T0 T1 hR 0 c).after (3 : Fin 6) t)
    ∗ owns (c : Thread nD τ) (ms0_4 T0 T1 hR t) fullShare ((dats m T0 T1 hR 0 c).after (4 : Fin 6) t)
    ∗ owns (c : Thread nD τ) (ms0_5 T0 T1 hR t) fullShare ((dats m T0 T1 hR 0 c).after (5 : Fin 6) t))

set_option maxHeartbeats 12800000 in
/-- The body at any point takes the one to the other. -/
theorem sound_body (c : Dev nD) (t : Fin (cfgA T0 T1 hR).N) :
    bodyPre m T0 T1 hR c t ⊢ wp frame (wpE (defs₀ (F := F)) Variants.none c none) Set.univ (bodyAt0 T0 T1 hR t) (fun _ => bodyPost m T0 T1 hR c t) := by
  unfold bodyPre bodyPost bodyAt0
  simp only [before0_0, before0_1, before0_2, before0_3, before0_4]
  rw [show (dats m T0 T1 hR 0 c).owesAt () t.succ = (dats m T0 T1 hR 0 c).owesAt () t.castSucc from rfl,
    after0_0, after0_1, after0_2, after0_3, after0_4, after0_5]
  rw [show (dats m T0 T1 hR 0 c).Φ t.succ = PhiS m T0 T1 hR c (t.val + 1) from rfl, show (dats m T0 T1 hR 0 c).Φ t.castSucc = PhiS m T0 T1 hR c t.val from rfl]
  have hct := coord T0 T1 hR t
  have htl := t_lt T0 T1 hR t
  unfold PhiS
  by_cases hu : ((grid0.coords t) 0).val < nuN T1
  · have hut : t.val < nuN T1 := by omega
    have hout : outT m T0 T1 hR c t = yOut (iblk m T0 T1 hR c 0 t) (wu (iblk m T0 T1 hR c 1 t)) (iblk m T0 T1 hR c 2 t) (wd (iblk m T0 T1 hR c 3 t)) (iblk m T0 T1 hR c 4 t) := if_pos hut
    rw [hout]
    by_cases hh : ((grid0.coords t) 0).val = 0 ∨ beN T0 ((grid0.coords t) 0).val (pt_lt (grid0.coords t)) ≠ beN T0 (((grid0.coords t) 0).val - 1) (by have := pt_lt (grid0.coords t); omega)
    · have hcs := And.intro ((hot_rd tbM0_0 (Memref.isWhole_whole _) tbM0_1 (Memref.isWhole_whole _) T0 T1 hR (grid0.coords t)).2 ⟨hu, hh⟩) (And.intro ((c2_rd tbM0_1 (Memref.isWhole_whole _) T0 T1 hR (grid0.coords t)).2 hu) (fun h => (c3_rd tbM0_1 (Memref.isWhole_whole _) T0 T1 hR (grid0.coords t)).1 h hu))
      iintro ⟨⟨⟨%ds0, HS0⟩, ⟨%a1, %a2, %hk, HS1, HS2⟩, HT0, HT1, Hg⟩, Ho, ⟨%d0, H0⟩, ⟨%d1, H1⟩, ⟨%d2, H2⟩, ⟨%d3, H3⟩, ⟨%d4, H4⟩, ⟨%d5, H5⟩⟩
      iapply (runA tbM0_0 (Memref.isWhole_whole _) tbM0_1 (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (ms0_5 T0 T1 hR t) (hs0_5 T0 T1 hR t) scM0_0 (Memref.isWhole_whole _) scM0_1 (Memref.isWhole_whole _) scM0_2 (Memref.isWhole_whole _) c (grid0.coords t) fullShare.right T0 T1 (iblk m T0 T1 hR c (0 : Fin 6) t) (iblk m T0 T1 hR c (1 : Fin 6) t) (iblk m T0 T1 hR c (2 : Fin 6) t) (iblk m T0 T1 hR c (3 : Fin 6) t) (iblk m T0 T1 hR c (4 : Fin 6) t) a1 a2 hcs.1 hcs.2.1 hcs.2.2 Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      iintro ⟨HT0, HT1, H0, H1, H2, H3, H4, H5, HS0, HS1, HS2⟩
      isplitl [HS0 HS1 HS2 HT0 HT1 Hg]
      · isplitl [HS0]; · iexact HS0
        isplitl [HS1 HS2]
        · iexists _; iexists _
          isplitr; swap
          · isplitl [HS1]; · iexact HS1
            iexact HS2
          · ipureintro
            intro s hs hsu
            have es : s = t := Fin.ext (by omega)
            rw [es]; exact ⟨rfl, rfl⟩
        isplitl [HT0]; · iexact HT0
        isplitl [HT1]; · iexact HT1
        iexact Hg
      isplitl [Ho]; · iexact Ho
      isplitl [H0]; · iexact H0
      isplitl [H1]; · iexact H1
      isplitl [H2]; · iexact H2
      isplitl [H3]; · iexact H3
      isplitl [H4]; · iexact H4
      iexact H5
    · have h0 : t.val ≠ 0 := fun h => hh (.inl (by omega))
      have hbe : beT T0 T1 hR ⟨t.val - 1, by omega⟩ = beT T0 T1 hR t := by
        by_contra hne
        refine hh (.inr fun e => hne ?_)
        exact ((beN_congr T0 (t.val - 1) (((grid0.coords t) 0).val - 1) _ _ (by omega)).trans e.symm).trans (beN_congr T0 _ t.val _ _ hct)
      have hkeep (a1 : Vec F S1024x2048 .bf16) (a2 : Vec F S1024x1024 .bf16) (hk : Kept m T0 T1 hR c t.val a1 a2) : wu (iblk m T0 T1 hR c 1 t) = a1 ∧ wd (iblk m T0 T1 hR c 3 t) = a2 := by
        have e := hk ⟨t.val - 1, by omega⟩ (by show t.val = t.val - 1 + 1; omega) (by show t.val - 1 < _; omega)
        rw [e.1, e.2, iblk1_congr m T0 T1 hR c _ t hbe, iblk3_congr m T0 T1 hR c _ t hbe]
        exact ⟨rfl, rfl⟩
      have hcs := And.intro (fun h => hh ((hot_rd tbM0_0 (Memref.isWhole_whole _) tbM0_1 (Memref.isWhole_whole _) T0 T1 hR (grid0.coords t)).1 h).2) (And.intro ((c2_rd tbM0_1 (Memref.isWhole_whole _) T0 T1 hR (grid0.coords t)).2 hu) (fun h => (c3_rd tbM0_1 (Memref.isWhole_whole _) T0 T1 hR (grid0.coords t)).1 h hu))
      iintro ⟨⟨⟨%ds0, HS0⟩, ⟨%a1, %a2, %hk, HS1, HS2⟩, HT0, HT1, Hg⟩, Ho, ⟨%d0, H0⟩, ⟨%d1, H1⟩, ⟨%d2, H2⟩, ⟨%d3, H3⟩, ⟨%d4, H4⟩, ⟨%d5, H5⟩⟩
      obtain ⟨rfl, rfl⟩ := hkeep a1 a2 hk
      iapply (runB tbM0_0 (Memref.isWhole_whole _) tbM0_1 (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (ms0_5 T0 T1 hR t) (hs0_5 T0 T1 hR t) scM0_0 (Memref.isWhole_whole _) scM0_1 (Memref.isWhole_whole _) scM0_2 (Memref.isWhole_whole _) c (grid0.coords t) fullShare.right T0 T1 (iblk m T0 T1 hR c (0 : Fin 6) t) (iblk m T0 T1 hR c (1 : Fin 6) t) (iblk m T0 T1 hR c (2 : Fin 6) t) (iblk m T0 T1 hR c (3 : Fin 6) t) (iblk m T0 T1 hR c (4 : Fin 6) t) (wu (iblk m T0 T1 hR c 1 t)) (wd (iblk m T0 T1 hR c 3 t)) hcs.1 hcs.2.1 hcs.2.2 Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexact HS1
      isplitl [HS2]; · iexact HS2
      iintro ⟨HT0, HT1, H0, H1, H2, H3, H4, H5, HS0, HS1, HS2⟩
      isplitl [HS0 HS1 HS2 HT0 HT1 Hg]
      · isplitl [HS0]; · iexact HS0
        isplitl [HS1 HS2]
        · iexists _; iexists _
          isplitr; swap
          · isplitl [HS1]; · iexact HS1
            iexact HS2
          · ipureintro
            intro s hs hsu
            have es : s = t := Fin.ext (by omega)
            rw [es]; exact ⟨rfl, rfl⟩
        isplitl [HT0]; · iexact HT0
        isplitl [HT1]; · iexact HT1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hut : ¬ t.val < nuN T1 := by omega
    have hout : outT m T0 T1 hR c t = k0_pay4 := if_neg hut
    rw [hout]
    have hcs := And.intro (fun h => hu ((hot_rd tbM0_0 (Memref.isWhole_whole _) tbM0_1 (Memref.isWhole_whole _) T0 T1 hR (grid0.coords t)).1 h).1) (And.intro (fun h => hu ((c2_rd tbM0_1 (Memref.isWhole_whole _) T0 T1 hR (grid0.coords t)).1 h)) ((c3_rd tbM0_1 (Memref.isWhole_whole _) T0 T1 hR (grid0.coords t)).2 hu))
    iintro ⟨⟨⟨%ds0, HS0⟩, ⟨%a1, %a2, %hk, HS1, HS2⟩, HT0, HT1, Hg⟩, Ho, ⟨%d0, H0⟩, ⟨%d1, H1⟩, ⟨%d2, H2⟩, ⟨%d3, H3⟩, ⟨%d4, H4⟩, ⟨%d5, H5⟩⟩
    iapply (runC tbM0_0 (Memref.isWhole_whole _) tbM0_1 (Memref.isWhole_whole _) (ms0_0 T0 T1 hR t) (hs0_0 T0 T1 hR t) (ms0_1 T0 T1 hR t) (hs0_1 T0 T1 hR t) (ms0_2 T0 T1 hR t) (hs0_2 T0 T1 hR t) (ms0_3 T0 T1 hR t) (hs0_3 T0 T1 hR t) (ms0_4 T0 T1 hR t) (hs0_4 T0 T1 hR t) (ms0_5 T0 T1 hR t) (hs0_5 T0 T1 hR t) scM0_0 (Memref.isWhole_whole _) scM0_1 (Memref.isWhole_whole _) scM0_2 (Memref.isWhole_whole _) c (grid0.coords t) fullShare.right T0 T1 (iblk m T0 T1 hR c (0 : Fin 6) t) (iblk m T0 T1 hR c (1 : Fin 6) t) (iblk m T0 T1 hR c (2 : Fin 6) t) (iblk m T0 T1 hR c (3 : Fin 6) t) (iblk m T0 T1 hR c (4 : Fin 6) t) a1 a2 hcs.1 hcs.2.1 hcs.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexact HS1
    isplitl [HS2]; · iexact HS2
    iintro ⟨HT0, HT1, H0, H1, H2, H3, H4, H5, HS0, HS1, HS2⟩
    isplitl [HS0 HS1 HS2 HT0 HT1 Hg]
    · isplitl [HS0]; · iexact HS0
      isplitl [HS1 HS2]
      · iexists _; iexists _
        isplitr; swap
        · isplitl [HS1]; · iexact HS1
          iexact HS2
        · ipureintro
          intro s hs hsu
          have es : s = t := Fin.ext (by omega)
          exact absurd (es ▸ hsu) hut
      isplitl [HT0]; · iexact HT0
      isplitl [HT1]; · iexact HT1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin (cfgA T0 T1 hR).N) :
    defs₀ (F := F) .tc (cfgA T0 T1 hR).body ((cfgA T0 T1 hR).bodyArgs t ((cfgA T0 T1 hR).slots t)) = bodyAt0 T0 T1 hR t := by
  unfold defs₀; rw [Defs.onTc_tc]
theorem idle_w5 (t : Fin (cfgA T0 T1 hR).N) : (cfgA T0 T1 hR).idle (5 : Fin 6) ((cfgA T0 T1 hR).grid.coords t) = false := idle5 T0 T1 hR _
/-- The body's obligation, at every point. -/
theorem body_obligation (c : Dev nD) : BodyObligation (dats m T0 T1 hR 0 c) (defs₀ (F := F)) Variants.none () Set.univ := fun t => by
  rw [bigSep_W0, bigSep_W0, defs₀_row]
  rewrite [idle_w5]
  exact triple_restated (sound_body m T0 T1 hR c t) rfl .rfl fun _ => .rfl

/-! ## The launch -/

theorem share_eq (c : Dev nD) (w : Fin (cfgA T0 T1 hR).W) : (dats m T0 T1 hR 0 c).share w = fullShare := by unfold Dat.share; split <;> rfl
/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl
/-- What the launch hands over holds before the first point. -/
theorem hin (c : Dev nD) : iprop(Pipeline.ΦA spec0 c ∗ Pipeline.ΦT pre0 (adm T0 T1 hR).1 c) ⊢ (dats m T0 T1 hR 0 c).Φ 0 := by
  rw [show (dats m T0 T1 hR 0 c).Φ 0 = PhiS m T0 T1 hR c 0 from rfl]
  unfold Pipeline.ΦA Pipeline.ΦT PhiS
  rw [prefHeld_eq, scopedRest0_eq]
  simp only [tbM0_0, tbM0_1, scM0_0, scM0_1, scM0_2, owns_whole]
  iintro ⟨⟨⟨HS0, ⟨%a1, HS1⟩, ⟨%a2, HS2⟩⟩, Hg⟩, HT0, HT1⟩
  isplitl [HS0]; · iexact HS0
  isplitl [HS1 HS2]
  · iexists a1; iexists a2
    isplitr; swap
    · isplitl [HS1]; · iexact HS1
      iexact HS2
    · ipureintro; intro s hs; exact absurd hs (by omega)
  isplitl [HT0]; · iexact HT0
  isplitl [HT1]; · iexact HT1
  iexact Hg
/-- After the last point the launch's resources can be given back. -/
theorem hout (c : Dev nD) : (dats m T0 T1 hR 0 c).Φ (Fin.last (cfgA T0 T1 hR).N) ⊢ Pipeline.ΦA spec0 c := by
  rw [show (dats m T0 T1 hR 0 c).Φ (Fin.last (cfgA T0 T1 hR).N) = PhiS m T0 T1 hR c (cfgA T0 T1 hR).N from rfl]
  unfold Pipeline.ΦA PhiS
  rw [scopedRest0_eq]
  simp only [tbM0_0, tbM0_1, scM0_0, scM0_1, scM0_2, owns_whole]
  iintro ⟨HS0, ⟨%a1, %a2, -, HS1, HS2⟩, -, -, Hg⟩
  isplitr [Hg]
  · isplitl [HS0]; · iexact HS0
    isplitl [HS1]; · iexists a1; iexact HS1
    iexists a2; iexact HS2
  iexact Hg

theorem hpf (h0 : ∀ c : Dev nD, m ((c : Thread nD τ).loc main_arg0) = T0) (h1 : ∀ c : Dev nD, m ((c : Thread nD τ).loc main_arg1) = T1) (c : Dev nD) (k : Fin pre0.K) :
    V m c (pre0.ref k) = (adm T0 T1 hR).1 k := by
  match k with
  | ⟨0, _⟩ => exact (V_main_arg0 m c).trans (h0 c)
  | ⟨1, _⟩ => exact (V_main_arg1 m c).trans (h1 c)

set_option backward.isDefEq.respectTransparency.types false in
set_option maxHeartbeats 4000000 in
/-- Every run from zero counters ends, with zero counters, the inputs unchanged and the results' array holding every point's block. -/
theorem run_main_quiescent (h0 : ∀ c : Dev nD, m ((c : Thread nD τ).loc main_arg0) = T0) (h1 : ∀ c : Dev nD, m ((c : Thread nD τ).loc main_arg1) = T1) :
    θ_run defs (onTc (τ := τ) (main (F := F))) (s₀ m ρ) (fun r => Pipeline.FramePost (Pipeline.pin pcfgs fun _ => adm T0 T1 hR) (dats m T0 T1 hR) 0 (V m) r ∧ r.2.sem = fun _ => 0) :=
  Pipeline.θ_run_frameP_track (Q' := _) pcfgs (fun _ => adm T0 T1 hR) (dats m T0 T1 hR) (0 : Fin 1) launch0 defs₀ Variants.none m ρ main
    (hbody := fun c => (body_obligation m T0 T1 hR c).loose) (hshare := share_eq m T0 T1 hR)
    (howed := fun _ _ => rfl) (V := V m) (hmain := Pipeline.hmainP_prefix pcfgs 0 defs₀ Variants.none m main hostOps0 hostOps0_sub hostOps0_fresh main_chain)
    (hA := fun _ _ => rfl) (hpf := hpf m T0 T1 hR h0 h1) (hin := hin m T0 T1 hR) (hout := hout m T0 T1 hR)
end

end Cert.Kernel2Ideal.Exp
-- ==== Proof.XEnd.lean ====
module

public import proofs.«01_k».proof.Proof.XFr
public import proofs.«01_k».proof.Proof.Gen.Pre_routed
public import Idealize.ShloMosaic.Lib.ReduceAll

@[expose] public section

set_option maxRecDepth 16384

noncomputable section

namespace Cert.Kernel2Ideal.Exp

open Idealize.ShloMosaic Idealize.ShloMosaic.TcCoe Idealize.SL.Sem
open Cert.Kernel2Ideal.Gen

variable {F : FTy → Type} [FloatOps F]

/-! ## The tables' range, from the precondition -/

theorem and_one : ∀ a b : BitVec 1, IntOp.andi a b = 1#1 → a = 1#1 ∧ b = 1#1 := by decide
theorem expert_lt (x : BitVec 32) (h1 : IntOp.cmpi .sge x 0#32 = 1#1) (h2 : IntOp.cmpi .slt x 32#32 = 1#1) : x.toNat < 32 := by
  have a1 := IntOp.cmpi_sge.mp h1
  have a2 := IntOp.cmpi_slt.mp h2
  rw [show (0#32 : BitVec 32).toInt = 0 by decide] at a1
  rw [show (32#32 : BitVec 32).toInt = 32 by decide] at a2
  rw [BitVec.toInt_eq_toNat_cond] at a1 a2
  split_ifs at a1 a2 <;> omega
theorem used_le (x : BitVec 32) (h1 : IntOp.cmpi .sge x 1#32 = 1#1) (h2 : IntOp.cmpi .sle x 672#32 = 1#1) : 1 ≤ x.toNat ∧ x.toNat ≤ 672 := by
  have a1 := IntOp.cmpi_sge.mp h1
  have a2 := IntOp.cmpi_sle.mp h2
  rw [show (1#32 : BitVec 32).toInt = 1 by decide] at a1
  rw [show (672#32 : BitVec 32).toInt = 672 by decide] at a2
  rw [BitVec.toInt_eq_toNat_cond] at a1 a2
  split_ifs at a1 a2 <;> omega
theorem inRange_of (x0 : IVec Cert.Pre_routed.S672 32) (x1 : IVec Cert.Pre_routed.S1 32) (x2 : FVec F Cert.Pre_routed.S344064x1024 .f32) (x3 : FVec F Cert.Pre_routed.S1x32x1024x2048 .f32)
    (x4 : FVec F Cert.Pre_routed.S1x32x2048 .f32) (x5 : FVec F Cert.Pre_routed.S1x32x1024x1024 .f32) (x6 : FVec F Cert.Pre_routed.S1x32x1024 .f32)
    (h : (Cert.Pre_routed.fn (F := F) x0 x1 x2 x3 x4 x5 x6).1 = fun _ => 1#1) (h' : (Cert.Pre_routed.fn (F := F) x0 x1 x2 x3 x4 x5 x6).2 = fun _ => 1#1) :
    InRange (F := F) x0 x1 := by
  have h0 := congrFun h (fun a => a.elim0)
  simp only [Cert.Pre_routed.fn] at h0 h'
  have hb (i) := and_one _ _ (Host.reduce_andi_all _ _ _ _ _ h0 i)
  have hn (i) := and_one _ _ (congrFun h' i)
  exact ⟨fun i => expert_lt _ (hb i).1 (hb i).2, fun i => (used_le _ (hn i).1 (hn i).2).1, fun i => (used_le _ (hn i).1 (hn i).2).2⟩

/-! ## The frame -/

section
variable (m : (ℓ : Loc nD τ sig) → Buf (Elt F) ℓ) (ρ : Dev nD → PrngReg) (T0 : Vec F S672 .i32) (T1 : Vec F S1 .i32) (hR : InRange T0 T1)

/-- A run of the launch leaves every argument as it was. -/
theorem args_kept (r : PUnit × MemSt nD τ sig (Elt F)) (h : Pipeline.FramePost (Pipeline.pin pcfgs fun _ => adm T0 T1 hR) (dats m T0 T1 hR) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (show ∀ w : Fin 6, (spec0 w).arr.view.ref ≠ main_arg0 by decide))).trans (V_main_arg0 m c),
    ((h c).2 main_arg1 (Pipeline.mem_restRefs_of main_arg1 (by decide) (show ∀ w : Fin 6, (spec0 w).arr.view.ref ≠ main_arg1 by decide))).trans (V_main_arg1 m c),
    ((h c).1 (0 : Fin 6)).trans (((dats m T0 T1 hR 0 c).arrAt_in (0 : Fin 6) rfl _).trans (V_main_arg2 m c)),
    ((h c).2 main_arg3 (Pipeline.mem_restRefs_of main_arg3 (by decide) (show ∀ w : Fin 6, (spec0 w).arr.view.ref ≠ main_arg3 by decide))).trans (V_main_arg3 m c),
    ((h c).2 main_arg4 (Pipeline.mem_restRefs_of main_arg4 (by decide) (show ∀ w : Fin 6, (spec0 w).arr.view.ref ≠ main_arg4 by decide))).trans (V_main_arg4 m c),
    ((h c).2 main_arg5 (Pipeline.mem_restRefs_of main_arg5 (by decide) (show ∀ w : Fin 6, (spec0 w).arr.view.ref ≠ main_arg5 by decide))).trans (V_main_arg5 m c),
    ((h c).2 main_arg6 (Pipeline.mem_restRefs_of main_arg6 (by decide) (show ∀ w : Fin 6, (spec0 w).arr.view.ref ≠ main_arg6 by decide))).trans (V_main_arg6 m c)⟩
end

/-- The run over the memory's own tables. -/
theorem run_tables (m : (ℓ : Loc nD τ sig) → Buf (Elt F) ℓ) (ρ : Dev nD → PrngReg)
    (hR : InRange (F := F) (m (((0 : Dev nD) : Thread nD τ).loc main_arg0)) (m (((0 : Dev nD) : Thread nD τ).loc main_arg1))) :
    θ_run defs (onTc (τ := τ) (main (F := F))) ⟨m, fun _ => 0, ρ⟩ (fun r => Pipeline.FramePost (Pipeline.pin pcfgs fun _ => adm _ _ hR) (dats m _ _ hR) 0 (V m) r ∧ r.2.sem = fun _ => 0) :=
  run_main_quiescent m ρ _ _ hR (fun c => by rw [Subsingleton.elim c 0]) (fun c => by rw [Subsingleton.elim c 0])

/-- The frame: every argument as it was, every semaphore counter at zero. -/
theorem frame (m : (ℓ : Loc nD τ sig) → Buf (Elt F) ℓ) (ρ : Dev nD → PrngReg)
    (hR : InRange (F := F) (m (((0 : Dev nD) : Thread nD τ).loc main_arg0)) (m (((0 : Dev nD) : Thread nD τ).loc main_arg1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨args_kept m _ _ hR r h.1, h.2⟩) (run_tables m ρ hR)

end Cert.Kernel2Ideal.Exp

end
-- ==== Proof.XRef.lean ====
module

public import proofs.«01_k».proof.Proof.Gen.Reference2Ideal.Read
public import Idealize.ShloMosaic.Lib.Pointwise
public import Idealize.ShloMosaic.Lib.WordCmp
public import Idealize.ShloMosaic.Lib.Affine

@[expose] public section

set_option maxRecDepth 16384

noncomputable section

namespace Cert.Reference2Ideal.Exp

open Idealize.ShloMosaic Idealize.ShloMosaic.TcCoe Idealize.SL.Sem
open Cert.Reference2Ideal Cert.Reference2Ideal.Gen Cert.Reference2Ideal.Read

/-! ## A table's slabs, gathered -/

theorem small_toInt (x : BitVec 32) (h : x.toNat < 32) : x.toInt = (x.toNat : ℤ) := BitVec.toInt_eq_toNat_of_lt (by omega)
theorem clamp (x : BitVec 32) (h : x.toNat < 32) : min x.toInt.toNat 31 = x.toNat := by
  rw [small_toInt x h]; omega
theorem g8 (x : Vec Ideal S32x1024x2048 .f32) (idx : IVec S672x1 32) (b : Fin 672) (k : Fin 1024) (e : Fin 2048) (h : (idx (ix2 b (0 : Fin 1))).toNat < 32) :
    Host.gather gather_S32x1024x2048_S672x1_S672x1024x2048_12_0_n_n_0_1_110242048 x idx (ix3 b k e) = x (ix3 ⟨(idx (ix2 b (0 : Fin 1))).toNat, h⟩ k e) := by
  unfold Host.gather
  refine congrArg x (funext fun a => Fin.ext ?_)
  match a with
  | ⟨0, _⟩ =>
    refine Eq.trans ?_ (clamp (idx (ix2 b (0 : Fin 1))) h)
    show GatherDims.start _ (ix3 b k e) idx 0 + GatherDims.batchCoord _ (ix3 b k e) 0 + GatherDims.offCoord _ (ix3 b k e) 0 = _
    rw [GatherDims.batchCoord_eq_zero _ _ _ (by decide), GatherDims.offCoord_eq_zero _ _ _ (by decide)]
    unfold GatherDims.start
    rw [dif_pos (by decide)]
    have hs (p) : GatherDims.siIdx gather_S32x1024x2048_S672x1_S672x1024x2048_12_0_n_n_0_1_110242048 (ix3 b k e) p = ix2 b (0 : Fin 1) := funext fun a => Fin.ext (by
      match a with
      | ⟨0, _⟩ => rfl
      | ⟨1, _⟩ => exact Nat.lt_one_iff.mp (Fin.isLt _))
    rw [hs]
    rfl
  | ⟨1, _⟩ =>
    show GatherDims.start _ (ix3 b k e) idx 1 + GatherDims.batchCoord _ (ix3 b k e) 1 + GatherDims.offCoord _ (ix3 b k e) 1 = k.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ (ix3 b k e) idx 2 + GatherDims.batchCoord _ (ix3 b k e) 2 + GatherDims.offCoord _ (ix3 b k e) 2 = e.val
    rw [GatherDims.batchCoord_eq_zero _ _ _ (by decide)]
    unfold GatherDims.start GatherDims.offCoord
    rw [dif_neg (by decide), dif_pos (by decide), Nat.zero_add]
    rfl
theorem g45 (x : Vec Ideal S32x1024x1024 .f32) (idx : IVec S672x1 32) (b : Fin 672) (k : Fin 1024) (e : Fin 1024) (h : (idx (ix2 b (0 : Fin 1))).toNat < 32) :
    Host.gather gather_S32x1024x1024_S672x1_S672x1024x1024_12_0_n_n_0_1_110241024 x idx (ix3 b k e) = x (ix3 ⟨(idx (ix2 b (0 : Fin 1))).toNat, h⟩ k e) := by
  unfold Host.gather
  refine congrArg x (funext fun a => Fin.ext ?_)
  match a with
  | ⟨0, _⟩ =>
    refine Eq.trans ?_ (clamp (idx (ix2 b (0 : Fin 1))) h)
    show GatherDims.start _ (ix3 b k e) idx 0 + GatherDims.batchCoord _ (ix3 b k e) 0 + GatherDims.offCoord _ (ix3 b k e) 0 = _
    rw [GatherDims.batchCoord_eq_zero _ _ _ (by decide), GatherDims.offCoord_eq_zero _ _ _ (by decide)]
    unfold GatherDims.start
    rw [dif_pos (by decide)]
    have hs (p) : GatherDims.siIdx gather_S32x1024x1024_S672x1_S672x1024x1024_12_0_n_n_0_1_110241024 (ix3 b k e) p = ix2 b (0 : Fin 1) := funext fun a => Fin.ext (by
      match a with
      | ⟨0, _⟩ => rfl
      | ⟨1, _⟩ => exact Nat.lt_one_iff.mp (Fin.isLt _))
    rw [hs]
    rfl
  | ⟨1, _⟩ =>
    show GatherDims.start _ (ix3 b k e) idx 1 + GatherDims.batchCoord _ (ix3 b k e) 1 + GatherDims.offCoord _ (ix3 b k e) 1 = k.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ (ix3 b k e) idx 2 + GatherDims.batchCoord _ (ix3 b k e) 2 + GatherDims.offCoord _ (ix3 b k e) 2 = e.val
    rw [GatherDims.batchCoord_eq_zero _ _ _ (by decide)]
    unfold GatherDims.start GatherDims.offCoord
    rw [dif_neg (by decide), dif_pos (by decide), Nat.zero_add]
    rfl
theorem g17 (x : Vec Ideal S32x2048 .f32) (idx : IVec S672x1 32) (b : Fin 672) (e : Fin 2048) (h : (idx (ix2 b (0 : Fin 1))).toNat < 32) :
    Host.gather gather_S32x2048_S672x1_S672x2048_1_0_n_n_0_1_12048 x idx (ix2 b e) = x (ix2 ⟨(idx (ix2 b (0 : Fin 1))).toNat, h⟩ e) := by
  unfold Host.gather
  refine congrArg x (funext fun a => Fin.ext ?_)
  match a with
  | ⟨0, _⟩ =>
    refine Eq.trans ?_ (clamp (idx (ix2 b (0 : Fin 1))) h)
    show GatherDims.start _ (ix2 b e) idx 0 + GatherDims.batchCoord _ (ix2 b e) 0 + GatherDims.offCoord _ (ix2 b e) 0 = _
    rw [GatherDims.batchCoord_eq_zero _ _ _ (by decide), GatherDims.offCoord_eq_zero _ _ _ (by decide)]
    unfold GatherDims.start
    rw [dif_pos (by decide)]
    have hs (p) : GatherDims.siIdx gather_S32x2048_S672x1_S672x2048_1_0_n_n_0_1_12048 (ix2 b e) p = ix2 b (0 : Fin 1) := funext fun a => Fin.ext (by
      match a with
      | ⟨0, _⟩ => rfl
      | ⟨1, _⟩ => exact Nat.lt_one_iff.mp (Fin.isLt _))
    rw [hs]
    rfl
  | ⟨1, _⟩ =>
    show GatherDims.start _ (ix2 b e) idx 1 + GatherDims.batchCoord _ (ix2 b e) 1 + GatherDims.offCoord _ (ix2 b e) 1 = e.val
    rw [GatherDims.batchCoord_eq_zero _ _ _ (by decide)]
    unfold GatherDims.start GatherDims.offCoord
    rw [dif_neg (by decide), dif_pos (by decide), Nat.zero_add]
    rfl
theorem g54 (x : Vec Ideal S32x1024 .f32) (idx : IVec S672x1 32) (b : Fin 672) (e : Fin 1024) (h : (idx (ix2 b (0 : Fin 1))).toNat < 32) :
    Host.gather gather_S32x1024_S672x1_S672x1024_1_0_n_n_0_1_11024 x idx (ix2 b e) = x (ix2 ⟨(idx (ix2 b (0 : Fin 1))).toNat, h⟩ e) := by
  unfold Host.gather
  refine congrArg x (funext fun a => Fin.ext ?_)
  match a with
  | ⟨0, _⟩ =>
    refine Eq.trans ?_ (clamp (idx (ix2 b (0 : Fin 1))) h)
    show GatherDims.start _ (ix2 b e) idx 0 + GatherDims.batchCoord _ (ix2 b e) 0 + GatherDims.offCoord _ (ix2 b e) 0 = _
    rw [GatherDims.batchCoord_eq_zero _ _ _ (by decide), GatherDims.offCoord_eq_zero _ _ _ (by decide)]
    unfold GatherDims.start
    rw [dif_pos (by decide)]
    have hs (p) : GatherDims.siIdx gather_S32x1024_S672x1_S672x1024_1_0_n_n_0_1_11024 (ix2 b e) p = ix2 b (0 : Fin 1) := funext fun a => Fin.ext (by
      match a with
      | ⟨0, _⟩ => rfl
      | ⟨1, _⟩ => exact Nat.lt_one_iff.mp (Fin.isLt _))
    rw [hs]
    rfl
  | ⟨1, _⟩ =>
    show GatherDims.start _ (ix2 b e) idx 1 + GatherDims.batchCoord _ (ix2 b e) 1 + GatherDims.offCoord _ (ix2 b e) 1 = e.val
    rw [GatherDims.batchCoord_eq_zero _ _ _ (by decide)]
    unfold GatherDims.start GatherDims.offCoord
    rw [dif_neg (by decide), dif_pos (by decide), Nat.zero_add]
    rfl

/-! ## The reference's values, read at an index -/

section
variable (x0 : Vec Ideal S672 .i32) (x1 : Vec Ideal S1 .i32) (x2 : Vec Ideal S344064x1024 .f32) (x3 : Vec Ideal S1x32x1024x2048 .f32) (x4 : Vec Ideal S1x32x2048 .f32)
  (x5 : Vec Ideal S1x32x1024x1024 .f32) (x6 : Vec Ideal S1x32x1024 .f32)

theorem not_neg (x : BitVec 32) (h : x.toNat < 32) (y : BitVec 32) : Scalar.select (IntOp.cmpi .slt x 0#32) y x = x := by
  have hn : ¬ IntOp.cmpi .slt x 0#32 = 1#1 := by
    rw [IntOp.cmpi_slt, small_toInt x h, show (0#32 : BitVec 32).toInt = 0 by decide]
    omega
  unfold Scalar.select
  exact if_neg hn
theorem v7_at (b : Fin 672) (h : (x0 (ix1 b) : BitVec 32).toNat < 32) : val_main_v7 (F := Ideal) x0 (ix2 b (0 : Fin 1)) = x0 (ix1 b) := by
  rw [val_main_v7_apply, val_main_v6_apply, val_main_v3_apply]
  have e : idx_main_v7 (ix2 b (0 : Fin 1)) = ix1 b := funext fun a => match a with | ⟨0, _⟩ => rfl
  rw [e]
  exact not_neg _ h _
theorem v16_at (b : Fin 672) (h : (x0 (ix1 b) : BitVec 32).toNat < 32) : val_main_v16 (F := Ideal) x0 (ix2 b (0 : Fin 1)) = x0 (ix1 b) := by
  rw [val_main_v16_apply, val_main_v15_apply, val_main_v12_apply]
  have e : idx_main_v16 (ix2 b (0 : Fin 1)) = ix1 b := funext fun a => match a with | ⟨0, _⟩ => rfl
  rw [e]
  exact not_neg _ h _
theorem v44_at (b : Fin 672) (h : (x0 (ix1 b) : BitVec 32).toNat < 32) : val_main_v44 (F := Ideal) x0 (ix2 b (0 : Fin 1)) = x0 (ix1 b) := by
  rw [val_main_v44_apply, val_main_v43_apply, val_main_v40_apply]
  have e : idx_main_v44 (ix2 b (0 : Fin 1)) = ix1 b := funext fun a => match a with | ⟨0, _⟩ => rfl
  rw [e]
  exact not_neg _ h _
theorem v53_at (b : Fin 672) (h : (x0 (ix1 b) : BitVec 32).toNat < 32) : val_main_v53 (F := Ideal) x0 (ix2 b (0 : Fin 1)) = x0 (ix1 b) := by
  rw [val_main_v53_apply, val_main_v52_apply, val_main_v49_apply]
  have e : idx_main_v53 (ix2 b (0 : Fin 1)) = ix1 b := funext fun a => match a with | ⟨0, _⟩ => rfl
  rw [e]
  exact not_neg _ h _

variable (b : Fin 672) (h : (x0 (ix1 b) : BitVec 32).toNat < 32)
include h
theorem v8_at (k : Fin 1024) (e : Fin 2048) : val_main_v8 (F := Ideal) x0 x3 (ix3 b k e) = x3 (ix4 (0 : Fin 1) (⟨(x0 (ix1 b) : BitVec 32).toNat, h⟩ : Fin 32) k e) := by
  have hv := v7_at x0 b h
  unfold val_main_v8
  rw [g8 _ _ b k e (by rw [hv]; exact h), val_main_v1_apply]
  refine congrArg x3 (funext fun a => Fin.ext ?_)
  have hk := k.isLt
  have he := e.isLt
  match a with
  | ⟨0, _⟩ => rfl
  | ⟨1, _⟩ => show ((((val_main_v7 (F := Ideal) x0 (ix2 b (0 : Fin 1)) : BitVec 32).toNat * 1024 + k.val) * 2048 + e.val) / 2097152 % 32) = _; rw [hv]; show _ = (x0 (ix1 b) : BitVec 32).toNat; omega
  | ⟨2, _⟩ => show ((((val_main_v7 (F := Ideal) x0 (ix2 b (0 : Fin 1)) : BitVec 32).toNat * 1024 + k.val) * 2048 + e.val) / 2048 % 1024) = k.val; omega
  | ⟨3, _⟩ => show ((((val_main_v7 (F := Ideal) x0 (ix2 b (0 : Fin 1)) : BitVec 32).toNat * 1024 + k.val) * 2048 + e.val) % 2048) = e.val; omega
theorem v45_at (k : Fin 1024) (e : Fin 1024) : val_main_v45 (F := Ideal) x0 x5 (ix3 b k e) = x5 (ix4 (0 : Fin 1) (⟨(x0 (ix1 b) : BitVec 32).toNat, h⟩ : Fin 32) k e) := by
  have hv := v44_at x0 b h
  unfold val_main_v45
  rw [g45 _ _ b k e (by rw [hv]; exact h), val_main_v38_apply]
  refine congrArg x5 (funext fun a => Fin.ext ?_)
  have hk := k.isLt
  have he := e.isLt
  match a with
  | ⟨0, _⟩ => rfl
  | ⟨1, _⟩ => show ((((val_main_v44 (F := Ideal) x0 (ix2 b (0 : Fin 1)) : BitVec 32).toNat * 1024 + k.val) * 1024 + e.val) / 1048576 % 32) = _; rw [hv]; show _ = (x0 (ix1 b) : BitVec 32).toNat; omega
  | ⟨2, _⟩ => show ((((val_main_v44 (F := Ideal) x0 (ix2 b (0 : Fin 1)) : BitVec 32).toNat * 1024 + k.val) * 1024 + e.val) / 1024 % 1024) = k.val; omega
  | ⟨3, _⟩ => show ((((val_main_v44 (F := Ideal) x0 (ix2 b (0 : Fin 1)) : BitVec 32).toNat * 1024 + k.val) * 1024 + e.val) % 1024) = e.val; omega
theorem v17_at (e : Fin 2048) : val_main_v17 (F := Ideal) x0 x4 (ix2 b e) = x4 (ix3 (0 : Fin 1) (⟨(x0 (ix1 b) : BitVec 32).toNat, h⟩ : Fin 32) e) := by
  have hv := v16_at x0 b h
  unfold val_main_v17
  rw [g17 _ _ b e (by rw [hv]; exact h), val_main_v10_apply]
  refine congrArg x4 (funext fun a => Fin.ext ?_)
  have he := e.isLt
  match a with
  | ⟨0, _⟩ => rfl
  | ⟨1, _⟩ => show (((val_main_v16 (F := Ideal) x0 (ix2 b (0 : Fin 1)) : BitVec 32).toNat * 2048 + e.val) / 2048 % 32) = _; rw [hv]; show _ = (x0 (ix1 b) : BitVec 32).toNat; omega
  | ⟨2, _⟩ => show (((val_main_v16 (F := Ideal) x0 (ix2 b (0 : Fin 1)) : BitVec 32).toNat * 2048 + e.val) % 2048) = e.val; omega
theorem v54_at (e : Fin 1024) : val_main_v54 (F := Ideal) x0 x6 (ix2 b e) = x6 (ix3 (0 : Fin 1) (⟨(x0 (ix1 b) : BitVec 32).toNat, h⟩ : Fin 32) e) := by
  have hv := v53_at x0 b h
  unfold val_main_v54
  rw [g54 _ _ b e (by rw [hv]; exact h), val_main_v47_apply]
  refine congrArg x6 (funext fun a => Fin.ext ?_)
  have he := e.isLt
  match a with
  | ⟨0, _⟩ => rfl
  | ⟨1, _⟩ => show (((val_main_v53 (F := Ideal) x0 (ix2 b (0 : Fin 1)) : BitVec 32).toNat * 1024 + e.val) / 1024 % 32) = _; rw [hv]; show _ = (x0 (ix1 b) : BitVec 32).toNat; omega
  | ⟨2, _⟩ => show (((val_main_v53 (F := Ideal) x0 (ix2 b (0 : Fin 1)) : BitVec 32).toNat * 1024 + e.val) % 1024) = e.val; omega
end

end Cert.Reference2Ideal.Exp

end
-- ==== Proof.XRef2.lean ====
module

public import proofs.«01_k».proof.Proof.XRef
public import Idealize.ShloMosaic.Lib.IdealHost

@[expose] public section

set_option maxRecDepth 16384

noncomputable section

namespace Cert.Reference2Ideal.Exp

open Idealize.ShloMosaic Idealize.ShloMosaic.TcCoe Idealize.SL.Sem
open Cert.Reference2Ideal Cert.Reference2Ideal.Gen Cert.Reference2Ideal.Read

/-! ## The experts, one number at a time -/

/-- The activation of a gate value and a linear value. -/
def gluE (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)
/-- A row's products with an expert's first weights, column `e`. -/
def upE (x : Fin 1024 → EReal) (w : Fin 1024 → Fin 2048 → EReal) (b : Fin 2048 → EReal) (e : Fin 2048) : EReal := (∑ k, x k * w k e) + b e
/-- A row through an expert. -/
def rowE (x : Fin 1024 → EReal) (w : Fin 1024 → Fin 2048 → EReal) (b : Fin 2048 → EReal) (w' : Fin 1024 → Fin 1024 → EReal) (b' : Fin 1024 → EReal) (d : Fin 1024) : EReal :=
  (∑ e : Fin 1024, gluE (upE x w b ⟨e.val, by omega⟩) (upE x w b ⟨1024 + e.val, by omega⟩) * w' e d) + b' d

section
variable (x0 : Vec Ideal S672 .i32) (x1 : Vec Ideal S1 .i32) (x2 : Vec Ideal S344064x1024 .f32) (x3 : Vec Ideal S1x32x1024x2048 .f32) (x4 : Vec Ideal S1x32x2048 .f32)
  (x5 : Vec Ideal S1x32x1024x1024 .f32) (x6 : Vec Ideal S1x32x1024 .f32)
theorem v37_at (b : Fin 672) (r : Fin 512) (e : Fin 1024) : val_main_v37 (F := Ideal) x0 x2 x3 x4 (ix3 b r e)
    = gluE (val_main_v20 (F := Ideal) x0 x2 x3 x4 (ix3 b r ⟨e.val, by omega⟩)) (val_main_v20 (F := Ideal) x0 x2 x3 x4 (ix3 b r ⟨1024 + e.val, by omega⟩)) := by
  have hg : val_main_v21 (F := Ideal) x0 x2 x3 x4 (ix3 b r e) = val_main_v20 (F := Ideal) x0 x2 x3 x4 (ix3 b r ⟨e.val, by omega⟩) := by
    rw [val_main_v21_apply]
    exact congrArg _ (funext fun a => match a with | ⟨0, _⟩ => rfl | ⟨1, _⟩ => rfl | ⟨2, _⟩ => rfl)
  have hl : val_main_v24 (F := Ideal) x0 x2 x3 x4 (ix3 b r e) = val_main_v20 (F := Ideal) x0 x2 x3 x4 (ix3 b r ⟨1024 + e.val, by omega⟩) := by
    rw [val_main_v24_apply]
    exact congrArg _ (funext fun a => Fin.ext (match a with | ⟨0, _⟩ => rfl | ⟨1, _⟩ => rfl | ⟨2, _⟩ => rfl))
  rw [← hg, ← hl]
  unfold gluE Ideal.logistic
  rw [val_main_v37_apply, val_main_v34_apply, val_main_v36_apply, val_main_v35_apply, val_main_cst_8_apply, val_main_v33_apply, val_main_v32_apply, val_main_cst_7_apply,
    val_main_v31_apply, val_main_v30_apply, val_main_cst_6_apply, val_main_v29_apply, val_main_v28_apply, val_main_v27_apply, val_main_v26_apply, val_main_cst_5_apply,
    val_main_v25_apply, val_main_call0_v4_apply, val_main_call0_v3_apply, val_main_cst_4_apply, val_main_call0_v2_apply, val_main_call0_v1_apply, val_main_call0_v0_apply, val_main_cst_3_apply,
    val_main_v23_apply, val_main_v22_apply, val_main_cst_apply]
  generalize val_main_v21 (F := Ideal) x0 x2 x3 x4 (ix3 b r e) = g
  generalize val_main_v24 (F := Ideal) x0 x2 x3 x4 (ix3 b r e) = l
  show _ * Ideal.div (Ideal.ofBits .f32 0x3F800000#32) (Ideal.ofBits .f32 0x3F800000#32 + Ideal.exp _) * (_ + Ideal.ofBits .f32 0x3F800000#32) = _
  rw [Ideal.ofBits_one_f32]
  rfl
theorem v62_at (b : Fin 672) (r : Fin 512) (d : Fin 1024) (hn : (x1 (ix1 (0 : Fin 1)) : BitVec 32).toNat ≤ 672) :
    val_main_v63 (F := Ideal) x0 x1 x2 x3 x4 x5 x6 (ix3 b r d) = if b.val < (x1 (ix1 (0 : Fin 1)) : BitVec 32).toNat then val_main_v57 (F := Ideal) x0 x2 x3 x4 x5 x6 (ix3 b r d) else Ideal.ofBits .f32 0x00000000#32 := by
  have hc : val_main_call1_v1 (F := Ideal) x1 (ix3 b r d) = IntOp.cmpi .slt (BitVec.ofNat 32 b.val) (x1 (ix1 (0 : Fin 1))) := by
    rw [val_main_call1_v1_apply, val_main_v62_apply, val_main_v61_apply, val_main_v60_apply]
    refine congrArg₂ (IntOp.cmpi .slt) rfl ?_
    unfold val_main_v59
    exact shapeCast_apply x1 shapeCasts_S1_S_ _ (ix1 (0 : Fin 1)) (by rfl)
  rw [val_main_v63_apply, hc]
  have hb := b.isLt
  have e1 : (BitVec.ofNat 32 b.val).toInt = (b.val : ℤ) := WordCmp.toInt_ofNat_of_lt (w := 32) (a := b.val) (by omega)
  have e2 : (x1 (ix1 (0 : Fin 1)) : BitVec 32).toInt = ((x1 (ix1 (0 : Fin 1)) : BitVec 32).toNat : ℤ) := BitVec.toInt_eq_toNat_of_lt (by omega)
  unfold Scalar.select
  by_cases h : b.val < (x1 (ix1 (0 : Fin 1)) : BitVec 32).toNat
  · rw [if_pos h]
    exact if_pos (IntOp.cmpi_slt.mpr (by rw [e1, e2]; exact_mod_cast h))
  · rw [if_neg h]
    exact if_neg (fun hh => h (by have := IntOp.cmpi_slt.mp hh; rw [e1, e2] at this; exact_mod_cast this))

variable (b : Fin 672) (h : (x0 (ix1 b) : BitVec 32).toNat < 32) (r : Fin 512)
include h
theorem v20_at (e : Fin 2048) : val_main_v20 (F := Ideal) x0 x2 x3 x4 (ix3 b r e)
    = upE (fun k => x2 (ix2 ⟨512 * b.val + r.val, by omega⟩ k)) (fun k e => x3 (ix4 (0 : Fin 1) (⟨(x0 (ix1 b) : BitVec 32).toNat, h⟩ : Fin 32) k e)) (fun e => x4 (ix3 (0 : Fin 1) (⟨(x0 (ix1 b) : BitVec 32).toNat, h⟩ : Fin 32) e)) e := by
  rw [val_main_v20_apply, val_main_v9_apply, val_main_v19_apply, val_main_v18_apply]
  refine congrArg₂ (· + ·) (Finset.sum_congr rfl fun k _ => congrArg₂ (· * ·) ?_ ?_) ?_
  · rw [val_main_v0_apply]
    refine congrArg x2 (funext fun a => Fin.ext ?_)
    have hk := k.isLt
    have hr := r.isLt
    match a with
    | ⟨0, _⟩ => show ((b.val * 512 + r.val) * 1024 + k.val) / 1024 = 512 * b.val + r.val; omega
    | ⟨1, _⟩ => show ((b.val * 512 + r.val) * 1024 + k.val) % 1024 = k.val; omega
  · exact (congrArg _ (funext fun a => match a with | ⟨0, _⟩ => rfl | ⟨1, _⟩ => rfl | ⟨2, _⟩ => rfl)).trans (v8_at x0 x3 b h k e)
  · exact (congrArg _ (funext fun a => match a with | ⟨0, _⟩ => rfl | ⟨1, _⟩ => rfl)).trans (v17_at x0 x4 b h e)
theorem v57_at (d : Fin 1024) : val_main_v57 (F := Ideal) x0 x2 x3 x4 x5 x6 (ix3 b r d)
    = rowE (fun k => x2 (ix2 ⟨512 * b.val + r.val, by omega⟩ k)) (fun k e => x3 (ix4 (0 : Fin 1) (⟨(x0 (ix1 b) : BitVec 32).toNat, h⟩ : Fin 32) k e)) (fun e => x4 (ix3 (0 : Fin 1) (⟨(x0 (ix1 b) : BitVec 32).toNat, h⟩ : Fin 32) e))
      (fun e d => x5 (ix4 (0 : Fin 1) (⟨(x0 (ix1 b) : BitVec 32).toNat, h⟩ : Fin 32) e d)) (fun d => x6 (ix3 (0 : Fin 1) (⟨(x0 (ix1 b) : BitVec 32).toNat, h⟩ : Fin 32) d)) d := by
  rw [val_main_v57_apply, val_main_v46_apply, val_main_v56_apply, val_main_v55_apply]
  refine congrArg₂ (· + ·) (Finset.sum_congr rfl fun e _ => congrArg₂ (· * ·) ?_ ?_) ?_
  · rw [← v20_at x0 x2 x3 x4 b h r, ← v20_at x0 x2 x3 x4 b h r, ← v37_at]
    exact congrArg _ (funext fun a => match a with | ⟨0, _⟩ => rfl | ⟨1, _⟩ => rfl | ⟨2, _⟩ => rfl)
  · exact (congrArg _ (funext fun a => match a with | ⟨0, _⟩ => rfl | ⟨1, _⟩ => rfl | ⟨2, _⟩ => rfl)).trans (v45_at x0 x5 b h e d)
  · exact (congrArg _ (funext fun a => match a with | ⟨0, _⟩ => rfl | ⟨1, _⟩ => rfl)).trans (v54_at x0 x6 b h d)
/-- The reference's result at a row of a block. -/
theorem v64_at (hn : (x1 (ix1 (0 : Fin 1)) : BitVec 32).toNat ≤ 672) (d : Fin 1024) (n : Fin 344064) (e : n.val = 512 * b.val + r.val) :
    val_main_v64 (F := Ideal) x0 x1 x2 x3 x4 x5 x6 (ix2 n d) = if b.val < (x1 (ix1 (0 : Fin 1)) : BitVec 32).toNat then
      rowE (fun k => x2 (ix2 n k)) (fun k e => x3 (ix4 (0 : Fin 1) (⟨(x0 (ix1 b) : BitVec 32).toNat, h⟩ : Fin 32) k e)) (fun e => x4 (ix3 (0 : Fin 1) (⟨(x0 (ix1 b) : BitVec 32).toNat, h⟩ : Fin 32) e))
      (fun e d => x5 (ix4 (0 : Fin 1) (⟨(x0 (ix1 b) : BitVec 32).toNat, h⟩ : Fin 32) e d)) (fun d => x6 (ix3 (0 : Fin 1) (⟨(x0 (ix1 b) : BitVec 32).toNat, h⟩ : Fin 32) d)) d
      else Ideal.ofBits .f32 0x00000000#32 := by
  have hd := d.isLt
  have hr := r.isLt
  have hi : idx_main_v64 (ix2 n d) = ix3 b r d := funext fun a => Fin.ext (by
    match a with
    | ⟨0, _⟩ => show (n.val * 1024 + d.val) / 524288 = b.val; omega
    | ⟨1, _⟩ => show (n.val * 1024 + d.val) / 1024 % 512 = r.val; omega
    | ⟨2, _⟩ => show (n.val * 1024 + d.val) % 1024 = d.val; omega)
  have hn' : n = ⟨512 * b.val + r.val, by omega⟩ := Fin.ext e
  rw [val_main_v64_apply, hi, v62_at x0 x1 x2 x3 x4 x5 x6 b r d hn, v57_at x0 x2 x3 x4 x5 x6 b h r d, hn']
end

end Cert.Reference2Ideal.Exp

end
-- ==== Proof.XVal.lean ====
module

public import proofs.«01_k».proof.Proof.XEnd
public import proofs.«01_k».proof.Proof.XRef2
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Exp

open Idealize.ShloMosaic Idealize.ShloMosaic.TcCoe Idealize.SL.Sem
open Cert.Kernel2Ideal.Gen
open Cert.Reference2Ideal.Exp (gluE upE rowE)

/-! ## What a block's point computes, one number at a time -/

theorem pay27_at (x : Vec Ideal S512x1024 .bf16) (w : Vec Ideal S1024x256 .bf16) (b : Vec Ideal S1x1x256 .f32) (r : Fin 512) (e : Fin 256) :
    (k0_pay27 (F := Ideal) x w b (ix2 r e) : EReal) = (∑ k : Fin 1024, (x (ix2 r k) : EReal) * w (ix2 k e)) + b (ix3 (0 : Fin 1) (0 : Fin 1) e) := by
  pointwise [k0_pay27]
theorem pay28_at (x : Vec Ideal S512x1024 .bf16) (w : Vec Ideal S1024x256 .bf16) (b : Vec Ideal S1x1x256 .f32) (r : Fin 512) (e : Fin 256) :
    (k0_pay28 (F := Ideal) x w b (ix2 r e) : EReal) = min ((∑ k : Fin 1024, (x (ix2 r k) : EReal) * w (ix2 k e)) + b (ix3 (0 : Fin 1) (0 : Fin 1) e)) (Ideal.ofBits .f32 0x40E00000#32) := by
  pointwise [k0_pay28]
theorem pay3_at (x : Vec Ideal S512x1024 .bf16) (w : Vec Ideal S1024x1024 .bf16) (b : Vec Ideal S1x1x1024 .f32) (r : Fin 512) (e : Fin 1024) :
    (k0_pay3 (F := Ideal) x w b (ix2 r e) : EReal) = (∑ k : Fin 1024, (x (ix2 r k) : EReal) * w (ix2 k e)) + b (ix3 (0 : Fin 1) (0 : Fin 1) e) := by
  pointwise [k0_pay3]
theorem act_at (x : Vec Ideal S512x1024 .bf16) (wg wl : Vec Ideal S1024x256 .bf16) (bg bl : Vec Ideal S1x1x256 .f32) (r : Fin 512) (e : Fin 256) :
    (act (F := Ideal) x wg bg wl bl (ix2 r e) : EReal) = gluE ((∑ k : Fin 1024, (x (ix2 r k) : EReal) * wg (ix2 k e)) + bg (ix3 (0 : Fin 1) (0 : Fin 1) e))
      ((∑ k : Fin 1024, (x (ix2 r k) : EReal) * wl (ix2 k e)) + bl (ix3 (0 : Fin 1) (0 : Fin 1) e)) := by
  rw [← pay27_at x wl bl r e]
  unfold gluE
  rw [← pay28_at x wg bg r e]
  unfold act
  generalize k0_pay28 (F := Ideal) x wg bg = g
  generalize k0_pay27 (F := Ideal) x wl bl = l
  pointwise [k0_pay2]

theorem yOut_at (x : Vec Ideal S512x1024 .f32) (X : Vec Ideal S1x1024x2048 .f32) (B : Vec Ideal S1x1x2048 .f32) (D : Vec Ideal S1x1024x1024 .f32) (E : Vec Ideal S1x1x1024 .f32) (r : Fin 512) (d : Fin 1024) :
    (yOut (F := Ideal) x (wu X) B (wd D) E (ix2 r d) : EReal) = rowE (fun k => x (ix2 r k)) (fun k e => X (ix3 (0 : Fin 1) k e)) (fun e => B (ix3 (0 : Fin 1) (0 : Fin 1) e))
      (fun e d => D (ix3 (0 : Fin 1) e d)) (fun d => E (ix3 (0 : Fin 1) (0 : Fin 1) d)) d := by
  unfold yOut
  rw [pay3_at]
  refine congrArg (· + _) (Finset.sum_congr rfl fun e _ => congrArg₂ (· * ·) ?_ rfl)
  have he := e.isLt
  have h1 : 256 * (e.val / 256) + e.val % 256 = e.val := by omega
  have h2 : 256 * (e.val / 256 + 4) + e.val % 256 = 1024 + e.val := by omega
  refine (act_at (k0_pay20 x) _ _ _ _ r ⟨e.val % 256, by omega⟩).trans ?_
  refine congrArg₂ gluE ?_ ?_
  · refine congrArg₂ (· + ·) (Finset.sum_congr rfl fun k _ => congrArg₂ (· * ·) rfl ?_) ?_
    · exact congrArg (fun j => X (ix3 (0 : Fin 1) k j)) (Fin.ext h1)
    · exact congrArg (fun j => B (ix3 (0 : Fin 1) (0 : Fin 1) j)) (Fin.ext h1)
  · refine congrArg₂ (· + ·) (Finset.sum_congr rfl fun k _ => congrArg₂ (· * ·) rfl ?_) ?_
    · exact congrArg (fun j => X (ix3 (0 : Fin 1) k j)) (Fin.ext h2)
    · exact congrArg (fun j => B (ix3 (0 : Fin 1) (0 : Fin 1) j)) (Fin.ext h2)

/-! ## What each point reads, over the arguments -/
variable (m : (ℓ : Loc nD τ sig) → Buf (Elt Ideal) ℓ) (T0 : Vec Ideal S672 .i32) (T1 : Vec Ideal S1 .i32) (hR : InRange T0 T1) (c : Dev nD) (t : Fin (cfgA T0 T1 hR).N)

theorem v0_at (b : Fin 32) (k : Fin 1024) (e : Fin 2048) : ((V m c main_v0 : Vec Ideal S32x1024x2048 .f32) (ix3 b k e) : EReal)
    = (m ((c : Thread nD τ).loc main_arg3) : Vec Ideal S1x32x1024x2048 .f32) (ix4 (0 : Fin 1) b k e) := by
  entry_read
  pointwise []
theorem v2_at (b : Fin 32) (e : Fin 2048) : ((V m c main_v2 : Vec Ideal S32x1x2048 .f32) (ix3 b (0 : Fin 1) e) : EReal)
    = (m ((c : Thread nD τ).loc main_arg4) : Vec Ideal S1x32x2048 .f32) (ix3 (0 : Fin 1) b e) := by
  entry_read
  pointwise []
theorem v3_at (b : Fin 32) (k : Fin 1024) (e : Fin 1024) : ((V m c main_v3 : Vec Ideal S32x1024x1024 .f32) (ix3 b k e) : EReal)
    = (m ((c : Thread nD τ).loc main_arg5) : Vec Ideal S1x32x1024x1024 .f32) (ix4 (0 : Fin 1) b k e) := by
  entry_read
  pointwise []
theorem v5_at (b : Fin 32) (e : Fin 1024) : ((V m c main_v5 : Vec Ideal S32x1x1024 .f32) (ix3 b (0 : Fin 1) e) : EReal)
    = (m ((c : Thread nD τ).loc main_arg6) : Vec Ideal S1x32x1024 .f32) (ix3 (0 : Fin 1) b e) := by
  entry_read
  pointwise []

end Cert.Kernel2Ideal.Exp

end
-- ==== Proof.XVal2.lean ====
module

public import proofs.«01_k».proof.Proof.XVal
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Exp

open Idealize.ShloMosaic Idealize.ShloMosaic.TcCoe Idealize.SL.Sem
open Cert.Kernel2Ideal.Gen
open Cert.Reference2Ideal.Exp (gluE upE rowE)

/-! ## The array of results -/
variable (m : (ℓ : Loc nD τ sig) → Buf (Elt Ideal) ℓ) (T0 : Vec Ideal S672 .i32) (T1 : Vec Ideal S1 .i32) (hR : InRange T0 T1) (c : Dev nD) (t : Fin (cfgA T0 T1 hR).N)

/-- The expert of a point. -/
def eT : Fin 32 := ⟨(beT T0 T1 hR t).toNat, hR.be _⟩

theorem blk0 (ht : t.val < nuN T1) (r : Fin 512) (k : Fin 1024) : (iblk m T0 T1 hR c 0 t : Vec Ideal S512x1024 .f32) (ix2 r k)
    = (V m c main_arg2 : Vec Ideal S344064x1024 .f32) (ix2 ⟨512 * t.val + r.val, by have := t_lt T0 T1 hR t; omega⟩ k) := by
  have e : ((cfgA T0 T1 hR).win 0).index t = ![t.val, 0] := (ix_w0 T0 T1 hR t).trans (by rw [show min t.val (nuN T1 - 1) = t.val by omega])
  blk_ext [iblk, e]
theorem blk1 (k : Fin 1024) (e : Fin 2048) : (iblk m T0 T1 hR c 1 t : Vec Ideal S1x1024x2048 .f32) (ix3 (0 : Fin 1) k e)
    = (V m c main_v0 : Vec Ideal S32x1024x2048 .f32) (ix3 (eT T0 T1 hR t) k e) := by
  blk_ext [iblk, ix_w1 T0 T1 hR t, eT]
theorem blk2 (e : Fin 2048) : (iblk m T0 T1 hR c 2 t : Vec Ideal S1x1x2048 .f32) (ix3 (0 : Fin 1) (0 : Fin 1) e)
    = (V m c main_v2 : Vec Ideal S32x1x2048 .f32) (ix3 (eT T0 T1 hR t) (0 : Fin 1) e) := by
  blk_ext [iblk, ix_w2 T0 T1 hR t, eT]
theorem blk3 (k : Fin 1024) (e : Fin 1024) : (iblk m T0 T1 hR c 3 t : Vec Ideal S1x1024x1024 .f32) (ix3 (0 : Fin 1) k e)
    = (V m c main_v3 : Vec Ideal S32x1024x1024 .f32) (ix3 (eT T0 T1 hR t) k e) := by
  blk_ext [iblk, ix_w3 T0 T1 hR t, eT]
theorem blk4 (e : Fin 1024) : (iblk m T0 T1 hR c 4 t : Vec Ideal S1x1x1024 .f32) (ix3 (0 : Fin 1) (0 : Fin 1) e)
    = (V m c main_v5 : Vec Ideal S32x1x1024 .f32) (ix3 (eT T0 T1 hR t) (0 : Fin 1) e) := by
  blk_ext [iblk, ix_w4 T0 T1 hR t, eT]

/-- The reference's result over the kernel's arguments. -/
def refV (T0 : Vec Ideal S672 .i32) (T1 : Vec Ideal S1 .i32) : Vec Ideal S344064x1024 .f32 :=
  Cert.Reference2Ideal.Read.val_main_v64 (F := Ideal) T0 T1 (m ((c : Thread nD τ).loc main_arg2)) (m ((c : Thread nD τ).loc main_arg3)) (m ((c : Thread nD τ).loc main_arg4)) (m ((c : Thread nD τ).loc main_arg5)) (m ((c : Thread nD τ).loc main_arg6))

theorem point (r : Fin 512) (d : Fin 1024) (n : Fin 344064) (hn : n.val = 512 * t.val + r.val) : outT m T0 T1 hR c t (ix2 r d) = refV m c T0 T1 (ix2 n d) := by
  have ht := t_lt T0 T1 hR t
  have hi1 : (ValueIdx.ix1 (0 : Fin 1) : S1.Idx) = ix1 (0 : Fin 1) := funext fun a => match a with | ⟨0, _⟩ => rfl
  have hnu : nuN T1 = (T1 (ix1 (0 : Fin 1)) : BitVec 32).toNat := congrArg (fun i => (T1 i : BitVec 32).toNat) hi1
  have hbe : beT T0 T1 hR t = T0 (ix1 (⟨t.val, ht⟩ : Fin 672)) := congrArg T0 (funext fun a => match a with | ⟨0, _⟩ => rfl)
  have he : eT T0 T1 hR t = ⟨(T0 (ix1 (⟨t.val, ht⟩ : Fin 672)) : BitVec 32).toNat, hR.be _⟩ := Fin.ext (by show (beT T0 T1 hR t).toNat = _; rw [hbe])
  refine Eq.trans ?_ (Cert.Reference2Ideal.Exp.v64_at T0 T1 _ _ _ _ _ (⟨t.val, ht⟩ : Fin 672) (hR.be _) r (hR.hi _) d n hn).symm
  unfold outT
  rw [hnu]
  by_cases h : t.val < (T1 (ix1 (0 : Fin 1)) : BitVec 32).toNat
  · rw [if_pos h, if_pos h]
    have h' : t.val < nuN T1 := hnu ▸ h
    refine (yOut_at _ _ _ _ _ r d).trans ?_
    have e0 : (fun k => (iblk m T0 T1 hR c 0 t : Vec Ideal S512x1024 .f32) (ix2 r k)) = fun k => (m ((c : Thread nD τ).loc main_arg2) : Vec Ideal S344064x1024 .f32) (ix2 n k) := funext fun k => by
      rw [blk0 m T0 T1 hR c t h', V_main_arg2]
      exact congrArg (fun j => (m ((c : Thread nD τ).loc main_arg2) : Vec Ideal S344064x1024 .f32) (ix2 j k)) (Fin.ext hn.symm)
    have e1 : (fun k e => (iblk m T0 T1 hR c 1 t : Vec Ideal S1x1024x2048 .f32) (ix3 (0 : Fin 1) k e)) = fun k e => (m ((c : Thread nD τ).loc main_arg3) : Vec Ideal S1x32x1024x2048 .f32) (ix4 (0 : Fin 1) (eT T0 T1 hR t) k e) :=
      funext fun k => funext fun e => (blk1 m T0 T1 hR c t k e).trans (v0_at m c _ k e)
    have e2 : (fun e => (iblk m T0 T1 hR c 2 t : Vec Ideal S1x1x2048 .f32) (ix3 (0 : Fin 1) (0 : Fin 1) e)) = fun e => (m ((c : Thread nD τ).loc main_arg4) : Vec Ideal S1x32x2048 .f32) (ix3 (0 : Fin 1) (eT T0 T1 hR t) e) :=
      funext fun e => (blk2 m T0 T1 hR c t e).trans (v2_at m c _ e)
    have e3 : (fun k e => (iblk m T0 T1 hR c 3 t : Vec Ideal S1x1024x1024 .f32) (ix3 (0 : Fin 1) k e)) = fun k e => (m ((c : Thread nD τ).loc main_arg5) : Vec Ideal S1x32x1024x1024 .f32) (ix4 (0 : Fin 1) (eT T0 T1 hR t) k e) :=
      funext fun k => funext fun e => (blk3 m T0 T1 hR c t k e).trans (v3_at m c _ k e)
    have e4 : (fun e => (iblk m T0 T1 hR c 4 t : Vec Ideal S1x1x1024 .f32) (ix3 (0 : Fin 1) (0 : Fin 1) e)) = fun e => (m ((c : Thread nD τ).loc main_arg6) : Vec Ideal S1x32x1024 .f32) (ix3 (0 : Fin 1) (eT T0 T1 hR t) e) :=
      funext fun e => (blk4 m T0 T1 hR c t e).trans (v5_at m c _ e)
    rw [e0, e1, e2, e3, e4, he]
  · rw [if_neg h, if_neg h]
    rfl

theorem flush5 : ((cfgA T0 T1 hR).win 5).flush t = true := by
  unfold Pipeline.Window.flush
  refine Bool.and_eq_true_iff.mpr ⟨rfl, ?_⟩
  by_cases h : t.val + 1 = (cfgA T0 T1 hR).grid.N
  · exact Bool.or_eq_true_iff.mpr (Or.inl (decide_eq_true h))
  · refine Bool.or_eq_true_iff.mpr (Or.inr (decide_eq_true ⟨Nat.lt_of_le_of_ne t.isLt h, fun e => ?_⟩))
    have hlt : t.val + 1 < (cfgA T0 T1 hR).N := Nat.lt_of_le_of_ne t.isLt h
    have e' := congrFun ((ix_w5 T0 T1 hR ⟨t.val + 1, hlt⟩).symm.trans (e.trans (ix_w5 T0 T1 hR t))) 0
    have : t.val + 1 = t.val := e'
    omega

theorem covers5 : ((cfgA T0 T1 hR).win 5).Covers := by
  refine ⟨fun a => ?_, fun β => ?_⟩
  · exact (by decide : ∀ a : Fin S512x1024.rank, 0 < S512x1024.size a) a
  · have h0 : (β (0 : Fin 2)).val < 672 := Nat.lt_of_lt_of_eq (β (0 : Fin 2)).isLt (show (S344064x1024.size (0 : Fin 2) + S512x1024.size (0 : Fin 2) - 1) / S512x1024.size (0 : Fin 2) = 672 by decide)
    have h1 : (β (1 : Fin 2)).val < 1 := Nat.lt_of_lt_of_eq (β (1 : Fin 2)).isLt (show (S344064x1024.size (1 : Fin 2) + S512x1024.size (1 : Fin 2) - 1) / S512x1024.size (1 : Fin 2) = 1 by decide)
    have hN : (β (0 : Fin 2)).val < (cfgA T0 T1 hR).N := Nat.lt_of_lt_of_eq h0 N_0.symm
    refine ⟨⟨(β (0 : Fin 2)).val, hN⟩, flush5 T0 T1 hR _, fun a => ⟨?_, Or.inl rfl⟩⟩
    refine (congrFun (ix_w5 T0 T1 hR ⟨(β (0 : Fin 2)).val, hN⟩) a).trans ?_
    match a with
    | ⟨0, _⟩ => rfl
    | ⟨1, _⟩ => show 0 = (β (1 : Fin 2)).val; omega

/-- The array of results after the run. -/
theorem final : (dats m T0 T1 hR 0 c).arrAt (5 : Fin 6) (cfgA T0 T1 hR).N = refV m c T0 T1 := by
  refine (dats m T0 T1 hR 0 c).arrAt_eq_of_covers (5 : Fin 6) _ (covers5 T0 T1 hR) fun t _ y => ?_
  blk_simp
  rw [after0_5]
  have hy : y = ix2 (y 0) (y 1) := funext fun a => match a with
    | ⟨0, _⟩ => rfl
    | ⟨1, _⟩ => rfl
  have ht := t_lt T0 T1 hR t
  have hy0 : (y 0).val < 512 := (y 0).isLt
  have hy1 : (y 1).val < 1024 := (y 1).isLt
  refine (congrArg (outT m T0 T1 hR c t) hy).trans ((point m T0 T1 hR c t (y 0) (y 1) ⟨512 * t.val + (y 0).val, by omega⟩ rfl).trans (congrArg (refV m c T0 T1) ?_))
  have i0 : (pcfg0.win (adm T0 T1 hR) 5).index t (0 : Fin 2) = t.val := congrFun (ix_w5 T0 T1 hR t) (0 : Fin 2)
  have i1 : (pcfg0.win (adm T0 T1 hR) 5).index t (1 : Fin 2) = 0 := congrFun (ix_w5 T0 T1 hR t) (1 : Fin 2)
  blk_ext [i0, i1]

/-- The run, with the array of results named. -/
theorem run_value (ρ : Dev nD → PrngReg)
    (hR : InRange (F := Ideal) (m (((0 : Dev nD) : Thread nD τ).loc main_arg0)) (m (((0 : Dev nD) : Thread nD τ).loc main_arg1))) :
    θ_run defs (onTc (τ := τ) (main (F := Ideal))) ⟨m, fun _ => 0, ρ⟩ (fun r => ∀ c : Dev nD,
      r.2.mem ((c.tc : Thread nD τ).loc main_v6) = refV m c (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 (5 : Fin 6)).trans ((final m _ _ hR c).trans (by rw [Subsingleton.elim c 0])), args_kept m _ _ hR r h.1 c⟩) (run_tables m ρ hR)

end Cert.Kernel2Ideal.Exp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Fr
public import proofs.«01_k».proof.Proof.Final
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.XVal2
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

/-- The kernel's body, at machine words, is the idealized kernel's. -/
theorem body_same : @Cert.Kernel.defs₀ Bits _ _ = @Cert.KernelIdeal.defs₀ Bits _ _ := by
  show Defs.onTc _ = Defs.onTc _
  refine congrArg Defs.onTc (funext fun l => funext fun a => ?_)
  match l, a with
  | 0, (t, s) => rfl
/-- The kernel's frame: the idealized kernel's run, at machine words. -/
theorem frame_kernel : Cert.quiescent_Kernel := fun m ρ _ => by
  have h := Cert.KernelIdeal.Att.frame (F := Bits) m ρ
  have e : @Cert.Kernel.defs Bits _ _ = @Cert.KernelIdeal.defs Bits _ _ := congrArg (Pipeline.defs (Cert.KernelIdeal.pcfgs (F := Bits))) body_same
  rw [e]
  exact h
/-- The idealized kernel's frame. -/
theorem frame_kernelIdeal : Cert.quiescent_KernelIdeal := fun m ρ _ => Cert.KernelIdeal.Att.frame (F := Ideal) m ρ
/-- The reference's frame. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The idealized kernel and the reference end with the same array. -/
theorem algebraic : Cert.algebraic_KernelIdeal_ReferenceIdeal_pre_finite := by
  pair_intro
  · run_from Cert.KernelIdeal.Att.run_main m g
  · run_from Cert.ReferenceIdeal.Value.run m' g'
    rw [Cert.ReferenceIdeal.Read.val_main_v107_eq]
    simp only [hagree c]
    exact (Cert.KernelIdeal.Att.final m c (hpre c)).symm

/-- The second kernel's body, at machine words, is the idealized one's. -/
theorem body_same2 : @Cert.Kernel2.defs₀ Bits _ _ = @Cert.Kernel2Ideal.defs₀ Bits _ _ := by
  show Defs.onTc _ = Defs.onTc _
  refine congrArg Defs.onTc (funext fun l => funext fun a => ?_)
  match l, a with
  | 0, (t, s) => rfl
theorem defs_same2 : @Cert.Kernel2.defs Bits _ _ = @Cert.Kernel2Ideal.defs Bits _ _ := congrArg (Pipeline.defs (Cert.Kernel2Ideal.pcfgs (F := Bits))) body_same2
theorem main_same2 : @Cert.Kernel2.main Bits _ _ = @Cert.Kernel2Ideal.main Bits _ _ := rfl
/-- The tables of the second kernel, under its precondition. -/
theorem range2 (m : (ℓ : Loc Cert.Kernel2.nD Cert.Kernel2.τ Cert.Kernel2.sig) → Buf (Elt Bits) ℓ) (hpre : Cert.Pre_Kernel2 m) :
    Cert.Kernel2Ideal.Exp.InRange (F := Bits) (m (((0 : Dev Cert.Kernel2.nD).tc : Thread Cert.Kernel2.nD Cert.Kernel2.τ).loc Cert.Kernel2.main_arg0)) (m (((0 : Dev Cert.Kernel2.nD).tc : Thread Cert.Kernel2.nD Cert.Kernel2.τ).loc Cert.Kernel2.main_arg1)) :=
  Cert.Kernel2Ideal.Exp.inRange_of _ _ _ _ _ _ _ (hpre 0).1 (hpre 0).2
/-- The second kernel's frame: the idealized kernel's run, at machine words. -/
theorem frame_kernel2 : Cert.quiescent_Kernel2 := fun m ρ hpre => by
  have h := Cert.Kernel2Ideal.Exp.frame (F := Bits) m ρ (range2 m hpre)
  rw [defs_same2, main_same2]
  exact h
/-- The second idealized kernel's frame. -/
theorem frame_kernel2Ideal : Cert.quiescent_Kernel2Ideal := fun m ρ hpre =>
  Cert.Kernel2Ideal.Exp.frame (F := Ideal) m ρ (Cert.Kernel2Ideal.Exp.inRange_of _ _ _ _ _ _ _ (hpre 0).1 (hpre 0).2)
/-- The second reference's frame. -/
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The second idealized kernel and its reference end with the same array. -/
theorem algebraic2 : Cert.algebraic_Kernel2Ideal_Reference2Ideal := by
  pair_intro
  · run_from Cert.Kernel2Ideal.Exp.run_value m g (Cert.Kernel2Ideal.Exp.inRange_of _ _ _ _ _ _ _ (hpre 0).1 (hpre 0).2)
  · run_from Cert.Reference2Ideal.Value.run m' g'
    rw [Cert.Reference2Ideal.Read.val_main_v64_eq]
    simp only [hagree c]
    rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite.Gen.facts, Cert.Pre_routed.Gen.facts,
    frame_kernel, frame_kernelIdeal, fun m ρ _ => Cert.KernelIdeal.Att.frame (F := Ideal) m ρ, frame_referenceIdeal, fun m ρ _ => frame_referenceIdeal m ρ trivial,
    frame_kernel2, frame_kernel2Ideal, frame_reference2Ideal, fun m ρ _ => frame_reference2Ideal m ρ trivial,
    trivial, algebraic, trivial, algebraic2⟩

end Cert.Proof

end
